-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v64) = v1 c
          ∧ r.2.mem ((c.tc : Thread Cert.Reference4Ideal.nD Cert.Reference4Ideal.τ).loc Cert.Reference4Ideal.main_v65) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16384x4096 : Shape := ⟨2, ![16384, 4096]⟩
abbrev S1x4096 : Shape := ⟨2, ![1, 4096]⟩
abbrev S1x4096x2048 : Shape := ⟨3, ![1, 4096, 2048]⟩
abbrev S1x8x2x128x128 : Shape := ⟨5, ![1, 8, 2, 128, 128]⟩
abbrev S_ : Shape := ⟨0, ![]⟩

class Facts : Prop where
  bcast_S_S16384x4096 : S_.BroadcastsInDim S16384x4096 (![] : Fin 0 → Fin S16384x4096.rank)
  bcast_S_S1x4096 : S_.BroadcastsInDim S1x4096 (![] : Fin 0 → Fin S1x4096.rank)
  bcast_S_S1x4096x2048 : S_.BroadcastsInDim S1x4096x2048 (![] : Fin 0 → Fin S1x4096x2048.rank)
  bcast_S_S1x8x2x128x128 : S_.BroadcastsInDim S1x8x2x128x128 (![] : Fin 0 → Fin S1x8x2x128x128.rank)

variable [Facts]

def fn {F : FTy → Type} [FloatOps F] (main_arg0 : FVec F S16384x4096 .f32) (main_arg1 : FVec F S1x4096 .f32) (main_arg2 : FVec F S1x4096x2048 .f32) (main_arg3 : FVec F S1x8x2x128x128 .f32) : IVec S16384x4096 1 × IVec S1x4096 1 × IVec S1x4096x2048 1 × IVec S1x8x2x128x128 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_v3 : FVec F S1x4096 .f32 := Host.absf main_arg1
  let main_cst_0 : FVec F S_ .f32 := constant S_ .f32 0x7F800000#32
  let main_v4 : FVec F S1x4096 .f32 := broadcastInDim S1x4096 ![] bcast_S_S1x4096 main_cst_0
  let main_v5 : IVec S1x4096 1 := cmpf .olt main_v3 main_v4
  let main_v6 : FVec F S1x4096x2048 .f32 := Host.absf main_arg2
  let main_cst_1 : FVec F S_ .f32 := constant S_ .f32 0x7F800000#32
  let main_v7 : FVec F S1x4096x2048 .f32 := broadcastInDim S1x4096x2048 ![] bcast_S_S1x4096x2048 main_cst_1
  let main_v8 : IVec S1x4096x2048 1 := cmpf .olt main_v6 main_v7
  let main_v9 : FVec F S1x8x2x128x128 .f32 := Host.absf main_arg3
  let main_cst_2 : FVec F S_ .f32 := constant S_ .f32 0x7F800000#32
  let main_v10 : FVec F S1x8x2x128x128 .f32 := broadcastInDim S1x8x2x128x128 ![] bcast_S_S1x8x2x128x128 main_cst_2
  let main_v11 : IVec S1x8x2x128x128 1 := cmpf .olt main_v9 main_v10
  (main_v2, main_v5, main_v8, main_v11)
-- ==== Kernel.lean ====
abbrev S16384x4096 : Shape := ⟨2, ![16384, 4096]⟩
abbrev S1x4096 : Shape := ⟨2, ![1, 4096]⟩
abbrev S1x4096x2048 : Shape := ⟨3, ![1, 4096, 2048]⟩
abbrev S1x8x2x128x128 : Shape := ⟨5, ![1, 8, 2, 128, 128]⟩
abbrev S4096x2048 : Shape := ⟨2, ![4096, 2048]⟩
abbrev S8x2x128x128 : Shape := ⟨4, ![8, 2, 128, 128]⟩
abbrev S16x128x128 : Shape := ⟨3, ![16, 128, 128]⟩
abbrev S4096 : Shape := ⟨1, ![4096]⟩
abbrev S8x128x16384 : Shape := ⟨3, ![8, 128, 16384]⟩
abbrev S256x4096 : Shape := ⟨2, ![256, 4096]⟩
abbrev S8x128x256 : Shape := ⟨3, ![8, 128, 256]⟩
abbrev S16x256x128 : Shape := ⟨3, ![16, 256, 128]⟩
abbrev S128x256 : Shape := ⟨2, ![128, 256]⟩
abbrev S16x256 : Shape := ⟨2, ![16, 256]⟩
abbrev S1x256 : Shape := ⟨2, ![1, 256]⟩
abbrev S256 : Shape := ⟨1, ![256]⟩
abbrev S256x1 : Shape := ⟨2, ![256, 1]⟩
abbrev S256x2048 : Shape := ⟨2, ![256, 2048]⟩
abbrev S256x128 : Shape := ⟨2, ![256, 128]⟩
abbrev S1x256x128 : Shape := ⟨3, ![1, 256, 128]⟩
abbrev S16x1 : Shape := ⟨2, ![16, 1]⟩
abbrev S8x1 : Shape := ⟨2, ![8, 1]⟩
abbrev S136x1 : Shape := ⟨2, ![136, 1]⟩
abbrev S1x128x128 : Shape := ⟨3, ![1, 128, 128]⟩
abbrev S128x128 : Shape := ⟨2, ![128, 128]⟩
abbrev S8x256 : Shape := ⟨2, ![8, 256]⟩
abbrev S136x256 : Shape := ⟨2, ![136, 256]⟩
abbrev S1x1x256 : Shape := ⟨3, ![1, 1, 256]⟩
abbrev S1 : Shape := ⟨1, ![1]⟩
abbrev S1x1x1 : Shape := ⟨3, ![1, 1, 1]⟩
abbrev S1x128x256 : Shape := ⟨3, ![1, 128, 256]⟩

abbrev nBuf : Space → Nat
  | .hbm => 16
  | .vmem => 20
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x2048, .f32⟩
  | .hbm, ⟨3, _⟩ => ⟨S1x8x2x128x128, .f32⟩
  | .hbm, ⟨4, _⟩ => ⟨S4096x2048, .f32⟩
  | .hbm, ⟨5, _⟩ => ⟨S4096x2048, .bf16⟩
  | .hbm, ⟨6, _⟩ => ⟨S8x2x128x128, .f32⟩
  | .hbm, ⟨7, _⟩ => ⟨S16x128x128, .f32⟩
  | .hbm, ⟨8, _⟩ => ⟨S16x128x128, .bf16⟩
  | .hbm, ⟨9, _⟩ => ⟨S4096, .f32⟩
  | .hbm, ⟨10, _⟩ => ⟨S1x4096, .f32⟩
  | .hbm, ⟨11, _⟩ => ⟨S16384x4096, .bf16⟩
  | .hbm, ⟨12, _⟩ => ⟨S8x128x16384, .f32⟩
  | .hbm, ⟨13, _⟩ => ⟨S8x128x16384, .f32⟩
  | .hbm, ⟨14, _⟩ => ⟨S8x128x16384, .bf16⟩
  | .hbm, ⟨15, _⟩ => ⟨S8x128x16384, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x2048, .bf16⟩
  | .local _ .vmem, ⟨4, _⟩ => ⟨S16x128x128, .bf16⟩
  | .local _ .vmem, ⟨5, _⟩ => ⟨S256x4096, .bf16⟩
  | .local _ .vmem, ⟨6, _⟩ => ⟨S256x4096, .bf16⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .bf16⟩
  | .local _ .vmem, ⟨12, _⟩ => ⟨S8x128x256, .bf16⟩
  | .local _ .vmem, ⟨13, _⟩ => ⟨S8x128x256, .bf16⟩
  | .local _ .vmem, ⟨14, _⟩ => ⟨S8x128x256, .bf16⟩
  | .local _ .vmem, ⟨15, _⟩ => ⟨S16x256x128, .bf16⟩
  | .local _ .vmem, ⟨16, _⟩ => ⟨S128x256, .i32⟩
  | .local _ .vmem, ⟨17, _⟩ => ⟨S128x256, .i32⟩
  | .local _ .vmem, ⟨18, _⟩ => ⟨S16x256, .i32⟩
  | .local _ .vmem, ⟨19, _⟩ => ⟨S1x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v133 : BitVec 32 := Scalar.addi c0_i32 c8_i32
  let c1_i32 : BitVec 32 := 1#32
  ⟨c0_i32, v133, c1_i32⟩
def k0_off1 (k0_t1 : Fin k0_t1_loop.trips) : Fin 3 → Nat :=
  let c2_i32 : BitVec 32 := 2#32
  let c0_i32 : BitVec 32 := 0#32
  let c1_i32 : BitVec 32 := 1#32
  let arg15 : BitVec 32 := Scf.iv c0_i32 c1_i32 k0_t1
  let v134 : BitVec 32 := Scalar.muli c2_i32 arg15
  let v135 : Index := Scalar.indexCast v134
  let c0_44 : Index := 0#32
  let c0_45 : Index := 0#32
  ![v135.toNat, 0, 0]
def k0_off2 (k0_t1 : Fin k0_t1_loop.trips) : Fin 3 → Nat :=
  let c2_i32_46 : BitVec 32 := 2#32
  let c0_i32 : BitVec 32 := 0#32
  let c1_i32 : BitVec 32 := 1#32
  let arg15 : BitVec 32 := Scf.iv c0_i32 c1_i32 k0_t1
  let v138 : BitVec 32 := Scalar.muli c2_i32_46 arg15
  let v139 : Index := Scalar.indexCast v138
  let c0_47 : Index := 0#32
  let c0_48 : Index := 0#32
  ![v139.toNat, 0, 0]
def k0_off3 (k0_t1 : Fin k0_t1_loop.trips) : Fin 3 → Nat :=
  let c2_i32_50 : BitVec 32 := 2#32
  let c0_i32 : BitVec 32 := 0#32
  let c1_i32 : BitVec 32 := 1#32
  let arg15 : BitVec 32 := Scf.iv c0_i32 c1_i32 k0_t1
  let v143 : BitVec 32 := Scalar.muli c2_i32_50 arg15
  let c1_i32_51 : BitVec 32 := 1#32
  let v144 : BitVec 32 := Scalar.addi v143 c1_i32_51
  let v145 : Index := Scalar.indexCast v144
  let c0_52 : Index := 0#32
  let c0_53 : Index := 0#32
  ![v145.toNat, 0, 0]
def k0_off4 (k0_t1 : Fin k0_t1_loop.trips) : Fin 3 → Nat :=
  let c2_i32_54 : BitVec 32 := 2#32
  let c0_i32 : BitVec 32 := 0#32
  let c1_i32 : BitVec 32 := 1#32
  let arg15 : BitVec 32 := Scf.iv c0_i32 c1_i32 k0_t1
  let v148 : BitVec 32 := Scalar.muli c2_i32_54 arg15
  let c1_i32_55 : BitVec 32 := 1#32
  let v149 : BitVec 32 := Scalar.addi v148 c1_i32_55
  let v150 : Index := Scalar.indexCast v149
  let c0_56 : Index := 0#32
  let c0_57 : Index := 0#32
  ![v150.toNat, 0, 0]
def k0_off5 (k0_t1 : Fin k0_t1_loop.trips) : Fin 3 → Nat :=
  let c0_i32 : BitVec 32 := 0#32
  let c1_i32 : BitVec 32 := 1#32
  let arg15 : BitVec 32 := Scf.iv c0_i32 c1_i32 k0_t1
  let v832 : Index := Scalar.indexCast arg15
  let c0_233 : Index := 0#32
  let c0_234 : Index := 0#32
  ![v832.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x4096 : Shape := ⟨2, ![16384, 4096]⟩
abbrev S1x4096 : Shape := ⟨2, ![1, 4096]⟩
abbrev S1x4096x2048 : Shape := ⟨3, ![1, 4096, 2048]⟩
abbrev S1x8x2x128x128 : Shape := ⟨5, ![1, 8, 2, 128, 128]⟩
abbrev S4096 : Shape := ⟨1, ![4096]⟩
abbrev S_ : Shape := ⟨0, ![]⟩
abbrev S16384 : Shape := ⟨1, ![16384]⟩
abbrev S16384x1 : Shape := ⟨2, ![16384, 1]⟩
abbrev S4096x2048 : Shape := ⟨2, ![4096, 2048]⟩
abbrev S16384x2048 : Shape := ⟨2, ![16384, 2048]⟩
abbrev S16384x8x2x128 : Shape := ⟨4, ![16384, 8, 2, 128]⟩
abbrev S8x2x128x128 : Shape := ⟨4, ![8, 2, 128, 128]⟩
abbrev S8x2x128x16384 : Shape := ⟨4, ![8, 2, 128, 16384]⟩
abbrev S16384x8x1x128 : Shape := ⟨4, ![16384, 8, 1, 128]⟩
abbrev S16384x8x128 : Shape := ⟨3, ![16384, 8, 128]⟩
abbrev S16384x8x16 : Shape := ⟨3, ![16384, 8, 16]⟩
abbrev S16384x8x16x1 : Shape := ⟨4, ![16384, 8, 16, 1]⟩
abbrev S16384x8x1x16 : Shape := ⟨4, ![16384, 8, 1, 16]⟩
abbrev S16384x8x16x16 : Shape := ⟨4, ![16384, 8, 16, 16]⟩
abbrev S16384x8x256 : Shape := ⟨3, ![16384, 8, 256]⟩
abbrev S16384x8 : Shape := ⟨2, ![16384, 8]⟩
abbrev S16384x8x1 : Shape := ⟨3, ![16384, 8, 1]⟩
abbrev S128 : Shape := ⟨1, ![128]⟩
abbrev S16 : Shape := ⟨1, ![16]⟩
abbrev S1x1x1x16 : Shape := ⟨4, ![1, 1, 1, 16]⟩
abbrev S1x1x1x128 : Shape := ⟨4, ![1, 1, 1, 128]⟩
abbrev S16384x8x16x128 : Shape := ⟨4, ![16384, 8, 16, 128]⟩
abbrev S16x1 : Shape := ⟨2, ![16, 1]⟩
abbrev S8x128x16384 : Shape := ⟨3, ![8, 128, 16384]⟩

abbrev nBuf : Space → Nat
  | .hbm => 127
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x2048, .f32⟩
  | .hbm, ⟨3, _⟩ => ⟨S1x8x2x128x128, .f32⟩
  | .hbm, ⟨4, _⟩ => ⟨S4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S4096x2048, .f32⟩
  | .hbm, ⟨22, _⟩ => ⟨S16384x2048, .f32⟩
  | .hbm, ⟨23, _⟩ => ⟨S16384x8x2x128, .f32⟩
  | .hbm, ⟨24, _⟩ => ⟨S8x2x128x128, .f32⟩
  | .hbm, ⟨25, _⟩ => ⟨S8x2x128x16384, .f32⟩
  | .hbm, ⟨26, _⟩ => ⟨S16384x8x2x128, .f32⟩
  | .hbm, ⟨27, _⟩ => ⟨S16384x8x1x128, .f32⟩
  | .hbm, ⟨28, _⟩ => ⟨S16384x8x128, .f32⟩
  | .hbm, ⟨29, _⟩ => ⟨S16384x8x16, .f32⟩
  | .hbm, ⟨30, _⟩ => ⟨S16384x8x16, .i32⟩
  | .hbm, ⟨31, _⟩ => ⟨S16384x8x1x128, .f32⟩
  | .hbm, ⟨32, _⟩ => ⟨S16384x8x128, .f32⟩
  | .hbm, ⟨33, _⟩ => ⟨S16384x8x16, .f32⟩
  | .hbm, ⟨34, _⟩ => ⟨S16384x8x16, .i32⟩
  | .hbm, ⟨35, _⟩ => ⟨S16384x8x16x1, .f32⟩
  | .hbm, ⟨36, _⟩ => ⟨S16384x8x1x16, .f32⟩
  | .hbm, ⟨37, _⟩ => ⟨S16384x8x16x16, .f32⟩
  | .hbm, ⟨38, _⟩ => ⟨S16384x8x16x16, .f32⟩
  | .hbm, ⟨39, _⟩ => ⟨S16384x8x16x16, .f32⟩
  | .hbm, ⟨40, _⟩ => ⟨S16384x8x256, .f32⟩
  | .hbm, ⟨41, _⟩ => ⟨S16384x8x16, .f32⟩
  | .hbm, ⟨42, _⟩ => ⟨S16384x8x16, .i32⟩
  | .hbm, ⟨43, _⟩ => ⟨S_, .f32⟩
  | .hbm, ⟨44, _⟩ => ⟨S16384x8, .f32⟩
  | .hbm, ⟨45, _⟩ => ⟨S16384x8x1, .f32⟩
  | .hbm, ⟨46, _⟩ => ⟨S16384x8x16, .f32⟩
  | .hbm, ⟨47, _⟩ => ⟨S16384x8x16, .f32⟩
  | .hbm, ⟨48, _⟩ => ⟨S16384x8x16, .f32⟩
  | .hbm, ⟨49, _⟩ => ⟨S_, .f32⟩
  | .hbm, ⟨50, _⟩ => ⟨S16384x8, .f32⟩
  | .hbm, ⟨51, _⟩ => ⟨S16384x8x1, .f32⟩
  | .hbm, ⟨52, _⟩ => ⟨S128, .i32⟩
  | .hbm, ⟨53, _⟩ => ⟨S16, .i32⟩
  | .hbm, ⟨54, _⟩ => ⟨S_, .i32⟩
  | .hbm, ⟨55, _⟩ => ⟨S16384x8x16, .i32⟩
  | .hbm, ⟨56, _⟩ => ⟨S16384x8x16, .i32⟩
  | .hbm, ⟨57, _⟩ => ⟨S16384x8x16x1, .i32⟩
  | .hbm, ⟨58, _⟩ => ⟨S1x1x1x16, .i32⟩
  | .hbm, ⟨59, _⟩ => ⟨S16384x8x16x16, .i32⟩
  | .hbm, ⟨60, _⟩ => ⟨S16384x8x16x16, .i32⟩
  | .hbm, ⟨61, _⟩ => ⟨S16384x8x16x16, .i1⟩
  | .hbm, ⟨62, _⟩ => ⟨S16384x8x1x16, .i32⟩
  | .hbm, ⟨63, _⟩ => ⟨S_, .i32⟩
  | .hbm, ⟨64, _⟩ => ⟨S_, .i32⟩
  | .hbm, ⟨65, _⟩ => ⟨S16384x8x16x16, .i32⟩
  | .hbm, ⟨66, _⟩ => ⟨S16384x8x16x16, .i32⟩
  | .hbm, ⟨67, _⟩ => ⟨S16384x8x16x16, .i32⟩
  | .hbm, ⟨68, _⟩ => ⟨S_, .i32⟩
  | .hbm, ⟨69, _⟩ => ⟨S16384x8x16, .i32⟩
  | .hbm, ⟨70, _⟩ => ⟨S16384x8x16x1, .i32⟩
  | .hbm, ⟨71, _⟩ => ⟨S1x1x1x128, .i32⟩
  | .hbm, ⟨72, _⟩ => ⟨S16384x8x16x128, .i32⟩
  | .hbm, ⟨73, _⟩ => ⟨S16384x8x16x128, .i32⟩
  | .hbm, ⟨74, _⟩ => ⟨S16384x8x16x128, .i1⟩
  | .hbm, ⟨75, _⟩ => ⟨S_, .i32⟩
  | .hbm, ⟨76, _⟩ => ⟨S_, .i32⟩
  | .hbm, ⟨77, _⟩ => ⟨S16384x8x16x128, .i32⟩
  | .hbm, ⟨78, _⟩ => ⟨S16384x8x16x128, .i32⟩
  | .hbm, ⟨79, _⟩ => ⟨S16384x8x16x128, .i32⟩
  | .hbm, ⟨80, _⟩ => ⟨S16384x8x16x128, .i32⟩
  | .hbm, ⟨81, _⟩ => ⟨S_, .i32⟩
  | .hbm, ⟨82, _⟩ => ⟨S16384x8x128, .i32⟩
  | .hbm, ⟨83, _⟩ => ⟨S16384x8x16x1, .i32⟩
  | .hbm, ⟨84, _⟩ => ⟨S1x1x1x128, .i32⟩
  | .hbm, ⟨85, _⟩ => ⟨S16384x8x16x128, .i32⟩
  | .hbm, ⟨86, _⟩ => ⟨S16384x8x16x128, .i32⟩
  | .hbm, ⟨87, _⟩ => ⟨S16384x8x16x128, .i1⟩
  | .hbm, ⟨88, _⟩ => ⟨S16x1, .i32⟩
  | .hbm, ⟨89, _⟩ => ⟨S_, .i32⟩
  | .hbm, ⟨90, _⟩ => ⟨S_, .i32⟩
  | .hbm, ⟨91, _⟩ => ⟨S16384x8x16x128, .i32⟩
  | .hbm, ⟨92, _⟩ => ⟨S16384x8x16x128, .i32⟩
  | .hbm, ⟨93, _⟩ => ⟨S16384x8x16x128, .i32⟩
  | .hbm, ⟨94, _⟩ => ⟨S_, .i32⟩
  | .hbm, ⟨95, _⟩ => ⟨S16384x8x128, .i32⟩
  | .hbm, ⟨96, _⟩ => ⟨S16384x8x1x128, .f32⟩
  | .hbm, ⟨97, _⟩ => ⟨S16384x8x128, .f32⟩
  | .hbm, ⟨98, _⟩ => ⟨S16384x8x1x128, .f32⟩
  | .hbm, ⟨99, _⟩ => ⟨S16384x8x128, .f32⟩
  | .hbm, ⟨100, _⟩ => ⟨S_, .f32⟩
  | .hbm, ⟨101, _⟩ => ⟨S16384x8, .f32⟩
  | .hbm, ⟨102, _⟩ => ⟨S16384x8x1, .f32⟩
  | .hbm, ⟨103, _⟩ => ⟨S16384x8x128, .f32⟩
  | .hbm, ⟨104, _⟩ => ⟨S16384x8x128, .f32⟩
  | .hbm, ⟨105, _⟩ => ⟨S16384x8x128, .f32⟩
  | .hbm, ⟨106, _⟩ => ⟨S16384x8x128, .f32⟩
  | .hbm, ⟨107, _⟩ => ⟨S16384x8x128, .f32⟩
  | .hbm, ⟨108, _⟩ => ⟨S16384x8x1x128, .f32⟩
  | .hbm, ⟨109, _⟩ => ⟨S16384x8x128, .f32⟩
  | .hbm, ⟨110, _⟩ => ⟨S16384x8x1x128, .f32⟩
  | .hbm, ⟨111, _⟩ => ⟨S16384x8x128, .f32⟩
  | .hbm, ⟨112, _⟩ => ⟨S_, .f32⟩
  | .hbm, ⟨113, _⟩ => ⟨S16384x8, .f32⟩
  | .hbm, ⟨114, _⟩ => ⟨S16384x8x1, .f32⟩
  | .hbm, ⟨115, _⟩ => ⟨S16384x8x128, .f32⟩
  | .hbm, ⟨116, _⟩ => ⟨S16384x8x128, .f32⟩
  | .hbm, ⟨117, _⟩ => ⟨S16384x8x128, .f32⟩
  | .hbm, ⟨118, _⟩ => ⟨S16384x4096, .bf16⟩
  | .hbm, ⟨119, _⟩ => ⟨S8x128x16384, .f32⟩
  | .hbm, ⟨120, _⟩ => ⟨S16384x8x128, .f32⟩
  | .hbm, ⟨121, _⟩ => ⟨S8x128x16384, .f32⟩
  | .hbm, ⟨122, _⟩ => ⟨S8x128x16384, .f32⟩
  | .hbm, ⟨123, _⟩ => ⟨S8x128x16384, .bf16⟩
  | .hbm, ⟨124, _⟩ => ⟨S16384x8x128, .f32⟩
  | .hbm, ⟨125, _⟩ => ⟨S8x128x16384, .f32⟩
  | .hbm, ⟨126, _⟩ => ⟨S8x128x16384, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_values : Ref sig .tc := ⟨.hbm, 29, rfl⟩
abbrev main_indices : Ref sig .tc := ⟨.hbm, 30, rfl⟩
abbrev main_v22 : Ref sig .tc := ⟨.hbm, 31, rfl⟩
abbrev main_v23 : Ref sig .tc := ⟨.hbm, 32, rfl⟩
abbrev main_values_2 : Ref sig .tc := ⟨.hbm, 33, rfl⟩
abbrev main_indices_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_values_4 : Ref sig .tc := ⟨.hbm, 41, rfl⟩
abbrev main_indices_5 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_c_11 : Ref sig .tc := ⟨.hbm, 76, rfl⟩
abbrev main_call1_v0 : Ref sig .tc := ⟨.hbm, 77, rfl⟩
abbrev main_call1_v1 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_16 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]
-- ==== Kernel2.lean ====
abbrev S4x4096x4096 : Shape := ⟨3, ![4, 4096, 4096]⟩
abbrev S1x4096 : Shape := ⟨2, ![1, 4096]⟩
abbrev S1x4096x7168 : Shape := ⟨3, ![1, 4096, 7168]⟩
abbrev S16384x4096 : Shape := ⟨2, ![16384, 4096]⟩
abbrev S4096 : Shape := ⟨1, ![4096]⟩
abbrev S4096x7168 : Shape := ⟨2, ![4096, 7168]⟩
abbrev S16384x7168 : Shape := ⟨2, ![16384, 7168]⟩
abbrev S512x4096 : Shape := ⟨2, ![512, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S1x4096x7168, .f32⟩
  | .hbm, ⟨3, _⟩ => ⟨S16384x4096, .f32⟩
  | .hbm, ⟨4, _⟩ => ⟨S4096, .f32⟩
  | .hbm, ⟨5, _⟩ => ⟨S1x4096, .f32⟩
  | .hbm, ⟨6, _⟩ => ⟨S4096x7168, .f32⟩
  | .hbm, ⟨7, _⟩ => ⟨S4096x7168, .bf16⟩
  | .hbm, ⟨8, _⟩ => ⟨S16384x7168, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x4096 : Shape := ⟨3, ![4, 4096, 4096]⟩
abbrev S1x4096 : Shape := ⟨2, ![1, 4096]⟩
abbrev S1x4096x7168 : Shape := ⟨3, ![1, 4096, 7168]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4096x7168 : Shape := ⟨2, ![4096, 7168]⟩
abbrev S4x4096x7168 : Shape := ⟨3, ![4, 4096, 7168]⟩
abbrev S16384x7168 : Shape := ⟨2, ![16384, 7168]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S1x4096x7168, .f32⟩
  | .hbm, ⟨3, _⟩ => ⟨S4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S1x1x4096, .f32⟩
  | .hbm, ⟨18, _⟩ => ⟨S4x4096x4096, .f32⟩
  | .hbm, ⟨19, _⟩ => ⟨S4x4096x4096, .f32⟩
  | .hbm, ⟨20, _⟩ => ⟨S4096x7168, .f32⟩
  | .hbm, ⟨21, _⟩ => ⟨S4x4096x7168, .f32⟩
  | .hbm, ⟨22, _⟩ => ⟨S16384x7168, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S1x4096x4096 : Shape := ⟨3, ![1, 4096, 4096]⟩
abbrev S4x4096x4096 : Shape := ⟨3, ![4, 4096, 4096]⟩
abbrev S16384x4096 : Shape := ⟨2, ![16384, 4096]⟩
abbrev S4096x4096 : Shape := ⟨2, ![4096, 4096]⟩
abbrev S2048 : Shape := ⟨1, ![2048]⟩
abbrev S512x2048 : Shape := ⟨2, ![512, 2048]⟩
abbrev S4096x1024 : Shape := ⟨2, ![4096, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x2048, .f32⟩
  | .hbm, ⟨3, _⟩ => ⟨S1x2048, .f32⟩
  | .hbm, ⟨4, _⟩ => ⟨S1x4096x4096, .f32⟩
  | .hbm, ⟨5, _⟩ => ⟨S4x4096x4096, .f32⟩
  | .hbm, ⟨6, _⟩ => ⟨S16384x4096, .f32⟩
  | .hbm, ⟨7, _⟩ => ⟨S4096x4096, .f32⟩
  | .hbm, ⟨8, _⟩ => ⟨S4096x4096, .bf16⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S4096x1024, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x4096, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16384x2048 : Shape := ⟨2, ![16384, 2048]⟩
abbrev S1x2048 : Shape := ⟨2, ![1, 2048]⟩
abbrev S1x4096x4096 : Shape := ⟨3, ![1, 4096, 4096]⟩
abbrev S4x4096x4096 : Shape := ⟨3, ![4, 4096, 4096]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S4096x4096 : Shape := ⟨2, ![4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x2048, .f32⟩
  | .hbm, ⟨3, _⟩ => ⟨S1x2048, .f32⟩
  | .hbm, ⟨4, _⟩ => ⟨S1x4096x4096, .f32⟩
  | .hbm, ⟨5, _⟩ => ⟨S4x4096x4096, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x4096, .f32⟩
  | .hbm, ⟨41, _⟩ => ⟨S16384x4096, .f32⟩
  | .hbm, ⟨42, _⟩ => ⟨S4096x4096, .f32⟩
  | .hbm, ⟨43, _⟩ => ⟨S16384x4096, .f32⟩
  | .hbm, ⟨44, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S16384x7168 : Shape := ⟨2, ![16384, 7168]⟩
abbrev S4096x128 : Shape := ⟨2, ![4096, 128]⟩
abbrev S1x128 : Shape := ⟨2, ![1, 128]⟩
abbrev S128 : Shape := ⟨1, ![128]⟩
abbrev S_ : Shape := ⟨0, ![]⟩
abbrev S16384x2048 : Shape := ⟨2, ![16384, 2048]⟩
abbrev S16384x512 : Shape := ⟨2, ![16384, 512]⟩
abbrev S256x2560 : Shape := ⟨2, ![256, 2560]⟩
abbrev S256x512 : Shape := ⟨2, ![256, 512]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 47
  | .vmem => 16
  | .smem => 0
  | _ => 0

abbrev bufTy : (tb : Table) → Fin (tcTables nBuf tb) → BufTy
  | .hbm, ⟨0, _⟩ => ⟨S16384x7168, .f32⟩
  | .hbm, ⟨1, _⟩ => ⟨S4096x128, .f32⟩
  | .hbm, ⟨2, _⟩ => ⟨S4096x128, .f32⟩
  | .hbm, ⟨3, _⟩ => ⟨S1x128, .f32⟩
  | .hbm, ⟨4, _⟩ => ⟨S1x128, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S_, .i1⟩
  | .hbm, ⟨22, _⟩ => ⟨S128, .i1⟩
  | .hbm, ⟨23, _⟩ => ⟨S128, .i1⟩
  | .hbm, ⟨24, _⟩ => ⟨S128, .i1⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S4096x128, .f32⟩
  | .hbm, ⟨39, _⟩ => ⟨S4096x128, .f32⟩
  | .hbm, ⟨40, _⟩ => ⟨S128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S16384x2048, .bf16⟩
  | .hbm, ⟨45, _⟩ => ⟨S16384x512, .bf16⟩
  | .hbm, ⟨46, _⟩ => ⟨S16384x512, .bf16⟩
  | .local _ .vmem, ⟨0, _⟩ => ⟨S256x2560, .f32⟩
  | .local _ .vmem, ⟨1, _⟩ => ⟨S256x2560, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S256x2048, .bf16⟩
  | .local _ .vmem, ⟨11, _⟩ => ⟨S256x2048, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_cst_1 : Ref sig .tc := ⟨.hbm, 32, rfl⟩
abbrev main_call1_v0 : Ref sig .tc := ⟨.hbm, 33, rfl⟩
abbrev main_call1_v1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13_0 : Ref sig .tc := ⟨.hbm, 44, rfl⟩
abbrev main_v13_1 : Ref sig .tc := ⟨.hbm, 45, rfl⟩
abbrev main_v13_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x7168 : Shape := ⟨2, ![16384, 7168]⟩
abbrev S4096x128 : Shape := ⟨2, ![4096, 128]⟩
abbrev S1x128 : Shape := ⟨2, ![1, 128]⟩
abbrev S16384x2048 : Shape := ⟨2, ![16384, 2048]⟩
abbrev S4x4096x16x128 : Shape := ⟨4, ![4, 4096, 16, 128]⟩
abbrev S16384x512 : Shape := ⟨2, ![16384, 512]⟩
abbrev S4x4096x4x128 : Shape := ⟨4, ![4, 4096, 4, 128]⟩
abbrev S128 : Shape := ⟨1, ![128]⟩
abbrev S_ : Shape := ⟨0, ![]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S4x4096x16x32 : Shape := ⟨4, ![4, 4096, 16, 32]⟩
abbrev S1x4096x1x128 : Shape := ⟨4, ![1, 4096, 1, 128]⟩
abbrev S4x4096x4 : Shape := ⟨3, ![4, 4096, 4]⟩
abbrev S4x4096x4x1 : Shape := ⟨4, ![4, 4096, 4, 1]⟩
abbrev S4x4096x4x32 : Shape := ⟨4, ![4, 4096, 4, 32]⟩

abbrev nBuf : Space → Nat
  | .hbm => 77
  | .vmem => 0
  | .smem => 0
  | _ => 0

abbrev bufTy : (tb : Table) → Fin (tcTables nBuf tb) → BufTy
  | .hbm, ⟨0, _⟩ => ⟨S16384x7168, .f32⟩
  | .hbm, ⟨1, _⟩ => ⟨S4096x128, .f32⟩
  | .hbm, ⟨2, _⟩ => ⟨S4096x128, .f32⟩
  | .hbm, ⟨3, _⟩ => ⟨S1x128, .f32⟩
  | .hbm, ⟨4, _⟩ => ⟨S1x128, .f32⟩
  | .hbm, ⟨5, _⟩ => ⟨S16384x2048, .f32⟩
  | .hbm, ⟨6, _⟩ => ⟨S4x4096x16x128, .f32⟩
  | .hbm, ⟨7, _⟩ => ⟨S16384x512, .f32⟩
  | .hbm, ⟨8, _⟩ => ⟨S4x4096x4x128, .f32⟩
  | .hbm, ⟨9, _⟩ => ⟨S16384x512, .f32⟩
  | .hbm, ⟨10, _⟩ => ⟨S128, .f32⟩
  | .hbm, ⟨11, _⟩ => ⟨S4x4096x16x128, .f32⟩
  | .hbm, ⟨12, _⟩ => ⟨S_, .f32⟩
  | .hbm, ⟨13, _⟩ => ⟨S4x4096x16, .f32⟩
  | .hbm, ⟨14, _⟩ => ⟨S4x4096x16x1, .f32⟩
  | .hbm, ⟨15, _⟩ => ⟨S_, .f32⟩
  | .hbm, ⟨16, _⟩ => ⟨S4x4096x16x1, .f32⟩
  | .hbm, ⟨17, _⟩ => ⟨S4x4096x16x1, .f32⟩
  | .hbm, ⟨18, _⟩ => ⟨S_, .f32⟩
  | .hbm, ⟨19, _⟩ => ⟨S4x4096x16x1, .f32⟩
  | .hbm, ⟨20, _⟩ => ⟨S4x4096x16x1, .f32⟩
  | .hbm, ⟨21, _⟩ => ⟨S4x4096x16x1, .f32⟩
  | .hbm, ⟨22, _⟩ => ⟨S4x4096x16x128, .f32⟩
  | .hbm, ⟨23, _⟩ => ⟨S4x4096x16x128, .f32⟩
  | .hbm, ⟨24, _⟩ => ⟨S1x1x1x128, .f32⟩
  | .hbm, ⟨25, _⟩ => ⟨S4x4096x16x128, .f32⟩
  | .hbm, ⟨26, _⟩ => ⟨S4x4096x16x128, .f32⟩
  | .hbm, ⟨27, _⟩ => ⟨S4x4096x16x32, .f32⟩
  | .hbm, ⟨28, _⟩ => ⟨S4x4096x16x32, .f32⟩
  | .hbm, ⟨29, _⟩ => ⟨S4x4096x16x32, .f32⟩
  | .hbm, ⟨30, _⟩ => ⟨S4x4096x16x32, .f32⟩
  | .hbm, ⟨31, _⟩ => ⟨S4x4096x16x32, .f32⟩
  | .hbm, ⟨32, _⟩ => ⟨S4x4096x16x32, .f32⟩
  | .hbm, ⟨33, _⟩ => ⟨S4x4096x16x128, .f32⟩
  | .hbm, ⟨34, _⟩ => ⟨S1x4096x1x128, .f32⟩
  | .hbm, ⟨35, _⟩ => ⟨S1x4096x1x128, .f32⟩
  | .hbm, ⟨36, _⟩ => ⟨S4x4096x16x128, .f32⟩
  | .hbm, ⟨37, _⟩ => ⟨S4x4096x16x128, .f32⟩
  | .hbm, ⟨38, _⟩ => ⟨S4x4096x16x128, .f32⟩
  | .hbm, ⟨39, _⟩ => ⟨S4x4096x16x128, .f32⟩
  | .hbm, ⟨40, _⟩ => ⟨S4x4096x16x128, .f32⟩
  | .hbm, ⟨41, _⟩ => ⟨S128, .f32⟩
  | .hbm, ⟨42, _⟩ => ⟨S4x4096x4x128, .f32⟩
  | .hbm, ⟨43, _⟩ => ⟨S_, .f32⟩
  | .hbm, ⟨44, _⟩ => ⟨S4x4096x4, .f32⟩
  | .hbm, ⟨45, _⟩ => ⟨S4x4096x4x1, .f32⟩
  | .hbm, ⟨46, _⟩ => ⟨S_, .f32⟩
  | .hbm, ⟨47, _⟩ => ⟨S4x4096x4x1, .f32⟩
  | .hbm, ⟨48, _⟩ => ⟨S4x4096x4x1, .f32⟩
  | .hbm, ⟨49, _⟩ => ⟨S_, .f32⟩
  | .hbm, ⟨50, _⟩ => ⟨S4x4096x4x1, .f32⟩
  | .hbm, ⟨51, _⟩ => ⟨S4x4096x4x1, .f32⟩
  | .hbm, ⟨52, _⟩ => ⟨S4x4096x4x1, .f32⟩
  | .hbm, ⟨53, _⟩ => ⟨S4x4096x4x128, .f32⟩
  | .hbm, ⟨54, _⟩ => ⟨S4x4096x4x128, .f32⟩
  | .hbm, ⟨55, _⟩ => ⟨S1x1x1x128, .f32⟩
  | .hbm, ⟨56, _⟩ => ⟨S4x4096x4x128, .f32⟩
  | .hbm, ⟨57, _⟩ => ⟨S4x4096x4x128, .f32⟩
  | .hbm, ⟨58, _⟩ => ⟨S4x4096x4x32, .f32⟩
  | .hbm, ⟨59, _⟩ => ⟨S4x4096x4x32, .f32⟩
  | .hbm, ⟨60, _⟩ => ⟨S4x4096x4x32, .f32⟩
  | .hbm, ⟨61, _⟩ => ⟨S4x4096x4x32, .f32⟩
  | .hbm, ⟨62, _⟩ => ⟨S4x4096x4x32, .f32⟩
  | .hbm, ⟨63, _⟩ => ⟨S4x4096x4x32, .f32⟩
  | .hbm, ⟨64, _⟩ => ⟨S4x4096x4x128, .f32⟩
  | .hbm, ⟨65, _⟩ => ⟨S1x4096x1x128, .f32⟩
  | .hbm, ⟨66, _⟩ => ⟨S1x4096x1x128, .f32⟩
  | .hbm, ⟨67, _⟩ => ⟨S4x4096x4x128, .f32⟩
  | .hbm, ⟨68, _⟩ => ⟨S4x4096x4x128, .f32⟩
  | .hbm, ⟨69, _⟩ => ⟨S4x4096x4x128, .f32⟩
  | .hbm, ⟨70, _⟩ => ⟨S4x4096x4x128, .f32⟩
  | .hbm, ⟨71, _⟩ => ⟨S4x4096x4x128, .f32⟩
  | .hbm, ⟨72, _⟩ => ⟨S16384x2048, .f32⟩
  | .hbm, ⟨73, _⟩ => ⟨S16384x2048, .bf16⟩
  | .hbm, ⟨74, _⟩ => ⟨S16384x512, .f32⟩
  | .hbm, ⟨75, _⟩ => ⟨S16384x512, .bf16⟩
  | .hbm, ⟨76, _⟩ => ⟨S16384x512, .bf16⟩
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩

abbrev nD : Nat := 1
abbrev τ : Topo := Topo.v7x

variable {F : FTy → Type} [FloatOps F]
-- ==== Proof.Spec.lean ====
module

public import proofs.«01_k».proof.Proof.Gen.KernelIdeal.Skeleton
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! # The routing rounds as functions of the two score tables

One trip of the loop handles one head: two tables of 128 scores for 256 tokens. The functions
below name what the trip computes from them, round by round: the fast rounds that mark every
place holding the greatest score at once, the exact rounds that take one place at a time, the
136 candidate sums, the threshold count and the exact count by masks and population counts. -/

variable {F : FTy → Type} [FloatOps F]

/-- Row `k` of a table of sixteen rows. -/
def row16 {α : Type} (k : Fin 16) (x : S16x256.Idx → α) : S1x256.Idx → α :=
  extractStridedSlice S1x256 ![k.val, 0] x
    ⟨rfl, fun a => by have := k.isLt; fin_cases a <;> simp [Shape.size] <;> omega⟩

/-- Sixteen rows put under one another. -/
def stack16 {α : Type} (f : ℕ → S1x256.Idx → α) : S16x256.Idx → α :=
  concatenate S16x256 0 [⟨S1x256, f 0⟩, ⟨S1x256, f 1⟩, ⟨S1x256, f 2⟩, ⟨S1x256, f 3⟩, ⟨S1x256, f 4⟩, ⟨S1x256, f 5⟩, ⟨S1x256, f 6⟩, ⟨S1x256, f 7⟩, ⟨S1x256, f 8⟩, ⟨S1x256, f 9⟩, ⟨S1x256, f 10⟩, ⟨S1x256, f 11⟩, ⟨S1x256, f 12⟩, ⟨S1x256, f 13⟩, ⟨S1x256, f 14⟩, ⟨S1x256, f 15⟩]
    concatenates_S1x256_S1x256_S1x256_S1x256_S1x256_S1x256_S1x256_S1x256_S1x256_S1x256_S1x256_S1x256_S1x256_S1x256_S1x256_S1x256_S16x256_d0

/-- Sixteen rows and fifteen groups of eight put under one another. -/
def stack136 {α : Type} (f0 : S16x256.Idx → α) (f : ℕ → S8x256.Idx → α) : S136x256.Idx → α :=
  concatenate S136x256 0 [⟨S16x256, f0⟩, ⟨S8x256, f 1⟩, ⟨S8x256, f 2⟩, ⟨S8x256, f 3⟩, ⟨S8x256, f 4⟩, ⟨S8x256, f 5⟩, ⟨S8x256, f 6⟩, ⟨S8x256, f 7⟩, ⟨S8x256, f 8⟩, ⟨S8x256, f 9⟩, ⟨S8x256, f 10⟩, ⟨S8x256, f 11⟩, ⟨S8x256, f 12⟩, ⟨S8x256, f 13⟩, ⟨S8x256, f 14⟩, ⟨S8x256, f 15⟩]
    concatenates_S16x256_S8x256_S8x256_S8x256_S8x256_S8x256_S8x256_S8x256_S8x256_S8x256_S8x256_S8x256_S8x256_S8x256_S8x256_S8x256_S136x256_d0

/-- A row repeated for the 128 keys. -/
def bcK {α : Type} (y : S1x256.Idx → α) : S128x256.Idx → α :=
  broadcastTo S128x256 y broadcasts_S1x256_S128x256

/-- A row repeated for the 136 candidates. -/
def bcC {α : Type} (y : S1x256.Idx → α) : S136x256.Idx → α :=
  broadcastTo S136x256 y broadcasts_S1x256_S136x256

/-- A row repeated sixteen times. -/
def bcA {α : Type} (y : S1x256.Idx → α) : S16x256.Idx → α :=
  broadcastTo S16x256 y broadcasts_S1x256_S16x256

/-- The greatest of the 128 values of each token. -/
def rmxK (x : FVec F S128x256 .f32) : FVec F S256 .f32 :=
  multiReduction .maximumf [0] S256 x 0xFF800000#32 reduces_S128x256_S256 (.inl rfl) rfl

/-- The greatest of them as a row. -/
def mxK (x : FVec F S128x256 .f32) : FVec F S1x256 .f32 := shapeCast S1x256 (rmxK x) shapeCasts_S256_S1x256

/-- Where a key holds the greatest value. -/
def eqK (x : FVec F S128x256 .f32) : IVec S128x256 1 := cmpf .oeq x (bcK (mxK x))

/-- Minus infinity at every key. -/
def ninfK : FVec F S128x256 .f32 := broadcast S128x256 (Scalar.ofBits .f32 0xFF800000#32)

/-- The table with the marked keys put to minus infinity. -/
def cutK (sel : IVec S128x256 1) (x : FVec F S128x256 .f32) : FVec F S128x256 .f32 :=
  select sel ninfK x

/-- One round number at every key. -/
def numK (n : ℕ) : IVec S128x256 32 := broadcast S128x256 (BitVec.ofNat 32 n)

/-- The table left after `n` fast rounds. -/
def dcur (s : FVec F S128x256 .f32) : ℕ → FVec F S128x256 .f32
  | 0 => s
  | n + 1 => cutK (eqK (dcur s n)) (dcur s n)

/-- The ranks given in `n` fast rounds. -/
def drank (s : FVec F S128x256 .f32) : ℕ → IVec S128x256 32
  | 0 => numK 16
  | n + 1 => select (eqK (dcur s n)) (numK n) (drank s n)

/-- The sixteen values of the fast rounds. -/
def dvals (s : FVec F S128x256 .f32) : FVec F S16x256 .f32 := stack16 fun n => mxK (dcur s n)

/-- The key numbers. -/
def iotaK : IVec S128x256 32 := iota .tc S128x256 32 [0] iota_S128x256_d0_w32

/-- The smallest key number among the greatest values. -/
def ixK (x : FVec F S128x256 .f32) : IVec S1x256 32 :=
  shapeCast S1x256 (multiReductionI .minsi [0] S256 (select (eqK x) iotaK (broadcast S128x256 128#32))
    2147483647#32 reduces_S128x256_S256 rfl) shapeCasts_S256_S1x256

/-- The one key taken by an exact round. -/
def selK (x : FVec F S128x256 .f32) : IVec S128x256 1 := cmpi .eq iotaK (bcK (ixK x))

/-- The table left after `n` exact rounds. -/
def xcur (s : FVec F S128x256 .f32) : ℕ → FVec F S128x256 .f32
  | 0 => s
  | n + 1 => cutK (selK (xcur s n)) (xcur s n)

/-- The ranks given in `n` exact rounds. -/
def xrank (s : FVec F S128x256 .f32) : ℕ → IVec S128x256 32
  | 0 => numK 16
  | n + 1 => select (selK (xcur s n)) (numK n) (xrank s n)

/-- The sixteen values of the exact rounds. -/
def xvals (s : FVec F S128x256 .f32) : FVec F S16x256 .f32 := stack16 fun n => mxK (xcur s n)

/-- The sum of the two best values. -/
def topV (v1 v2 : FVec F S16x256 .f32) : FVec F S1x256 .f32 := addf (row16 0 v1) (row16 0 v2)

/-- The best first value with each of the sixteen second values. -/
def candA (v1 v2 : FVec F S16x256 .f32) : FVec F S16x256 .f32 := addf (bcA (row16 0 v1)) v2

/-- The first value of rank `a` with each of the eight best second values. -/
def candB (v1 v2 : FVec F S16x256 .f32) (a : ℕ) : FVec F S8x256 .f32 :=
  addf (broadcastTo S8x256 (row16 (Fin.ofNat 16 a) v1) broadcasts_S1x256_S8x256)
    (extractStridedSlice S8x256 ![0, 0] v2 slices_S16x256_o0_0_S8x256)

/-- The 136 candidate sums. -/
def candV (v1 v2 : FVec F S16x256 .f32) : FVec F S136x256 .f32 := stack136 (candA v1 v2) (candB v1 v2)

/-- The greatest candidate of each token. -/
def rmxC (x : FVec F S136x256 .f32) : FVec F S256 .f32 :=
  multiReduction .maximumf [0] S256 x 0xFF800000#32 reduces_S136x256_S256 (.inl rfl) rfl

/-- The greatest of them as a row. -/
def mxC (x : FVec F S136x256 .f32) : FVec F S1x256 .f32 := shapeCast S1x256 (rmxC x) shapeCasts_S256_S1x256

/-- Where a candidate is the greatest. -/
def eqC (x : FVec F S136x256 .f32) : IVec S136x256 1 := cmpf .oeq x (bcC (mxC x))

/-- The candidates with the marked ones put to minus infinity. -/
def cutC (sel : IVec S136x256 1) (x : FVec F S136x256 .f32) : FVec F S136x256 .f32 :=
  select sel (broadcast S136x256 (Scalar.ofBits .f32 0xFF800000#32)) x

/-- The candidates left after `n` fast rounds. -/
def ecur (c : FVec F S136x256 .f32) : ℕ → FVec F S136x256 .f32
  | 0 => c
  | n + 1 => cutC (eqC (ecur c n)) (ecur c n)

/-- The sum of exponentials gathered in `n` fast rounds. -/
def ez (c : FVec F S136x256 .f32) (top : FVec F S1x256 .f32) : ℕ → FVec F S1x256 .f32
  | 0 => broadcast S1x256 (Scalar.ofBits .f32 0x00000000#32)
  | n + 1 => addf (ez c top n) (exp (subf (mxC (ecur c n)) top))

/-- The candidates not below the sixteenth fast value. -/
def selc (c : FVec F S136x256 .f32) : IVec S136x256 1 := cmpf .oge c (bcC (mxC (ecur c 15)))

/-- How many of the first sixteen candidates are marked. -/
def cntA (sel : IVec S136x256 1) : IVec S1x256 32 :=
  shapeCast S1x256 (multiReductionI .add [0] S256 (extui 32 (extractStridedSlice S16x256 ![0, 0] sel
    slices_S136x256_o0_0_S16x256) natLt_1_32) 0#32 reduces_S16x256_S256 rfl) shapeCasts_S256_S1x256

/-- How many of the eight candidates from place `o` on are marked. -/
def cntB (o : ℕ) (h : S136x256.Slices ![o, 0] S8x256) (sel : IVec S136x256 1) : IVec S1x256 32 :=
  shapeCast S1x256 (multiReductionI .add [0] S256 (extui 32 (extractStridedSlice S8x256 ![o, 0] sel h)
    natLt_1_32) 0#32 reduces_S8x256_S256 rfl) shapeCasts_S256_S1x256

/-- The marked candidates counted by the rank of their first value. -/
def cntV (sel : IVec S136x256 1) : IVec S16x256 32 :=
  concatenate S16x256 0 [⟨S1x256, cntA sel⟩, ⟨S1x256, cntB 16 slices_S136x256_o16_0_S8x256 sel⟩, ⟨S1x256, cntB 24 slices_S136x256_o24_0_S8x256 sel⟩, ⟨S1x256, cntB 32 slices_S136x256_o32_0_S8x256 sel⟩, ⟨S1x256, cntB 40 slices_S136x256_o40_0_S8x256 sel⟩, ⟨S1x256, cntB 48 slices_S136x256_o48_0_S8x256 sel⟩, ⟨S1x256, cntB 56 slices_S136x256_o56_0_S8x256 sel⟩, ⟨S1x256, cntB 64 slices_S136x256_o64_0_S8x256 sel⟩, ⟨S1x256, cntB 72 slices_S136x256_o72_0_S8x256 sel⟩, ⟨S1x256, cntB 80 slices_S136x256_o80_0_S8x256 sel⟩, ⟨S1x256, cntB 88 slices_S136x256_o88_0_S8x256 sel⟩, ⟨S1x256, cntB 96 slices_S136x256_o96_0_S8x256 sel⟩, ⟨S1x256, cntB 104 slices_S136x256_o104_0_S8x256 sel⟩, ⟨S1x256, cntB 112 slices_S136x256_o112_0_S8x256 sel⟩, ⟨S1x256, cntB 120 slices_S136x256_o120_0_S8x256 sel⟩, ⟨S1x256, cntB 128 slices_S136x256_o128_0_S8x256 sel⟩]
    concatenates_S1x256_S1x256_S1x256_S1x256_S1x256_S1x256_S1x256_S1x256_S1x256_S1x256_S1x256_S1x256_S1x256_S1x256_S1x256_S1x256_S16x256_d0

/-- How many keys of each token got a rank. -/
def rankedV (r : IVec S128x256 32) : IVec S1x256 32 :=
  shapeCast S1x256 (multiReductionI .add [0] S256 (extui 32 (cmpi .slt r (numK 16)) natLt_1_32) 0#32
    reduces_S128x256_S256 rfl) shapeCasts_S256_S1x256

/-- Where a count is not sixteen. -/
def not16 (x : IVec S1x256 32) : IVec S1x256 1 := cmpi .ne x (broadcast S1x256 16#32)

/-- The tokens whose fast rounds met a tie. -/
def badV (r1 r2 : IVec S128x256 32) (cnt : IVec S16x256 32) : IVec S1x256 1 :=
  ori (ori (not16 (rankedV r1)) (not16 (rankedV r2)))
    (not16 (shapeCast S1x256 (multiReductionI .add [0] S256 cnt 0#32 reduces_S16x256_S256 rfl)
      shapeCasts_S256_S1x256))

/-- One bit: some token of the block met a tie. -/
def badS (b : IVec S1x256 1) : BitVec 1 :=
  Scalar.cmpi .ne (Scalar.extui (Scalar.cmpi .sgt (extractAt ![0, 0, 0]
    (shapeCast S1x1x1 (multiReductionI .maxsi [1, 2] S1
      (shapeCast S1x1x256 (extui 32 b natLt_1_32) shapeCasts_S1x256_S1x1x256)
      2147483648#32 reduces_S1x1x256_S1 rfl) shapeCasts_S1_S1x1x1) inpos_S1x1x1_p0_0_0) 0#32)) 0#32

/-- The place number of each candidate: sixteen times its first rank plus its second. -/
def posCol : IVec S136x1 32 :=
  concatenate S136x1 0 [⟨S16x1, iota .tc S16x1 32 [0] iota_S16x1_d0_w32⟩, ⟨S8x1, addi (broadcast S8x1 16#32) (iota .tc S8x1 32 [0] iota_S8x1_d0_w32)⟩, ⟨S8x1, addi (broadcast S8x1 32#32) (iota .tc S8x1 32 [0] iota_S8x1_d0_w32)⟩, ⟨S8x1, addi (broadcast S8x1 48#32) (iota .tc S8x1 32 [0] iota_S8x1_d0_w32)⟩, ⟨S8x1, addi (broadcast S8x1 64#32) (iota .tc S8x1 32 [0] iota_S8x1_d0_w32)⟩, ⟨S8x1, addi (broadcast S8x1 80#32) (iota .tc S8x1 32 [0] iota_S8x1_d0_w32)⟩, ⟨S8x1, addi (broadcast S8x1 96#32) (iota .tc S8x1 32 [0] iota_S8x1_d0_w32)⟩, ⟨S8x1, addi (broadcast S8x1 112#32) (iota .tc S8x1 32 [0] iota_S8x1_d0_w32)⟩, ⟨S8x1, addi (broadcast S8x1 128#32) (iota .tc S8x1 32 [0] iota_S8x1_d0_w32)⟩, ⟨S8x1, addi (broadcast S8x1 144#32) (iota .tc S8x1 32 [0] iota_S8x1_d0_w32)⟩, ⟨S8x1, addi (broadcast S8x1 160#32) (iota .tc S8x1 32 [0] iota_S8x1_d0_w32)⟩, ⟨S8x1, addi (broadcast S8x1 176#32) (iota .tc S8x1 32 [0] iota_S8x1_d0_w32)⟩, ⟨S8x1, addi (broadcast S8x1 192#32) (iota .tc S8x1 32 [0] iota_S8x1_d0_w32)⟩, ⟨S8x1, addi (broadcast S8x1 208#32) (iota .tc S8x1 32 [0] iota_S8x1_d0_w32)⟩, ⟨S8x1, addi (broadcast S8x1 224#32) (iota .tc S8x1 32 [0] iota_S8x1_d0_w32)⟩, ⟨S8x1, addi (broadcast S8x1 240#32) (iota .tc S8x1 32 [0] iota_S8x1_d0_w32)⟩]
    concatenates_S16x1_S8x1_S8x1_S8x1_S8x1_S8x1_S8x1_S8x1_S8x1_S8x1_S8x1_S8x1_S8x1_S8x1_S8x1_S8x1_S136x1_d0

/-- The place numbers for every token. -/
def posV : IVec S136x256 32 :=
  broadcastTo S136x256 (shapeCast S136x1 posCol shapeCasts_S136x1_S136x1) broadcasts_S136x1_S136x256

/-- The row numbers of the table of sixteen. -/
def iotaA : IVec S16x256 32 := iota .tc S16x256 32 [0] iota_S16x256_d0_w32

/-- The smallest place number among the greatest candidates, token by token. -/
def minC (x : FVec F S136x256 .f32) : IVec S256 32 :=
  multiReductionI .minsi [0] S256 (select (eqC x) posV (broadcast S136x256 256#32))
    2147483647#32 reduces_S136x256_S256 rfl

/-- That number as a row. -/
def ixC (x : FVec F S136x256 .f32) : IVec S1x256 32 := shapeCast S1x256 (minC x) shapeCasts_S256_S1x256

/-- The one candidate taken by an exact round. -/
def pselC (x : FVec F S136x256 .f32) : IVec S136x256 1 := cmpi .eq posV (bcC (ixC x))

/-- The candidates left after `n` exact rounds. -/
def ccur (c : FVec F S136x256 .f32) : ℕ → FVec F S136x256 .f32
  | 0 => c
  | n + 1 => cutC (pselC (ccur c n)) (ccur c n)

/-- The sum of exponentials gathered in `n` exact rounds. -/
def cz (c : FVec F S136x256 .f32) (top : FVec F S1x256 .f32) : ℕ → FVec F S1x256 .f32
  | 0 => broadcast S1x256 (Scalar.ofBits .f32 0x00000000#32)
  | n + 1 => addf (cz c top n) (exp (subf (mxC (ccur c n)) top))

/-- The row a place number belongs to. -/
def rowA (p : IVec S1x256 32) : IVec S16x256 1 :=
  cmpi .eq iotaA (bcA (shrsi p (broadcast S1x256 4#32)))

/-- The bit a place number stands for. -/
def bitA (p : IVec S1x256 32) : IVec S1x256 32 :=
  shli (broadcast S1x256 1#32) (andi p (broadcast S1x256 15#32))

/-- The masks of the places taken in `n` exact rounds, one mask for each first rank. -/
def cmask (c : FVec F S136x256 .f32) : ℕ → IVec S16x256 32
  | 0 => broadcast S16x256 0#32
  | n + 1 => select (rowA (ixC (ccur c n))) (ori (cmask c n) (bcA (bitA (ixC (ccur c n))))) (cmask c n)

/-- The places taken, counted by the population count of each mask. -/
def ccnt (c : FVec F S136x256 .f32) : IVec S16x256 32 := ctpop (cmask c 16)

/-- The candidates of the fast rounds. -/
def dcand (s1 s2 : FVec F S128x256 .f32) : FVec F S136x256 .f32 := candV (dvals s1) (dvals s2)

/-- The candidates of the exact rounds. -/
def xcand (s1 s2 : FVec F S128x256 .f32) : FVec F S136x256 .f32 := candV (xvals s1) (xvals s2)

/-- The greatest sum, from the fast rounds. -/
def dtop (s1 s2 : FVec F S128x256 .f32) : FVec F S1x256 .f32 := topV (dvals s1) (dvals s2)

/-- The scores of one head and one half: the 128 sub-keys against the 256 queries. -/
def scV (k : Vec F S1x128x128 .bf16) (q : Vec F S1x256x128 .bf16) : FVec F S128x256 .f32 :=
  matmul dot_S128x128_S256x128_S128x256_1_1_0_0_n_n none (shapeCast S128x128 k shapeCasts_S1x128x128_S128x128)
    (shapeCast S256x128 q shapeCasts_S1x256x128_S256x128) (constant S128x256 .f32 0x00000000#32)

/-- The counts handed to the keys of the first `n` ranks. -/
def c1V (r : IVec S128x256 32) (cnt : IVec S16x256 32) : ℕ → IVec S128x256 32
  | 0 => broadcast S128x256 0#32
  | n + 1 => select (cmpi .eq r (numK n))
      (bcK (shapeCast S1x256 (row16 (Fin.ofNat 16 n) cnt) shapeCasts_S1x256_S1x256)) (c1V r cnt n)

/-- The first table of weights a trip stores: exponentials over their sum. -/
def outE1 (s1 : FVec F S128x256 .f32) (z : FVec F S1x256 .f32) : FVec F S1x128x256 .f32 :=
  shapeCast S1x128x256 (exp (subf (subf s1 (bcK (row16 0 (dvals s1)))) (bcK (log z)))) shapeCasts_S128x256_S1x128x256

/-- The counts a trip stores. -/
def outC1 (r : IVec S128x256 32) (cnt : IVec S16x256 32) : FVec F S1x128x256 .f32 :=
  shapeCast S1x128x256 (sitofp .f32 (c1V r cnt 16)) shapeCasts_S128x256_S1x128x256

/-- The second table of weights a trip stores. -/
def outE2 (s2 : FVec F S128x256 .f32) : FVec F S1x128x256 .bf16 :=
  shapeCast S1x128x256 (truncf .bf16 (exp (subf s2 (bcK (row16 0 (dvals s2))))) bitsLt_bf16_f32) shapeCasts_S128x256_S1x128x256

/-- The second ranks a trip stores. -/
def outR2 (r : IVec S128x256 32) : FVec F S1x128x256 .bf16 :=
  shapeCast S1x128x256 (truncf .bf16 (sitofp .f32 r) bitsLt_bf16_f32) shapeCasts_S128x256_S1x128x256

/-- Whether the fast rounds of a head met a tie in some token of the block. -/
def tieS (s1 s2 : FVec F S128x256 .f32) : BitVec 1 :=
  badS (badV (drank s1 16) (drank s2 16) (cntV (selc (dcand s1 s2))))

/-- The first ranks a trip keeps. -/
def keepR1 (s1 s2 : FVec F S128x256 .f32) : IVec S128x256 32 :=
  if tieS s1 s2 = 1#1 then xrank s1 16 else drank s1 16

/-- The second ranks a trip keeps. -/
def keepR2 (s1 s2 : FVec F S128x256 .f32) : IVec S128x256 32 :=
  if tieS s1 s2 = 1#1 then xrank s2 16 else drank s2 16

/-- The counts a trip keeps. -/
def keepCnt (s1 s2 : FVec F S128x256 .f32) : IVec S16x256 32 :=
  if tieS s1 s2 = 1#1 then ccnt (xcand s1 s2) else cntV (selc (dcand s1 s2))

/-- The sum of exponentials a trip keeps. -/
def keepZ (s1 s2 : FVec F S128x256 .f32) : FVec F S1x256 .f32 :=
  if tieS s1 s2 = 1#1 then cz (xcand s1 s2) (dtop s1 s2) 16 else ez (dcand s1 s2) (dtop s1 s2) 16

end Cert.KernelIdeal.Hand

end

end
-- ==== Proof.Parts.lean ====
module

public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! # The pure parts of a trip, read as rounds

Each part of the trip's body that only computes gives the values the functions of `Spec` name. -/

variable {F : FTy → Type} [FloatOps F]
variable (i : grid0.Coords) (arg1 : Memref sig .tc .vmem S256x4096 .f32) (harg1 : arg1.IsWhole) (arg2 : Memref sig .tc .vmem S1x4096 .f32) (harg2 : arg2.IsWhole) (arg3 : Memref sig .tc .vmem S4096x2048 .bf16) (harg3 : arg3.IsWhole) (arg4 : Memref sig .tc .vmem S16x128x128 .bf16) (harg4 : arg4.IsWhole) (arg5 : Memref sig .tc .vmem S256x4096 .bf16) (harg5 : arg5.IsWhole) (arg6 : Memref sig .tc .vmem S8x128x256 .f32) (harg6 : arg6.IsWhole) (arg7 : Memref sig .tc .vmem S8x128x256 .f32) (harg7 : arg7.IsWhole) (arg8 : Memref sig .tc .vmem S8x128x256 .bf16) (harg8 : arg8.IsWhole) (arg9 : Memref sig .tc .vmem S8x128x256 .bf16) (harg9 : arg9.IsWhole) (arg10 : Memref sig .tc .vmem S16x256x128 .bf16) (harg10 : arg10.IsWhole) (arg11 : Memref sig .tc .vmem S128x256 .i32) (harg11 : arg11.IsWhole) (arg12 : Memref sig .tc .vmem S128x256 .i32) (harg12 : arg12.IsWhole) (arg13 : Memref sig .tc .vmem S16x256 .i32) (harg13 : arg13.IsWhole) (arg14 : Memref sig .tc .vmem S1x256 .f32) (harg14 : arg14.IsWhole)
variable (s1 s2 : FVec F S128x256 .f32) (r : IVec S128x256 32) (c : IVec S16x256 32)

theorem part1_eq : k0_part1 (F := F) i arg1 harg1 arg2 harg2 arg3 harg3 arg4 harg4 arg5 harg5 arg6 harg6 arg7 harg7 arg8 harg8 arg9 harg9 arg10 harg10 arg11 harg11 arg12 harg12 arg13 harg13 arg14 harg14 s1 =
    pure ⟨iotaK, mxK s1, mxK (xcur s1 1), mxK (xcur s1 2), xrank s1 3, xcur s1 3⟩ := rfl

theorem part2_eq : k0_part2 (F := F) i arg1 harg1 arg2 harg2 arg3 harg3 arg4 harg4 arg5 harg5 arg6 harg6 arg7 harg7 arg8 harg8 arg9 harg9 arg10 harg10 arg11 harg11 arg12 harg12 arg13 harg13 arg14 harg14 iotaK (xrank s1 3) (xcur s1 3) =
    pure ⟨mxK (xcur s1 3), mxK (xcur s1 4), mxK (xcur s1 5), xrank s1 6, xcur s1 6, mxK (xcur s1 6)⟩ := rfl

theorem part3_eq : k0_part3 (F := F) i arg1 harg1 arg2 harg2 arg3 harg3 arg4 harg4 arg5 harg5 arg6 harg6 arg7 harg7 arg8 harg8 arg9 harg9 arg10 harg10 arg11 harg11 arg12 harg12 arg13 harg13 arg14 harg14 iotaK (xrank s1 6) (xcur s1 6) (mxK (xcur s1 6)) =
    pure ⟨mxK (xcur s1 7), mxK (xcur s1 8), xrank s1 9, xcur s1 9, mxK (xcur s1 9), eqK (xcur s1 9), 128#32⟩ := rfl

theorem part4_eq : k0_part4 (F := F) i arg1 harg1 arg2 harg2 arg3 harg3 arg4 harg4 arg5 harg5 arg6 harg6 arg7 harg7 arg8 harg8 arg9 harg9 arg10 harg10 arg11 harg11 arg12 harg12 arg13 harg13 arg14 harg14 iotaK (xrank s1 9) (xcur s1 9) (eqK (xcur s1 9)) 128#32 =
    pure ⟨mxK (xcur s1 10), mxK (xcur s1 11), xrank s1 12, xcur s1 12, mxK (xcur s1 12), select (eqK (xcur s1 12)) iotaK (numK 128)⟩ := rfl

theorem part5_eq : k0_part5 (F := F) i arg1 harg1 arg2 harg2 arg3 harg3 arg4 harg4 arg5 harg5 arg6 harg6 arg7 harg7 arg8 harg8 arg9 harg9 arg10 harg10 arg11 harg11 arg12 harg12 arg13 harg13 arg14 harg14 iotaK (xrank s1 12) (xcur s1 12) (select (eqK (xcur s1 12)) iotaK (numK 128)) =
    pure ⟨mxK (xcur s1 13), mxK (xcur s1 14), xrank s1 15, mxK (xcur s1 15), bcK (ixK (xcur s1 15))⟩ := rfl

theorem part6_eq : k0_part6 (F := F) i arg1 harg1 arg2 harg2 arg3 harg3 arg4 harg4 arg5 harg5 arg6 harg6 arg7 harg7 arg8 harg8 arg9 harg9 arg10 harg10 arg11 harg11 arg12 harg12 arg13 harg13 arg14 harg14 s2 iotaK (mxK s1) (mxK (xcur s1 1)) (mxK (xcur s1 2)) (mxK (xcur s1 3)) (mxK (xcur s1 4)) (mxK (xcur s1 5)) (mxK (xcur s1 6)) (mxK (xcur s1 7)) (mxK (xcur s1 8)) (mxK (xcur s1 9)) (mxK (xcur s1 10)) (mxK (xcur s1 11)) (mxK (xcur s1 12)) (mxK (xcur s1 13)) (mxK (xcur s1 14)) (xrank s1 15) (mxK (xcur s1 15)) (bcK (ixK (xcur s1 15))) =
    pure ⟨xrank s1 16, xvals s1, iotaK, mxK s2, mxK (xcur s2 1), xrank s2 2, xcur s2 2, mxK (xcur s2 2), selK (xcur s2 2), 2#32⟩ := rfl

theorem part7_eq : k0_part7 (F := F) i arg1 harg1 arg2 harg2 arg3 harg3 arg4 harg4 arg5 harg5 arg6 harg6 arg7 harg7 arg8 harg8 arg9 harg9 arg10 harg10 arg11 harg11 arg12 harg12 arg13 harg13 arg14 harg14 iotaK (xrank s2 2) (xcur s2 2) (selK (xcur s2 2)) 2#32 =
    pure ⟨mxK (xcur s2 3), mxK (xcur s2 4), xcur s2 5, mxK (xcur s2 5), selK (xcur s2 5), xrank s2 6, Scalar.ofBits .f32 0xFF800000#32⟩ := rfl

theorem part8_eq : k0_part8 (F := F) i arg1 harg1 arg2 harg2 arg3 harg3 arg4 harg4 arg5 harg5 arg6 harg6 arg7 harg7 arg8 harg8 arg9 harg9 arg10 harg10 arg11 harg11 arg12 harg12 arg13 harg13 arg14 harg14 iotaK (xcur s2 5) (selK (xcur s2 5)) (xrank s2 6) (Scalar.ofBits .f32 0xFF800000#32) =
    pure ⟨mxK (xcur s2 6), mxK (xcur s2 7), mxK (xcur s2 8), xrank s2 9, xcur s2 9⟩ := rfl

theorem part9_eq : k0_part9 (F := F) i arg1 harg1 arg2 harg2 arg3 harg3 arg4 harg4 arg5 harg5 arg6 harg6 arg7 harg7 arg8 harg8 arg9 harg9 arg10 harg10 arg11 harg11 arg12 harg12 arg13 harg13 arg14 harg14 iotaK (xrank s2 9) (xcur s2 9) =
    pure ⟨mxK (xcur s2 9), mxK (xcur s2 10), mxK (xcur s2 11), xrank s2 12, xcur s2 12, mxK (xcur s2 12), bcK (mxK (xcur s2 12))⟩ := rfl

theorem part10_eq : k0_part10 (F := F) i arg1 harg1 arg2 harg2 arg3 harg3 arg4 harg4 arg5 harg5 arg6 harg6 arg7 harg7 arg8 harg8 arg9 harg9 arg10 harg10 arg11 harg11 arg12 harg12 arg13 harg13 arg14 harg14 iotaK (xrank s2 12) (xcur s2 12) (bcK (mxK (xcur s2 12))) =
    pure ⟨mxK (xcur s2 13), mxK (xcur s2 14), xrank s2 15, mxK (xcur s2 15), eqK (xcur s2 15), numK 128⟩ := rfl

theorem part11_eq : k0_part11 (F := F) i arg1 harg1 arg2 harg2 arg3 harg3 arg4 harg4 arg5 harg5 arg6 harg6 arg7 harg7 arg8 harg8 arg9 harg9 arg10 harg10 arg11 harg11 arg12 harg12 arg13 harg13 arg14 harg14 posCol (xvals s1) iotaK (mxK s2) (mxK (xcur s2 1)) (mxK (xcur s2 2)) (mxK (xcur s2 3)) (mxK (xcur s2 4)) (mxK (xcur s2 5)) (mxK (xcur s2 6)) (mxK (xcur s2 7)) (mxK (xcur s2 8)) (mxK (xcur s2 9)) (mxK (xcur s2 10)) (mxK (xcur s2 11)) (mxK (xcur s2 12)) (mxK (xcur s2 13)) (mxK (xcur s2 14)) (xrank s2 15) (mxK (xcur s2 15)) (eqK (xcur s2 15)) (numK 128) =
    pure ⟨xrank s2 16, xvals s2, posV, candA (xvals s1) (xvals s2), candB (xvals s1) (xvals s2) 1, candB (xvals s1) (xvals s2) 2, candB (xvals s1) (xvals s2) 3, candB (xvals s1) (xvals s2) 4, candB (xvals s1) (xvals s2) 5, candB (xvals s1) (xvals s2) 6, candB (xvals s1) (xvals s2) 7, candB (xvals s1) (xvals s2) 8, candB (xvals s1) (xvals s2) 9, candB (xvals s1) (xvals s2) 10, candB (xvals s1) (xvals s2) 11, row16 12 (xvals s1)⟩ := rfl

theorem part12_eq : k0_part12 (F := F) i arg1 harg1 arg2 harg2 arg3 harg3 arg4 harg4 arg5 harg5 arg6 harg6 arg7 harg7 arg8 harg8 arg9 harg9 arg10 harg10 arg11 harg11 arg12 harg12 arg13 harg13 arg14 harg14 iotaA (dtop s1 s2) (xvals s1) (xvals s2) posV (candA (xvals s1) (xvals s2)) (candB (xvals s1) (xvals s2) 1) (candB (xvals s1) (xvals s2) 2) (candB (xvals s1) (xvals s2) 3) (candB (xvals s1) (xvals s2) 4) (candB (xvals s1) (xvals s2) 5) (candB (xvals s1) (xvals s2) 6) (candB (xvals s1) (xvals s2) 7) (candB (xvals s1) (xvals s2) 8) (candB (xvals s1) (xvals s2) 9) (candB (xvals s1) (xvals s2) 10) (candB (xvals s1) (xvals s2) 11) (row16 12 (xvals s1)) =
    pure ⟨ccur (xcand s1 s2) 1, cz (xcand s1 s2) (dtop s1 s2) 1, cmask (xcand s1 s2) 1, mxC (ccur (xcand s1 s2) 1), eqC (ccur (xcand s1 s2) 1), broadcast S136x256 256#32⟩ := rfl

theorem part13_eq : k0_part13 (F := F) i arg1 harg1 arg2 harg2 arg3 harg3 arg4 harg4 arg5 harg5 arg6 harg6 arg7 harg7 arg8 harg8 arg9 harg9 arg10 harg10 arg11 harg11 arg12 harg12 arg13 harg13 arg14 harg14 iotaA (dtop s1 s2) posV (ccur (xcand s1 s2) 1) (cz (xcand s1 s2) (dtop s1 s2) 1) (cmask (xcand s1 s2) 1) (mxC (ccur (xcand s1 s2) 1)) (eqC (ccur (xcand s1 s2) 1)) (broadcast S136x256 256#32) =
    pure ⟨ccur (xcand s1 s2) 3, cz (xcand s1 s2) (dtop s1 s2) 3, cmask (xcand s1 s2) 3⟩ := rfl

theorem part14_eq : k0_part14 (F := F) i arg1 harg1 arg2 harg2 arg3 harg3 arg4 harg4 arg5 harg5 arg6 harg6 arg7 harg7 arg8 harg8 arg9 harg9 arg10 harg10 arg11 harg11 arg12 harg12 arg13 harg13 arg14 harg14 iotaA (dtop s1 s2) posV (ccur (xcand s1 s2) 3) (cz (xcand s1 s2) (dtop s1 s2) 3) (cmask (xcand s1 s2) 3) =
    pure ⟨cmask (xcand s1 s2) 4, ccur (xcand s1 s2) 5, cz (xcand s1 s2) (dtop s1 s2) 5, andi (ixC (ccur (xcand s1 s2) 4)) (broadcast S1x256 15#32), rowA (ixC (ccur (xcand s1 s2) 4)), 1#32⟩ := rfl

theorem part15_eq : k0_part15 (F := F) i arg1 harg1 arg2 harg2 arg3 harg3 arg4 harg4 arg5 harg5 arg6 harg6 arg7 harg7 arg8 harg8 arg9 harg9 arg10 harg10 arg11 harg11 arg12 harg12 arg13 harg13 arg14 harg14 iotaA (dtop s1 s2) posV (cmask (xcand s1 s2) 4) (ccur (xcand s1 s2) 5) (cz (xcand s1 s2) (dtop s1 s2) 5) (andi (ixC (ccur (xcand s1 s2) 4)) (broadcast S1x256 15#32)) (rowA (ixC (ccur (xcand s1 s2) 4))) 1#32 =
    pure ⟨cmask (xcand s1 s2) 6, ixC (ccur (xcand s1 s2) 6), ccur (xcand s1 s2) 7, cz (xcand s1 s2) (dtop s1 s2) 7, shrsi (ixC (ccur (xcand s1 s2) 6)) (broadcast S1x256 4#32)⟩ := rfl

theorem part16_eq : k0_part16 (F := F) i arg1 harg1 arg2 harg2 arg3 harg3 arg4 harg4 arg5 harg5 arg6 harg6 arg7 harg7 arg8 harg8 arg9 harg9 arg10 harg10 arg11 harg11 arg12 harg12 arg13 harg13 arg14 harg14 iotaA (dtop s1 s2) posV (cmask (xcand s1 s2) 6) (ixC (ccur (xcand s1 s2) 6)) (ccur (xcand s1 s2) 7) (cz (xcand s1 s2) (dtop s1 s2) 7) (shrsi (ixC (ccur (xcand s1 s2) 6)) (broadcast S1x256 4#32)) =
    pure ⟨cz (xcand s1 s2) (dtop s1 s2) 8, cmask (xcand s1 s2) 8, mxC (ccur (xcand s1 s2) 8), ixC (ccur (xcand s1 s2) 8), ccur (xcand s1 s2) 9⟩ := rfl

theorem part17_eq : k0_part17 (F := F) i arg1 harg1 arg2 harg2 arg3 harg3 arg4 harg4 arg5 harg5 arg6 harg6 arg7 harg7 arg8 harg8 arg9 harg9 arg10 harg10 arg11 harg11 arg12 harg12 arg13 harg13 arg14 harg14 iotaA (dtop s1 s2) posV (cz (xcand s1 s2) (dtop s1 s2) 8) (cmask (xcand s1 s2) 8) (mxC (ccur (xcand s1 s2) 8)) (ixC (ccur (xcand s1 s2) 8)) (ccur (xcand s1 s2) 9) =
    pure ⟨ccur (xcand s1 s2) 10, cz (xcand s1 s2) (dtop s1 s2) 10, cmask (xcand s1 s2) 10, mxC (ccur (xcand s1 s2) 10), minC (ccur (xcand s1 s2) 10)⟩ := rfl

theorem part18_eq : k0_part18 (F := F) i arg1 harg1 arg2 harg2 arg3 harg3 arg4 harg4 arg5 harg5 arg6 harg6 arg7 harg7 arg8 harg8 arg9 harg9 arg10 harg10 arg11 harg11 arg12 harg12 arg13 harg13 arg14 harg14 iotaA (dtop s1 s2) posV (ccur (xcand s1 s2) 10) (cz (xcand s1 s2) (dtop s1 s2) 10) (cmask (xcand s1 s2) 10) (mxC (ccur (xcand s1 s2) 10)) (minC (ccur (xcand s1 s2) 10)) =
    pure ⟨ccur (xcand s1 s2) 12, cz (xcand s1 s2) (dtop s1 s2) 12, cmask (xcand s1 s2) 12, mxC (ccur (xcand s1 s2) 12), bcC (mxC (ccur (xcand s1 s2) 12))⟩ := rfl

theorem part19_eq : k0_part19 (F := F) i arg1 harg1 arg2 harg2 arg3 harg3 arg4 harg4 arg5 harg5 arg6 harg6 arg7 harg7 arg8 harg8 arg9 harg9 arg10 harg10 arg11 harg11 arg12 harg12 arg13 harg13 arg14 harg14 iotaA (dtop s1 s2) posV (ccur (xcand s1 s2) 12) (cz (xcand s1 s2) (dtop s1 s2) 12) (cmask (xcand s1 s2) 12) (mxC (ccur (xcand s1 s2) 12)) (bcC (mxC (ccur (xcand s1 s2) 12))) =
    pure ⟨cmask (xcand s1 s2) 13, ccur (xcand s1 s2) 14, cz (xcand s1 s2) (dtop s1 s2) 14, rowA (ixC (ccur (xcand s1 s2) 13)), bcA (bitA (ixC (ccur (xcand s1 s2) 13)))⟩ := rfl

theorem part20_eq : k0_part20 (F := F) i arg1 harg1 arg2 harg2 arg3 harg3 arg4 harg4 arg5 harg5 arg6 harg6 arg7 harg7 arg8 harg8 arg9 harg9 arg10 harg10 arg11 harg11 arg12 harg12 arg13 harg13 arg14 harg14 iotaA (dtop s1 s2) posV (cmask (xcand s1 s2) 13) (ccur (xcand s1 s2) 14) (cz (xcand s1 s2) (dtop s1 s2) 14) (rowA (ixC (ccur (xcand s1 s2) 13))) (bcA (bitA (ixC (ccur (xcand s1 s2) 13)))) =
    pure ⟨cmask (xcand s1 s2) 15, cz (xcand s1 s2) (dtop s1 s2) 16, rowA (ixC (ccur (xcand s1 s2) 15)), bitA (ixC (ccur (xcand s1 s2) 15))⟩ := rfl

theorem part22_eq : k0_part22 (F := F) i arg1 harg1 arg2 harg2 arg3 harg3 arg4 harg4 arg5 harg5 arg6 harg6 arg7 harg7 arg8 harg8 arg9 harg9 arg10 harg10 arg11 harg11 arg12 harg12 arg13 harg13 arg14 harg14 (dcur s1 1) (eqK (dcur s1 1)) (drank s1 2) (ninfK (F := F)) =
    pure ⟨mxK (dcur s1 2), mxK (dcur s1 3), mxK (dcur s1 4), mxK (dcur s1 5), mxK (dcur s1 6), drank s1 7, dcur s1 7, mxK (dcur s1 7), bcK (mxK (dcur s1 7))⟩ := rfl

theorem part23_eq : k0_part23 (F := F) i arg1 harg1 arg2 harg2 arg3 harg3 arg4 harg4 arg5 harg5 arg6 harg6 arg7 harg7 arg8 harg8 arg9 harg9 arg10 harg10 arg11 harg11 arg12 harg12 arg13 harg13 arg14 harg14 (drank s1 7) (dcur s1 7) (bcK (mxK (dcur s1 7))) =
    pure ⟨mxK (dcur s1 8), mxK (dcur s1 9), mxK (dcur s1 10), mxK (dcur s1 11), dcur s1 12, mxK (dcur s1 12), eqK (dcur s1 12), drank s1 13, Scalar.ofBits .f32 0xFF800000#32⟩ := rfl

theorem part24_eq : k0_part24 (F := F) i arg1 harg1 arg2 harg2 arg3 harg3 arg4 harg4 arg5 harg5 arg6 harg6 arg7 harg7 arg8 harg8 arg9 harg9 arg10 harg10 arg11 harg11 arg12 harg12 arg13 harg13 arg14 harg14 s2 (mxK s1) (mxK (dcur s1 1)) (mxK (dcur s1 2)) (mxK (dcur s1 3)) (mxK (dcur s1 4)) (mxK (dcur s1 5)) (mxK (dcur s1 6)) (mxK (dcur s1 7)) (mxK (dcur s1 8)) (mxK (dcur s1 9)) (mxK (dcur s1 10)) (mxK (dcur s1 11)) (dcur s1 12) (mxK (dcur s1 12)) (eqK (dcur s1 12)) (drank s1 13) (Scalar.ofBits .f32 0xFF800000#32) =
    pure ⟨drank s1 16, dvals s1, mxK s2, mxK (dcur s2 1), drank s2 2, dcur s2 2, mxK (dcur s2 2)⟩ := rfl

theorem part25_eq : k0_part25 (F := F) i arg1 harg1 arg2 harg2 arg3 harg3 arg4 harg4 arg5 harg5 arg6 harg6 arg7 harg7 arg8 harg8 arg9 harg9 arg10 harg10 arg11 harg11 arg12 harg12 arg13 harg13 arg14 harg14 (drank s2 2) (dcur s2 2) (mxK (dcur s2 2)) =
    pure ⟨mxK (dcur s2 3), mxK (dcur s2 4), mxK (dcur s2 5), mxK (dcur s2 6), dcur s2 7, mxK (dcur s2 7), eqK (dcur s2 7), drank s2 8⟩ := rfl

theorem part26_eq : k0_part26 (F := F) i arg1 harg1 arg2 harg2 arg3 harg3 arg4 harg4 arg5 harg5 arg6 harg6 arg7 harg7 arg8 harg8 arg9 harg9 arg10 harg10 arg11 harg11 arg12 harg12 arg13 harg13 arg14 harg14 (dcur s2 7) (eqK (dcur s2 7)) (drank s2 8) =
    pure ⟨mxK (dcur s2 8), mxK (dcur s2 9), mxK (dcur s2 10), mxK (dcur s2 11), mxK (dcur s2 12), drank s2 13, dcur s2 13, rmxK (dcur s2 13)⟩ := rfl

theorem part27_eq : k0_part27 (F := F) i arg1 harg1 arg2 harg2 arg3 harg3 arg4 harg4 arg5 harg5 arg6 harg6 arg7 harg7 arg8 harg8 arg9 harg9 arg10 harg10 arg11 harg11 arg12 harg12 arg13 harg13 arg14 harg14 (dvals s1) (mxK s2) (mxK (dcur s2 1)) (mxK (dcur s2 2)) (mxK (dcur s2 3)) (mxK (dcur s2 4)) (mxK (dcur s2 5)) (mxK (dcur s2 6)) (mxK (dcur s2 7)) (mxK (dcur s2 8)) (mxK (dcur s2 9)) (mxK (dcur s2 10)) (mxK (dcur s2 11)) (mxK (dcur s2 12)) (drank s2 13) (dcur s2 13) (rmxK (dcur s2 13)) =
    pure ⟨drank s2 16, dvals s2, candA (dvals s1) (dvals s2), candB (dvals s1) (dvals s2) 1, candB (dvals s1) (dvals s2) 2, candB (dvals s1) (dvals s2) 3, candB (dvals s1) (dvals s2) 4, candB (dvals s1) (dvals s2) 5, candB (dvals s1) (dvals s2) 6, candB (dvals s1) (dvals s2) 7⟩ := rfl

theorem part28_eq : k0_part28 (F := F) i arg1 harg1 arg2 harg2 arg3 harg3 arg4 harg4 arg5 harg5 arg6 harg6 arg7 harg7 arg8 harg8 arg9 harg9 arg10 harg10 arg11 harg11 arg12 harg12 arg13 harg13 arg14 harg14 (dvals s1) (dvals s2) (candA (dvals s1) (dvals s2)) (candB (dvals s1) (dvals s2) 1) (candB (dvals s1) (dvals s2) 2) (candB (dvals s1) (dvals s2) 3) (candB (dvals s1) (dvals s2) 4) (candB (dvals s1) (dvals s2) 5) (candB (dvals s1) (dvals s2) 6) (candB (dvals s1) (dvals s2) 7) =
    pure ⟨dcand s1 s2, dtop s1 s2, ecur (dcand s1 s2) 2, ez (dcand s1 s2) (dtop s1 s2) 2⟩ := rfl

theorem part29_eq : k0_part29 (F := F) i arg1 harg1 arg2 harg2 arg3 harg3 arg4 harg4 arg5 harg5 arg6 harg6 arg7 harg7 arg8 harg8 arg9 harg9 arg10 harg10 arg11 harg11 arg12 harg12 arg13 harg13 arg14 harg14 (dtop s1 s2) (ecur (dcand s1 s2) 2) (ez (dcand s1 s2) (dtop s1 s2) 2) =
    pure ⟨ecur (dcand s1 s2) 7, ez (dcand s1 s2) (dtop s1 s2) 7, mxC (ecur (dcand s1 s2) 7), eqC (ecur (dcand s1 s2) 7)⟩ := rfl

theorem part30_eq : k0_part30 (F := F) i arg1 harg1 arg2 harg2 arg3 harg3 arg4 harg4 arg5 harg5 arg6 harg6 arg7 harg7 arg8 harg8 arg9 harg9 arg10 harg10 arg11 harg11 arg12 harg12 arg13 harg13 arg14 harg14 (dtop s1 s2) (ecur (dcand s1 s2) 7) (ez (dcand s1 s2) (dtop s1 s2) 7) (mxC (ecur (dcand s1 s2) 7)) (eqC (ecur (dcand s1 s2) 7)) =
    pure ⟨ez (dcand s1 s2) (dtop s1 s2) 12, ecur (dcand s1 s2) 13, exp (subf (mxC (ecur (dcand s1 s2) 12)) (dtop s1 s2))⟩ := rfl

theorem part31_eq : k0_part31 (F := F) i arg1 harg1 arg2 harg2 arg3 harg3 arg4 harg4 arg5 harg5 arg6 harg6 arg7 harg7 arg8 harg8 arg9 harg9 arg10 harg10 arg11 harg11 arg12 harg12 arg13 harg13 arg14 harg14 (dcand s1 s2) (dtop s1 s2) (ez (dcand s1 s2) (dtop s1 s2) 12) (ecur (dcand s1 s2) 13) (exp (subf (mxC (ecur (dcand s1 s2) 12)) (dtop s1 s2))) =
    pure ⟨ez (dcand s1 s2) (dtop s1 s2) 16, selc (dcand s1 s2), cntA (selc (dcand s1 s2)), cntB 16 slices_S136x256_o16_0_S8x256 (selc (dcand s1 s2)), cntB 24 slices_S136x256_o24_0_S8x256 (selc (dcand s1 s2)), cntB 32 slices_S136x256_o32_0_S8x256 (selc (dcand s1 s2)), cntB 40 slices_S136x256_o40_0_S8x256 (selc (dcand s1 s2)), multiReductionI .add [0] S256 (extui 32 (extractStridedSlice S8x256 ![48, 0] (selc (dcand s1 s2)) slices_S136x256_o48_0_S8x256) natLt_1_32) 0#32 reduces_S8x256_S256 rfl⟩ := rfl

theorem part32_eq : k0_part32 (F := F) i arg1 harg1 arg2 harg2 arg3 harg3 arg4 harg4 arg5 harg5 arg6 harg6 arg7 harg7 arg8 harg8 arg9 harg9 arg10 harg10 arg11 harg11 arg12 harg12 arg13 harg13 arg14 harg14 (drank s1 16) (selc (dcand s1 s2)) (cntA (selc (dcand s1 s2))) (cntB 16 slices_S136x256_o16_0_S8x256 (selc (dcand s1 s2))) (cntB 24 slices_S136x256_o24_0_S8x256 (selc (dcand s1 s2))) (cntB 32 slices_S136x256_o32_0_S8x256 (selc (dcand s1 s2))) (cntB 40 slices_S136x256_o40_0_S8x256 (selc (dcand s1 s2))) (multiReductionI .add [0] S256 (extui 32 (extractStridedSlice S8x256 ![48, 0] (selc (dcand s1 s2)) slices_S136x256_o48_0_S8x256) natLt_1_32) 0#32 reduces_S8x256_S256 rfl) =
    pure ⟨cntV (selc (dcand s1 s2)), rankedV (drank s1 16), 16#32⟩ := rfl

theorem part35_eq : k0_part35 (F := F) i arg1 harg1 arg2 harg2 arg3 harg3 arg4 harg4 arg5 harg5 arg6 harg6 arg7 harg7 arg8 harg8 arg9 harg9 arg10 harg10 arg11 harg11 arg12 harg12 arg13 harg13 arg14 harg14 s1 (dvals s1) r c (c1V r c 8) =
    pure ⟨c1V r c 16, subf s1 (bcK (row16 0 (dvals s1)))⟩ := rfl

end Cert.KernelIdeal.Hand

end

end
-- ==== Proof.Small.lean ====
module

public import proofs.«01_k».proof.Proof.Parts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # A trip of the loop as loads and stores of the functions of `Spec` -/

variable {F : FTy → Type} [FloatOps F]

local notation "𝕄" => MT nD τ sig Unit (Elt F) ℕ (UR sig nD τ) ℕ

variable (i : grid0.Coords) (arg1 : Memref sig .tc .vmem S256x4096 .f32) (harg1 : arg1.IsWhole) (arg2 : Memref sig .tc .vmem S1x4096 .f32) (harg2 : arg2.IsWhole) (arg3 : Memref sig .tc .vmem S4096x2048 .bf16) (harg3 : arg3.IsWhole) (arg4 : Memref sig .tc .vmem S16x128x128 .bf16) (harg4 : arg4.IsWhole) (arg5 : Memref sig .tc .vmem S256x4096 .bf16) (harg5 : arg5.IsWhole) (arg6 : Memref sig .tc .vmem S8x128x256 .f32) (harg6 : arg6.IsWhole) (arg7 : Memref sig .tc .vmem S8x128x256 .f32) (harg7 : arg7.IsWhole) (arg8 : Memref sig .tc .vmem S8x128x256 .bf16) (harg8 : arg8.IsWhole) (arg9 : Memref sig .tc .vmem S8x128x256 .bf16) (harg9 : arg9.IsWhole) (arg10 : Memref sig .tc .vmem S16x256x128 .bf16) (harg10 : arg10.IsWhole) (arg11 : Memref sig .tc .vmem S128x256 .i32) (harg11 : arg11.IsWhole) (arg12 : Memref sig .tc .vmem S128x256 .i32) (harg12 : arg12.IsWhole) (arg13 : Memref sig .tc .vmem S16x256 .i32) (harg13 : arg13.IsWhole) (arg14 : Memref sig .tc .vmem S1x256 .f32) (harg14 : arg14.IsWhole)
variable (s1 s2 : FVec F S128x256 .f32) (k0_t1 : Fin k0_t1_loop.trips)

/-- The opening of a trip: two sub-key tables and two query tables are read, and both scores formed. -/
theorem part21_eq : k0_part21 (F := F) i arg1 harg1 arg2 harg2 arg3 harg3 arg4 harg4 arg5 harg5 arg6 harg6 arg7 harg7 arg8 harg8 arg9 harg9 arg10 harg10 arg11 harg11 arg12 harg12 arg13 harg13 arg14 harg14 0#32 1#32 k0_t1 = (do
    let k1 : Vec F S1x128x128 .bf16 ← Prog.lift (.load arg4 (Rect.unit (s := S16x128x128) (k0_off1 k0_t1) S1x128x128.size (k0_off1_inb k0_t1)).toLoadRect (View.loadsAt_vmem h_S1x128x128))
    let q1 : Vec F S1x256x128 .bf16 ← Prog.lift (.load arg10 (Rect.unit (s := S16x256x128) (k0_off2 k0_t1) S1x256x128.size (k0_off2_inb k0_t1)).toLoadRect (View.loadsAt_vmem h_S1x256x128))
    let k2 : Vec F S1x128x128 .bf16 ← Prog.lift (.load arg4 (Rect.unit (s := S16x128x128) (k0_off3 k0_t1) S1x128x128.size (k0_off3_inb k0_t1)).toLoadRect (View.loadsAt_vmem h_S1x128x128))
    let q2 : Vec F S1x256x128 .bf16 ← Prog.lift (.load arg10 (Rect.unit (s := S16x256x128) (k0_off4 k0_t1) S1x256x128.size (k0_off4_inb k0_t1)).toLoadRect (View.loadsAt_vmem h_S1x256x128))
    pure ⟨Scf.iv 0#32 1#32 k0_t1, scV k1 q1, scV k2 q2, mxK (scV k1 q1), dcur (scV k1 q1) 1, mxK (dcur (scV k1 q1) 1),
      eqK (dcur (scV k1 q1) 1), drank (scV k1 q1) 2, ninfK (F := F)⟩) := rfl

/-- The counts handed to the first eight ranks. -/
theorem part34_eq (r : IVec S128x256 32) : k0_part34 (F := F) i arg1 harg1 arg2 harg2 arg3 harg3 arg4 harg4 arg5 harg5 arg6 harg6 arg7 harg7 arg8 harg8 arg9 harg9 arg10 harg10 arg11 harg11 arg12 harg12 arg13 harg13 arg14 harg14 r = (do
    let cn : Vec F S16x256 .i32 ← Prog.lift (.load arg13 (Rect.unit (s := S16x256) ![0, 0] S16x256.size inb_S16x256_S16x256_0_0).toLoadRect (View.loadsAt_vmem h_S16x256))
    pure ⟨cn, c1V r cn 8⟩) := rfl

/-- The fast results are stored; if a token met a tie the exact ones are stored over them. -/
def keepP : Prog (TpuEff nD τ sig (Elt F) Λ₀ .tc) (Vec F S128x256 .i32) := do
  let d1 : Vec F S128x256 .i32 ← Prog.lift (.load arg11 (Rect.unit (s := S128x256) ![0, 0] S128x256.size inb_S128x256_S128x256_0_0).toLoadRect (View.loadsAt_vmem h_S128x256))
  Prog.lift (.store arg11 (Rect.unit (s := S128x256) ![0, 0] S128x256.size inb_S128x256_S128x256_0_0) (shapeCast S128x256 (drank s1 16) shapeCasts_S128x256_S128x256) Finset.univ (View.stores_vmem_bits_univ h_S128x256 rfl) (.inl rfl))
  let d2 : Vec F S128x256 .i32 ← Prog.lift (.load arg12 (Rect.unit (s := S128x256) ![0, 0] S128x256.size inb_S128x256_S128x256_0_0).toLoadRect (View.loadsAt_vmem h_S128x256))
  Prog.lift (.store arg12 (Rect.unit (s := S128x256) ![0, 0] S128x256.size inb_S128x256_S128x256_0_0) (shapeCast S128x256 (drank s2 16) shapeCasts_S128x256_S128x256) Finset.univ (View.stores_vmem_bits_univ h_S128x256 rfl) (.inl rfl))
  let d3 : Vec F S16x256 .i32 ← Prog.lift (.load arg13 (Rect.unit (s := S16x256) ![0, 0] S16x256.size inb_S16x256_S16x256_0_0).toLoadRect (View.loadsAt_vmem h_S16x256))
  Prog.lift (.store arg13 (Rect.unit (s := S16x256) ![0, 0] S16x256.size inb_S16x256_S16x256_0_0) (shapeCast S16x256 (cntV (selc (dcand s1 s2))) shapeCasts_S16x256_S16x256) Finset.univ (View.stores_vmem_bits_univ h_S16x256 rfl) (.inl rfl))
  let d4 : Vec F S1x256 .f32 ← Prog.lift (.load arg14 (Rect.unit (s := S1x256) ![0, 0] S1x256.size inb_S1x256_S1x256_0_0).toLoadRect (View.loadsAt_vmem h_S1x256))
  Prog.lift (.store arg14 (Rect.unit (s := S1x256) ![0, 0] S1x256.size inb_S1x256_S1x256_0_0) (shapeCast S1x256 (ez (dcand s1 s2) (dtop s1 s2) 16) shapeCasts_S1x256_S1x256) Finset.univ (View.stores_vmem_bits_univ h_S1x256 rfl) (.inl rfl))
  if tieS s1 s2 = 1#1 then do
    let d1 : Vec F S128x256 .i32 ← Prog.lift (.load arg11 (Rect.unit (s := S128x256) ![0, 0] S128x256.size inb_S128x256_S128x256_0_0).toLoadRect (View.loadsAt_vmem h_S128x256))
    Prog.lift (.store arg11 (Rect.unit (s := S128x256) ![0, 0] S128x256.size inb_S128x256_S128x256_0_0) (shapeCast S128x256 (xrank s1 16) shapeCasts_S128x256_S128x256) Finset.univ (View.stores_vmem_bits_univ h_S128x256 rfl) (.inl rfl))
    let d2 : Vec F S128x256 .i32 ← Prog.lift (.load arg12 (Rect.unit (s := S128x256) ![0, 0] S128x256.size inb_S128x256_S128x256_0_0).toLoadRect (View.loadsAt_vmem h_S128x256))
    Prog.lift (.store arg12 (Rect.unit (s := S128x256) ![0, 0] S128x256.size inb_S128x256_S128x256_0_0) (shapeCast S128x256 (xrank s2 16) shapeCasts_S128x256_S128x256) Finset.univ (View.stores_vmem_bits_univ h_S128x256 rfl) (.inl rfl))
    let d3 : Vec F S16x256 .i32 ← Prog.lift (.load arg13 (Rect.unit (s := S16x256) ![0, 0] S16x256.size inb_S16x256_S16x256_0_0).toLoadRect (View.loadsAt_vmem h_S16x256))
    Prog.lift (.store arg13 (Rect.unit (s := S16x256) ![0, 0] S16x256.size inb_S16x256_S16x256_0_0) (shapeCast S16x256 (ccnt (xcand s1 s2)) shapeCasts_S16x256_S16x256) Finset.univ (View.stores_vmem_bits_univ h_S16x256 rfl) (.inl rfl))
    let d4 : Vec F S1x256 .f32 ← Prog.lift (.load arg14 (Rect.unit (s := S1x256) ![0, 0] S1x256.size inb_S1x256_S1x256_0_0).toLoadRect (View.loadsAt_vmem h_S1x256))
    Prog.lift (.store arg14 (Rect.unit (s := S1x256) ![0, 0] S1x256.size inb_S1x256_S1x256_0_0) (shapeCast S1x256 (cz (xcand s1 s2) (dtop s1 s2) 16) shapeCasts_S1x256_S1x256) Finset.univ (View.stores_vmem_bits_univ h_S1x256 rfl) (.inl rfl))
    pure ⟨⟩
  else do
    pure ⟨⟩
  let r : Vec F S128x256 .i32 ← Prog.lift (.load arg11 (Rect.unit (s := S128x256) ![0, 0] S128x256.size inb_S128x256_S128x256_0_0).toLoadRect (View.loadsAt_vmem h_S128x256))
  pure r

set_option maxRecDepth 100000 in
set_option maxHeartbeats 1000000 in
theorem part33_eq : k0_part33 (F := F) i arg1 harg1 arg2 harg2 arg3 harg3 arg4 harg4 arg5 harg5 arg6 harg6 arg7 harg7 arg8 harg8 arg9 harg9 arg10 harg10 arg11 harg11 arg12 harg12 arg13 harg13 arg14 harg14 posCol iotaA s1 s2 (drank s1 16) (drank s2 16) (dtop s1 s2) (ez (dcand s1 s2) (dtop s1 s2) 16) (cntV (selc (dcand s1 s2))) (rankedV (drank s1 16)) 16#32 = keepP arg11 arg12 arg13 arg14 s1 s2 := by
  unfold k0_part33 keepP
  simp only [part1_eq, part2_eq, part3_eq, part4_eq, part5_eq, part6_eq, part7_eq, part8_eq, part9_eq, part10_eq, part11_eq, part12_eq, part13_eq, part14_eq, part15_eq, part16_eq, part17_eq, part18_eq, part19_eq, part20_eq, pure_bind]
  rfl

/-- One trip of the loop, over the functions of `Spec`. -/
def tripP : Prog (TpuEff nD τ sig (Elt F) Λ₀ .tc) PUnit := do
  let k1 : Vec F S1x128x128 .bf16 ← Prog.lift (.load arg4 (Rect.unit (s := S16x128x128) (k0_off1 k0_t1) S1x128x128.size (k0_off1_inb k0_t1)).toLoadRect (View.loadsAt_vmem h_S1x128x128))
  let q1 : Vec F S1x256x128 .bf16 ← Prog.lift (.load arg10 (Rect.unit (s := S16x256x128) (k0_off2 k0_t1) S1x256x128.size (k0_off2_inb k0_t1)).toLoadRect (View.loadsAt_vmem h_S1x256x128))
  let k2 : Vec F S1x128x128 .bf16 ← Prog.lift (.load arg4 (Rect.unit (s := S16x128x128) (k0_off3 k0_t1) S1x128x128.size (k0_off3_inb k0_t1)).toLoadRect (View.loadsAt_vmem h_S1x128x128))
  let q2 : Vec F S1x256x128 .bf16 ← Prog.lift (.load arg10 (Rect.unit (s := S16x256x128) (k0_off4 k0_t1) S1x256x128.size (k0_off4_inb k0_t1)).toLoadRect (View.loadsAt_vmem h_S1x256x128))
  let s1 := scV k1 q1
  let s2 := scV k2 q2
  let r ← keepP arg11 arg12 arg13 arg14 s1 s2
  let cn : Vec F S16x256 .i32 ← Prog.lift (.load arg13 (Rect.unit (s := S16x256) ![0, 0] S16x256.size inb_S16x256_S16x256_0_0).toLoadRect (View.loadsAt_vmem h_S16x256))
  let z : Vec F S1x256 .f32 ← Prog.lift (.load arg14 (Rect.unit (s := S1x256) ![0, 0] S1x256.size inb_S1x256_S1x256_0_0).toLoadRect (View.loadsAt_vmem h_S1x256))
  let d6 : Vec F S1x128x256 .f32 ← Prog.lift (.load arg6 (Rect.unit (s := S8x128x256) (k0_off5 k0_t1) S1x128x256.size (k0_off5_inb k0_t1)).toLoadRect (View.loadsAt_vmem h_S1x128x256))
  Prog.lift (.store arg6 (Rect.unit (s := S8x128x256) (k0_off5 k0_t1) S1x128x256.size (k0_off5_inb k0_t1)) (outE1 s1 z) Finset.univ (View.stores_vmem_bits_univ h_S1x128x256 rfl) (.inl rfl))
  let d7 : Vec F S1x128x256 .f32 ← Prog.lift (.load arg7 (Rect.unit (s := S8x128x256) (k0_off5 k0_t1) S1x128x256.size (k0_off5_inb k0_t1)).toLoadRect (View.loadsAt_vmem h_S1x128x256))
  Prog.lift (.store arg7 (Rect.unit (s := S8x128x256) (k0_off5 k0_t1) S1x128x256.size (k0_off5_inb k0_t1)) (outC1 r cn) Finset.univ (View.stores_vmem_bits_univ h_S1x128x256 rfl) (.inl rfl))
  let d8 : Vec F S1x128x256 .bf16 ← Prog.lift (.load arg8 (Rect.unit (s := S8x128x256) (k0_off5 k0_t1) S1x128x256.size (k0_off5_inb k0_t1)).toLoadRect (View.loadsAt_vmem h_S1x128x256))
  Prog.lift (.store arg8 (Rect.unit (s := S8x128x256) (k0_off5 k0_t1) S1x128x256.size (k0_off5_inb k0_t1)) (outE2 s2) Finset.univ (View.stores_vmem h_S1x128x256 (harg8.storeExact_slice rfl _ (k0_off5_packedbf16 k0_t1)) (fun _ => rfl)) (.inl rfl))
  let r2 : Vec F S128x256 .i32 ← Prog.lift (.load arg12 (Rect.unit (s := S128x256) ![0, 0] S128x256.size inb_S128x256_S128x256_0_0).toLoadRect (View.loadsAt_vmem h_S128x256))
  let d9 : Vec F S1x128x256 .bf16 ← Prog.lift (.load arg9 (Rect.unit (s := S8x128x256) (k0_off5 k0_t1) S1x128x256.size (k0_off5_inb k0_t1)).toLoadRect (View.loadsAt_vmem h_S1x128x256))
  Prog.lift (.store arg9 (Rect.unit (s := S8x128x256) (k0_off5 k0_t1) S1x128x256.size (k0_off5_inb k0_t1)) (outR2 r2) Finset.univ (View.stores_vmem h_S1x128x256 (harg9.storeExact_slice rfl _ (k0_off5_packedbf16 k0_t1)) (fun _ => rfl)) (.inl rfl))
  pure ⟨⟩

set_option maxRecDepth 100000 in
set_option maxHeartbeats 1000000 in
/-- The printed trip is that program. -/
theorem part36_eq : k0_part36 (F := F) i arg1 harg1 arg2 harg2 arg3 harg3 arg4 harg4 arg5 harg5 arg6 harg6 arg7 harg7 arg8 harg8 arg9 harg9 arg10 harg10 arg11 harg11 arg12 harg12 arg13 harg13 arg14 harg14 posCol iotaA 0#32 1#32 k0_t1 = tripP arg4 arg6 arg7 arg8 harg8 arg9 harg9 arg10 arg11 arg12 arg13 arg14 k0_t1 := by
  unfold k0_part36
  simp only [part21_eq, part33_eq, part34_eq, part22_eq, part23_eq, part24_eq, part25_eq, part26_eq, part27_eq, part28_eq, part29_eq, part30_eq, part31_eq, part32_eq, part35_eq, pure_bind, bind_assoc]
  unfold tripP
  rfl

end Cert.KernelIdeal.Hand

end

end
-- ==== Proof.Trip.lean ====
module

public import proofs.«01_k».proof.Proof.Small
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.WholeRead
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # One trip of the loop: what it leaves -/

variable {F : FTy → Type} [FloatOps F]

local notation "𝕄" => MT nD τ sig Unit (Elt F) ℕ (UR sig nD τ) ℕ

variable (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S4096x2048 .bf16) (harg3 : arg3.IsWhole) (arg4 : Memref sig .tc .vmem S16x128x128 .bf16) (harg4 : arg4.IsWhole) (arg5 : Memref sig .tc .vmem S256x4096 .bf16) (harg5 : arg5.IsWhole) (arg6 : Memref sig .tc .vmem S8x128x256 .f32) (harg6 : arg6.IsWhole) (arg7 : Memref sig .tc .vmem S8x128x256 .f32) (harg7 : arg7.IsWhole) (arg8 : Memref sig .tc .vmem S8x128x256 .bf16) (harg8 : arg8.IsWhole) (arg9 : Memref sig .tc .vmem S8x128x256 .bf16) (harg9 : arg9.IsWhole) (arg10 : Memref sig .tc .vmem S16x256x128 .bf16) (harg10 : arg10.IsWhole) (arg11 : Memref sig .tc .vmem S128x256 .i32) (harg11 : arg11.IsWhole) (arg12 : Memref sig .tc .vmem S128x256 .i32) (harg12 : arg12.IsWhole) (arg13 : Memref sig .tc .vmem S16x256 .i32) (harg13 : arg13.IsWhole) (arg14 : Memref sig .tc .vmem S1x256 .f32) (harg14 : arg14.IsWhole)

theorem read_put {κ : Kind} {sp : Space} {s : Shape} {e : EltTy} (M : Memref sig κ sp s e) (f) {off : Fin s.rank → ℕ}
    (inb : ∀ a, off a + s.size a ≤ s.size a) (w : s.Idx → Elt F e) (hc : s.ShapeCasts s) (L : List (View.Piece (Elt F) s e)) :
    View.read (Elt F) M.view (M.view.writes (Elt F) f (⟨Rect.unit off s.size inb, shapeCast s w hc⟩ :: L)) = w :=
  (View.read_writes_full _ _ _ _ _).trans (shapeCast_self _ _)

theorem read_slab {κ : Kind} {sp : Space} {s : Shape} {e : EltTy} (M : Memref sig κ sp s e) (f) {off size : Fin s.rank → ℕ}
    (inb : ∀ a, off a + size a ≤ s.size a) (w : (Rect.unit (s := s) off size inb).shape.Idx → Elt F e) {g : s.Idx → Elt F e}
    (hf : View.read (Elt F) M.view f = g) :
    View.read (Elt F) M.view (M.view.writes (Elt F) f [⟨Rect.unit off size inb, w⟩]) = VecWindow.put g off size w := by
  rw [View.read_writes_cons_put M.view f inb w [] rfl]
  subst hf; rfl

theorem cov_put {κ : Kind} {sp : Space} {s : Shape} {e : EltTy} (M : Memref sig κ sp s e) {off : Fin s.rank → ℕ}
    (inb inb' : ∀ a, off a + s.size a ≤ s.size a) (w : s.Idx → Elt F e) (hc : s.ShapeCasts s) (L : List (View.Piece (Elt F) s e)) :
    M.view.readCov (⟨Rect.unit off s.size inb, shapeCast s w hc⟩ :: L) (Rect.unit off s.size inb').toLoadRect = w := by
  unfold View.readCov
  exact (View.readAt_writes_full _ _ _ _ _ _).trans (shapeCast_self _ _)

set_option maxHeartbeats 4000000 in
theorem keep_run (s1 s2 : FVec F S128x256 .f32) (E : Set ℕ) (K : Vec F S128x256 .i32 → sProp 𝕄) :
    iprop((∃ d, owns c arg11 fullShare d) ∗ (∃ d, owns c arg12 fullShare d) ∗ (∃ d, owns c arg13 fullShare d)
      ∗ (∃ d, owns c arg14 fullShare d)
      ∗ (iprop(owns c arg11 fullShare (keepR1 s1 s2 : S128x256.Idx → Elt F .i32) ∗ owns c arg12 fullShare (keepR2 s1 s2 : S128x256.Idx → Elt F .i32)
        ∗ owns c arg13 fullShare (keepCnt s1 s2 : S16x256.Idx → Elt F .i32) ∗ owns c arg14 fullShare (keepZ s1 s2 : S1x256.Idx → Elt F .f32)) -∗ K (keepR1 s1 s2)))
    ⊢ wp Idealize.ShloMosaic.frame (wpE (defs₀ (F := F)) Variants.none (c : Thread nD τ) none) E
        (keepP arg11 arg12 arg13 arg14 s1 s2) K := by
  unfold keepP keepR1 keepR2 keepCnt keepZ
  by_cases ht : tieS s1 s2 = 1#1
  all_goals
    simp only [ht, if_true, if_pos, if_neg, if_false, not_false_eq_true]
    unfold owns
    iintro ⟨⟨%d11, %f11, -, H11⟩, ⟨%d12, %f12, -, H12⟩, ⟨%d13, %f13, -, H13⟩, ⟨%d14, %f14, -, H14⟩, HK⟩
    sl_exec
    sl_step
    have hv : ∀ (x : IVec S128x256 32) (L : List (View.Piece (Elt F) S128x256 .i32)),
        arg11.view.readAt (Elt F) (Rect.unit (s := S128x256) ![0, 0] S128x256.size inb_S128x256_S128x256_0_0).toLoadRect
          (arg11.view.writes (Elt F) f11 (⟨Rect.unit (s := S128x256) ![0, 0] S128x256.size inb_S128x256_S128x256_0_0,
            (shapeCast S128x256 x shapeCasts_S128x256_S128x256 : S128x256.Idx → Elt F .i32)⟩ :: L)) = x :=
      fun x L => (View.readAt_writes_full _ _ _ _ _ _).trans (shapeCast_self _ _)
    first
      | rw [show keep_run.sl.v c arg11 s1 = xrank s1 16 from cov_put _ _ _ _ _ _]
      | rw [show keep_run.sl.v_1 c arg11 s1 = drank s1 16 from cov_put _ _ _ _ _ _]
    iapply HK
    isplitl [H11]
    · iexists _; isplitr; swap; · iexact H11
      ipureintro; exact read_put _ _ _ _ _ _
    isplitl [H12]
    · iexists _; isplitr; swap; · iexact H12
      ipureintro; exact read_put _ _ _ _ _ _
    isplitl [H13]
    · iexists _; isplitr; swap; · iexact H13
      ipureintro; exact read_put _ _ _ _ _ _
    · iexists _; isplitr; swap; · iexact H14
      ipureintro; exact read_put _ _ _ _ _ _

/-- The first sub-key table of head `k`. -/
def ldK1 (k : Fin k0_t1_loop.trips) (x : S16x128x128.Idx → Elt F .bf16) : Vec F S1x128x128 .bf16 := fun y =>
  x ((Rect.unit (s := S16x128x128) (k0_off1 k) S1x128x128.size (k0_off1_inb k)).toLoadRect.idx y)

/-- The second sub-key table of head `k`. -/
def ldK2 (k : Fin k0_t1_loop.trips) (x : S16x128x128.Idx → Elt F .bf16) : Vec F S1x128x128 .bf16 := fun y =>
  x ((Rect.unit (s := S16x128x128) (k0_off3 k) S1x128x128.size (k0_off3_inb k)).toLoadRect.idx y)

/-- The first queries of head `k`. -/
def ldQ1 (k : Fin k0_t1_loop.trips) (x : S16x256x128.Idx → Elt F .bf16) : Vec F S1x256x128 .bf16 := fun y =>
  x ((Rect.unit (s := S16x256x128) (k0_off2 k) S1x256x128.size (k0_off2_inb k)).toLoadRect.idx y)

/-- The second queries of head `k`. -/
def ldQ2 (k : Fin k0_t1_loop.trips) (x : S16x256x128.Idx → Elt F .bf16) : Vec F S1x256x128 .bf16 := fun y =>
  x ((Rect.unit (s := S16x256x128) (k0_off4 k) S1x256x128.size (k0_off4_inb k)).toLoadRect.idx y)

/-- The first scores of head `k`. -/
def sc1 (x4 : S16x128x128.Idx → Elt F .bf16) (x10 : S16x256x128.Idx → Elt F .bf16) (k : Fin k0_t1_loop.trips) :
    FVec F S128x256 .f32 := scV (ldK1 k x4) (ldQ1 k x10)

/-- The second scores of head `k`. -/
def sc2 (x4 : S16x128x128.Idx → Elt F .bf16) (x10 : S16x256x128.Idx → Elt F .bf16) (k : Fin k0_t1_loop.trips) :
    FVec F S128x256 .f32 := scV (ldK2 k x4) (ldQ2 k x10)

set_option maxHeartbeats 4000000 in
theorem trip_run (k0_t1 : Fin k0_t1_loop.trips)
    (x4 : S16x128x128.Idx → Elt F .bf16) (x10 : S16x256x128.Idx → Elt F .bf16)
    (g6 g7 : S8x128x256.Idx → Elt F .f32) (g8 g9 : S8x128x256.Idx → Elt F .bf16) (E : Set ℕ) (K : Unit → sProp 𝕄) :
    iprop(owns c arg4 fullShare x4 ∗ owns c arg10 fullShare x10
      ∗ (∃ d, owns c arg11 fullShare d) ∗ (∃ d, owns c arg12 fullShare d) ∗ (∃ d, owns c arg13 fullShare d)
      ∗ (∃ d, owns c arg14 fullShare d)
      ∗ owns c arg6 fullShare g6 ∗ owns c arg7 fullShare g7 ∗ owns c arg8 fullShare g8 ∗ owns c arg9 fullShare g9 ∗
      (iprop(owns c arg4 fullShare x4 ∗ owns c arg10 fullShare x10
        ∗ (∃ d, owns c arg11 fullShare d) ∗ (∃ d, owns c arg12 fullShare d) ∗ (∃ d, owns c arg13 fullShare d)
        ∗ (∃ d, owns c arg14 fullShare d)
        ∗ owns c arg6 fullShare (VecWindow.put g6 (k0_off5 k0_t1) S1x128x256.size (outE1 (sc1 x4 x10 k0_t1) (keepZ (sc1 x4 x10 k0_t1) (sc2 x4 x10 k0_t1))))
        ∗ owns c arg7 fullShare (VecWindow.put g7 (k0_off5 k0_t1) S1x128x256.size (outC1 (F := F) (keepR1 (sc1 x4 x10 k0_t1) (sc2 x4 x10 k0_t1)) (keepCnt (sc1 x4 x10 k0_t1) (sc2 x4 x10 k0_t1))))
        ∗ owns c arg8 fullShare (VecWindow.put g8 (k0_off5 k0_t1) S1x128x256.size (outE2 (sc2 x4 x10 k0_t1)))
        ∗ owns c arg9 fullShare (VecWindow.put g9 (k0_off5 k0_t1) S1x128x256.size (outR2 (F := F) (keepR2 (sc1 x4 x10 k0_t1) (sc2 x4 x10 k0_t1))))) -∗ K ⟨⟩))
    ⊢ wp Idealize.ShloMosaic.frame (wpE (defs₀ (F := F)) Variants.none (c : Thread nD τ) none) E
        (tripP arg4 arg6 arg7 arg8 harg8 arg9 harg9 arg10 arg11 arg12 arg13 arg14 k0_t1) K := by
  have hk := fun (s1 s2 : FVec F S128x256 .f32) (K : Vec F S128x256 .i32 → sProp 𝕄) => keep_run c arg11 arg12 arg13 arg14 s1 s2 E K
  unfold tripP
  generalize keepP (F := F) arg11 arg12 arg13 arg14 = kp at hk ⊢
  unfold owns at hk ⊢
  iintro ⟨⟨%f4, %hf4, H4⟩, ⟨%f10, %hf10, H10⟩, H11, H12, H13, H14, ⟨%f6, %hf6, H6⟩, ⟨%f7, %hf7, H7⟩, ⟨%f8, %hf8, H8⟩, ⟨%f9, %hf9, H9⟩, HK⟩
  sl_exec
  rw [wp_bind]
  iapply hk
  iframe
  iintro ⟨⟨%f11, %hf11, H11⟩, ⟨%f12, %hf12, H12⟩, ⟨%f13, %hf13, H13⟩, ⟨%f14, %hf14, H14⟩⟩
  sl_exec
  have e1 : trip_run.sl.s1 c arg4 arg10 k0_t1 f4 f10 = sc1 x4 x10 k0_t1 := by
    subst hf4 hf10; unfold trip_run.sl.s1 sc1; exact congrArg₂ scV rfl rfl
  have e2 : trip_run.sl.s2 c arg4 arg10 k0_t1 f4 f10 = sc2 x4 x10 k0_t1 := by
    subst hf4 hf10; unfold trip_run.sl.s2 sc2; exact congrArg₂ scV rfl rfl
  rw [e1, e2] at hf12 hf13 hf14 ⊢
  have e12 : View.readAt (Elt F) arg12.view (Rect.unit (s := S128x256) ![0, 0] S128x256.size inb_S128x256_S128x256_0_0).toLoadRect f12
      = keepR2 (sc1 x4 x10 k0_t1) (sc2 x4 x10 k0_t1) := (View.readAt_full _ _ _).trans hf12
  have e13 : View.readAt (Elt F) arg13.view (Rect.unit (s := S16x256) ![0, 0] S16x256.size inb_S16x256_S16x256_0_0).toLoadRect f13
      = keepCnt (sc1 x4 x10 k0_t1) (sc2 x4 x10 k0_t1) := (View.readAt_full _ _ _).trans hf13
  have e14 : View.readAt (Elt F) arg14.view (Rect.unit (s := S1x256) ![0, 0] S1x256.size inb_S1x256_S1x256_0_0).toLoadRect f14
      = keepZ (sc1 x4 x10 k0_t1) (sc2 x4 x10 k0_t1) := (View.readAt_full _ _ _).trans hf14
  rw [e12, e13, e14]
  sl_step
  iapply HK
  isplitl [H4]
  · iexists _; isplitr; swap; · iexact H4
    ipureintro; exact hf4
  isplitl [H10]
  · iexists _; isplitr; swap; · iexact H10
    ipureintro; exact hf10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H6]
  · iexists _; isplitr; swap; · iexact H6
    ipureintro; exact read_slab _ _ _ _ hf6
  isplitl [H7]
  · iexists _; isplitr; swap; · iexact H7
    ipureintro; exact read_slab _ _ _ _ hf7
  isplitl [H8]
  · iexists _; isplitr; swap; · iexact H8
    ipureintro; exact read_slab _ _ _ _ hf8
  · iexists _; isplitr; swap; · iexact H9
    ipureintro; exact read_slab _ _ _ _ hf9

end Cert.KernelIdeal.Hand

end

end
-- ==== Proof.Slab.lean ====
module

public import proofs.«01_k».proof.Proof.Spec
public import Idealize.ShloMosaic.Lib.VecWindow
public import Idealize.ShloMosaic.Lib.Pointwise
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Slabs: an array of three axes written one slab of the first axis at a time -/

variable {F : FTy → Type} [FloatOps F]

local notation "𝕄" => MT nD τ sig Unit (Elt F) ℕ (UR sig nD τ) ℕ

/-- The only slab index of a one-slab array. -/
def slab0 {n1 n2 : ℕ} (a : Fin n1) (b : Fin n2) : (⟨3, ![1, n1, n2]⟩ : Shape).Idx := ix3 0 a b

/-- Writing slab `k` extends agreement with `out` from the slabs below `k` to those below `k + 1`. -/
theorem put_step {n0 n1 n2 : ℕ} {α : Type} (g out : (⟨3, ![n0, n1, n2]⟩ : Shape).Idx → α) (k : ℕ)
    (off : Fin 3 → ℕ) (hoff : off = ![k, 0, 0]) (w : (⟨3, ![1, n1, n2]⟩ : Shape).Idx → α)
    (hw : ∀ (h : k < n0) a b, w (slab0 a b) = out (ix3 ⟨k, h⟩ a b))
    (hg : ∀ y, (y 0).val < k → g y = out y) (y : (⟨3, ![n0, n1, n2]⟩ : Shape).Idx) (hy : (y 0).val < k + 1) :
    VecWindow.put (s := ⟨3, ![n0, n1, n2]⟩) g off (⟨3, ![1, n1, n2]⟩ : Shape).size w y = out y := by
  subst hoff
  unfold VecWindow.put
  by_cases h0 : (y 0).val < k
  · rw [dif_neg, hg y h0]
    intro h; have := (h 0).1; simp at this; omega
  · have hk : (y 0).val = k := by omega
    have hin : ∀ a : Fin 3, (![k, 0, 0] : Fin 3 → ℕ) a ≤ (y a).val ∧ (y a).val < (![k, 0, 0] : Fin 3 → ℕ) a + (⟨3, ![1, n1, n2]⟩ : Shape).size a := by
      intro a
      match a with
      | ⟨0, _⟩ => constructor <;> simp <;> omega
      | ⟨1, _⟩ => exact ⟨by simp, by have := (y 1).isLt; simpa using this⟩
      | ⟨2, _⟩ => exact ⟨by simp, by have := (y 2).isLt; simpa using this⟩
    rw [dif_pos hin]
    have hkn : k < n0 := by rw [← hk]; exact (y 0).isLt
    have e := hw hkn (y 1) (y 2)
    have ey : y = ix3 ⟨k, hkn⟩ (y 1) (y 2) := by
      funext a
      match a with
      | ⟨0, _⟩ => exact Fin.ext hk
      | ⟨1, _⟩ => rfl
      | ⟨2, _⟩ => rfl
    refine Eq.trans (congrArg w ?_) (e.trans (congrArg out ey.symm))
    funext a
    match a with
    | ⟨0, _⟩ => exact Fin.ext (by show (y 0).val - k = 0; omega)
    | ⟨1, _⟩ => exact Fin.ext (Nat.sub_zero _)
    | ⟨2, _⟩ => exact Fin.ext (Nat.sub_zero _)

/-- Eight slabs as one array. -/
def fin8 {α : Type} (w : Fin 8 → S1x128x256.Idx → α) : S8x128x256.Idx → α := fun y => w (y 0) (slab0 (y 1) (y 2))

/-- The queries, one slab per half head. -/
def qS (v : FVec F S256x2048 .bf16) : S16x256x128.Idx → Elt F .bf16 := fun y =>
  v (ix2 (y 1) ⟨128 * (y 0).val + (y 2).val, by have h := (y 0).isLt; have h' := (y 2).isLt; simp at h h'; omega⟩)

/-- A slab of queries is what is stored for it. -/
theorem q_pay (v : FVec F S256x2048 .bf16) (n o : ℕ) (ho : o = 128 * n) (hs : S256x2048.Slices ![0, o] S256x128)
    (hc : S256x128.ShapeCasts S1x256x128) (h : n < 16) (a : Fin 256) (b : Fin 128) :
    shapeCast S1x256x128 (extractStridedSlice S256x128 ![0, o] v hs) hc (slab0 a b) = qS v (ix3 ⟨n, h⟩ a b) := by
  subst ho
  refine (shapeCast_addUnit_apply ![256, 128] _ hc (slab0 a b)).trans ?_
  unfold qS
  refine congrArg v (funext fun c => ?_)
  match c with
  | ⟨0, _⟩ => exact Fin.ext (Nat.zero_add _)
  | ⟨1, _⟩ => rfl

end Cert.KernelIdeal.Hand

end

end
-- ==== Proof.Loop.lean ====
module

public import proofs.«01_k».proof.Proof.Trip
public import proofs.«01_k».proof.Proof.Slab

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The loop over the heads: what it leaves -/

variable {F : FTy → Type} [FloatOps F]

local notation "𝕄" => MT nD τ sig Unit (Elt F) ℕ (UR sig nD τ) ℕ

variable (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S4096x2048 .bf16) (harg3 : arg3.IsWhole) (arg4 : Memref sig .tc .vmem S16x128x128 .bf16) (harg4 : arg4.IsWhole) (arg5 : Memref sig .tc .vmem S256x4096 .bf16) (harg5 : arg5.IsWhole) (arg6 : Memref sig .tc .vmem S8x128x256 .f32) (harg6 : arg6.IsWhole) (arg7 : Memref sig .tc .vmem S8x128x256 .f32) (harg7 : arg7.IsWhole) (arg8 : Memref sig .tc .vmem S8x128x256 .bf16) (harg8 : arg8.IsWhole) (arg9 : Memref sig .tc .vmem S8x128x256 .bf16) (harg9 : arg9.IsWhole) (arg10 : Memref sig .tc .vmem S16x256x128 .bf16) (harg10 : arg10.IsWhole) (arg11 : Memref sig .tc .vmem S128x256 .i32) (harg11 : arg11.IsWhole) (arg12 : Memref sig .tc .vmem S128x256 .i32) (harg12 : arg12.IsWhole) (arg13 : Memref sig .tc .vmem S16x256 .i32) (harg13 : arg13.IsWhole) (arg14 : Memref sig .tc .vmem S1x256 .f32) (harg14 : arg14.IsWhole)

/-- The trip of a head. -/
def trOf (h : Fin 8) : Fin k0_t1_loop.trips := Fin.cast (by decide +kernel) h

theorem trips_eq : k0_t1_loop.trips = 8 := by decide +kernel

/-- First weights of all heads. -/
def finE1 (x4 : S16x128x128.Idx → Elt F .bf16) (x10 : S16x256x128.Idx → Elt F .bf16) : S8x128x256.Idx → Elt F .f32 :=
  fin8 fun h => outE1 (sc1 x4 x10 (trOf h)) (keepZ (sc1 x4 x10 (trOf h)) (sc2 x4 x10 (trOf h)))

/-- Counts of all heads. -/
def finC1 (x4 : S16x128x128.Idx → Elt F .bf16) (x10 : S16x256x128.Idx → Elt F .bf16) : S8x128x256.Idx → Elt F .f32 :=
  fin8 fun h => outC1 (F := F) (keepR1 (sc1 x4 x10 (trOf h)) (sc2 x4 x10 (trOf h))) (keepCnt (sc1 x4 x10 (trOf h)) (sc2 x4 x10 (trOf h)))

/-- Second weights of all heads. -/
def finE2 (x4 : S16x128x128.Idx → Elt F .bf16) (x10 : S16x256x128.Idx → Elt F .bf16) : S8x128x256.Idx → Elt F .bf16 :=
  fin8 fun h => outE2 (sc2 x4 x10 (trOf h))

/-- Second places of all heads. -/
def finR2 (x4 : S16x128x128.Idx → Elt F .bf16) (x10 : S16x256x128.Idx → Elt F .bf16) : S8x128x256.Idx → Elt F .bf16 :=
  fin8 fun h => outR2 (F := F) (keepR2 (sc1 x4 x10 (trOf h)) (sc2 x4 x10 (trOf h)))

/-- What holds before trip `k`: the tables and the queries as they were, the slabs of the heads before `k` written. -/
def loopAt (x4 : S16x128x128.Idx → Elt F .bf16) (x10 : S16x256x128.Idx → Elt F .bf16) (k : ℕ) : sProp 𝕄 :=
  iprop(owns c arg4 fullShare x4 ∗ owns c arg10 fullShare x10
      ∗ (∃ d, owns c arg11 fullShare d) ∗ (∃ d, owns c arg12 fullShare d) ∗ (∃ d, owns c arg13 fullShare d)
      ∗ (∃ d, owns c arg14 fullShare d)
      ∗ (∃ g, ⌜∀ y, (y 0).val < k → g y = finE1 x4 x10 y⌝ ∗ owns c arg6 fullShare g)
      ∗ (∃ g, ⌜∀ y, (y 0).val < k → g y = finC1 x4 x10 y⌝ ∗ owns c arg7 fullShare g)
      ∗ (∃ g, ⌜∀ y, (y 0).val < k → g y = finE2 x4 x10 y⌝ ∗ owns c arg8 fullShare g)
      ∗ (∃ g, ⌜∀ y, (y 0).val < k → g y = finR2 x4 x10 y⌝ ∗ owns c arg9 fullShare g))

theorem off5_at (k : Fin k0_t1_loop.trips) : k0_off5 k = ![k.val, 0, 0] := k0_off5_eq k

theorem loop_step (x4 : S16x128x128.Idx → Elt F .bf16) (x10 : S16x256x128.Idx → Elt F .bf16) (E : Set ℕ)
    (k : Fin k0_t1_loop.trips) (acc : Unit) :
    loopAt c arg4 arg6 arg7 arg8 arg9 arg10 arg11 arg12 arg13 arg14 x4 x10 k.val
    ⊢ wp Idealize.ShloMosaic.frame (wpE (defs₀ (F := F)) Variants.none (c : Thread nD τ) none) E
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 (iota .tc S16x1 32 [0] iota_S16x1_d0_w32) k0_pay403 k0_pay404 k0_pay405 k0_pay406 (iota .tc S16x256 32 [0] iota_S16x256_d0_w32) k acc)
        (fun _ => loopAt c arg4 arg6 arg7 arg8 arg9 arg10 arg11 arg12 arg13 arg14 x4 x10 (k.val + 1)) := by
  rw [show k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 (iota .tc S16x1 32 [0] iota_S16x1_d0_w32) k0_pay403 k0_pay404 k0_pay405 k0_pay406 (iota .tc S16x256 32 [0] iota_S16x256_d0_w32) k acc
    = (k0_part36 (F := F) i arg1 harg1 arg2 harg2 arg3 harg3 arg4 harg4 arg5 harg5 arg6 harg6 arg7 harg7 arg8 harg8 arg9 harg9 arg10 harg10 arg11 harg11 arg12 harg12 arg13 harg13 arg14 harg14 posCol iotaA 0#32 1#32 k >>= fun _ => pure ⟨⟩) from rfl, part36_eq]
  rw [show (tripP arg4 arg6 arg7 arg8 harg8 arg9 harg9 arg10 arg11 arg12 arg13 arg14 k >>= fun _ => pure (⟨⟩ : Unit)) = (tripP (F := F) arg4 arg6 arg7 arg8 harg8 arg9 harg9 arg10 arg11 arg12 arg13 arg14 k) from bind_pure _]
  unfold loopAt
  iintro ⟨H4, H10, H11, H12, H13, H14, ⟨%g6, %h6, H6⟩, ⟨%g7, %h7, H7⟩, ⟨%g8, %h8, H8⟩, ⟨%g9, %h9, H9⟩⟩
  iapply (trip_run c arg4 arg6 arg7 arg8 harg8 arg9 harg9 arg10 arg11 arg12 arg13 arg14 k x4 x10 g6 g7 g8 g9 E)
  iframe
  iintro ⟨H4, H10, H11, H12, H13, H14, H6, H7, H8, H9⟩
  iframe
  isplitl [H6]
  · iexists _; isplitr; swap; · iexact H6
    ipureintro
    exact put_step _ (finE1 x4 x10) k.val _ (off5_at k) _ (fun h a b => rfl) h6
  isplitl [H7]
  · iexists _; isplitr; swap; · iexact H7
    ipureintro
    exact put_step _ (finC1 x4 x10) k.val _ (off5_at k) _ (fun h a b => rfl) h7
  isplitl [H8]
  · iexists _; isplitr; swap; · iexact H8
    ipureintro
    exact put_step _ (finE2 x4 x10) k.val _ (off5_at k) _ (fun h a b => rfl) h8
  · iexists _; isplitr; swap; · iexact H9
    ipureintro
    exact put_step _ (finR2 x4 x10) k.val _ (off5_at k) _ (fun h a b => rfl) h9

theorem loop_gen (x4 : S16x128x128.Idx → Elt F .bf16) (x10 : S16x256x128.Idx → Elt F .bf16) (E : Set ℕ) (K : Unit → sProp 𝕄)
    (body : Fin k0_t1_loop.trips → Unit → Prog (TpuEff nD τ sig (Elt F) Λ₀ .tc) Unit)
    (hb : ∀ k acc, loopAt c arg4 arg6 arg7 arg8 arg9 arg10 arg11 arg12 arg13 arg14 x4 x10 k.val
      ⊢ wp Idealize.ShloMosaic.frame (wpE (defs₀ (F := F)) Variants.none (c : Thread nD τ) none) E (body k acc)
        (fun _ => loopAt c arg4 arg6 arg7 arg8 arg9 arg10 arg11 arg12 arg13 arg14 x4 x10 (k.val + 1))) :
    iprop(loopAt c arg4 arg6 arg7 arg8 arg9 arg10 arg11 arg12 arg13 arg14 x4 x10 0
      ∗ (iprop(owns c arg4 fullShare x4 ∗ owns c arg10 fullShare x10
        ∗ (∃ d, owns c arg11 fullShare d) ∗ (∃ d, owns c arg12 fullShare d) ∗ (∃ d, owns c arg13 fullShare d)
        ∗ (∃ d, owns c arg14 fullShare d)
        ∗ owns c arg6 fullShare (finE1 x4 x10) ∗ owns c arg7 fullShare (finC1 x4 x10)
        ∗ owns c arg8 fullShare (finE2 x4 x10) ∗ owns c arg9 fullShare (finR2 x4 x10)) -∗ K ⟨⟩))
    ⊢ wp Idealize.ShloMosaic.frame (wpE (defs₀ (F := F)) Variants.none (c : Thread nD τ) none) E
        (Scf.Loop.for k0_t1_loop k0_t1_ok ⟨⟩ body) K := by
  iintro ⟨HI, HK⟩
  iapply (Scf.wp_for Idealize.ShloMosaic.frame (wpE (defs₀ (F := F)) Variants.none (c : Thread nD τ) none) E k0_t1_loop.lb k0_t1_loop.ub k0_t1_loop.st k0_t1_ok () body
    (fun k _ => loopAt c arg4 arg6 arg7 arg8 arg9 arg10 arg11 arg12 arg13 arg14 x4 x10 k) hb)
  isplitl [HI]
  · iexact HI
  iintro %acc HI
  rw [show Scf.trips k0_t1_loop.lb k0_t1_loop.ub k0_t1_loop.st = 8 from trips_eq]
  unfold loopAt
  icases HI with ⟨H4, H10, H11, H12, H13, H14, ⟨%g6, %h6, H6⟩, ⟨%g7, %h7, H7⟩, ⟨%g8, %h8, H8⟩, ⟨%g9, %h9, H9⟩⟩
  obtain rfl : g6 = finE1 x4 x10 := funext fun y => h6 y (y 0).isLt
  obtain rfl : g7 = finC1 x4 x10 := funext fun y => h7 y (y 0).isLt
  obtain rfl : g8 = finE2 x4 x10 := funext fun y => h8 y (y 0).isLt
  obtain rfl : g9 = finR2 x4 x10 := funext fun y => h9 y (y 0).isLt
  iapply HK
  iframe

end Cert.KernelIdeal.Hand

end

end
-- ==== Proof.Body.lean ====
module

public import proofs.«01_k».proof.Proof.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The whole body: what one block of tokens leaves -/

variable {F : FTy → Type} [FloatOps F]

local notation "𝕄" => MT nD τ sig Unit (Elt F) ℕ (UR sig nD τ) ℕ

variable (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S4096x2048 .bf16) (harg3 : arg3.IsWhole) (arg4 : Memref sig .tc .vmem S16x128x128 .bf16) (harg4 : arg4.IsWhole) (arg5 : Memref sig .tc .vmem S256x4096 .bf16) (harg5 : arg5.IsWhole) (arg6 : Memref sig .tc .vmem S8x128x256 .f32) (harg6 : arg6.IsWhole) (arg7 : Memref sig .tc .vmem S8x128x256 .f32) (harg7 : arg7.IsWhole) (arg8 : Memref sig .tc .vmem S8x128x256 .bf16) (harg8 : arg8.IsWhole) (arg9 : Memref sig .tc .vmem S8x128x256 .bf16) (harg9 : arg9.IsWhole) (arg10 : Memref sig .tc .vmem S16x256x128 .bf16) (harg10 : arg10.IsWhole) (arg11 : Memref sig .tc .vmem S128x256 .i32) (harg11 : arg11.IsWhole) (arg12 : Memref sig .tc .vmem S128x256 .i32) (harg12 : arg12.IsWhole) (arg13 : Memref sig .tc .vmem S16x256 .i32) (harg13 : arg13.IsWhole) (arg14 : Memref sig .tc .vmem S1x256 .f32) (harg14 : arg14.IsWhole)

/-- The queries of a block. -/
def qOf (x1 : S256x4096.Idx → Elt F .f32) (x2 : S1x4096.Idx → Elt F .f32) (x3 : S4096x2048.Idx → Elt F .bf16) :
    S16x256x128.Idx → Elt F .bf16 := qS (k0_pay384 x1 x2 x3)

theorem read_slabs_step (M : Memref sig .tc .vmem S16x256x128 .bf16) (f) (k : ℕ) (off : Fin 3 → ℕ) (hoff : off = ![k, 0, 0])
    (inb : ∀ a : Fin 3, off a + S1x256x128.size a ≤ S16x256x128.size a) (w : S1x256x128.Idx → Elt F .bf16)
    (out : S16x256x128.Idx → Elt F .bf16) (L : List (View.Piece (Elt F) S16x256x128 .bf16))
    (hw : ∀ (h : k < 16) a b, w (slab0 a b) = out (ix3 ⟨k, h⟩ a b))
    (hg : ∀ y : S16x256x128.Idx, (y 0).val < k → M.view.read (Elt F) (M.view.writes (Elt F) f L) y = out y)
    (y : S16x256x128.Idx) (hy : (y 0).val < k + 1) :
    M.view.read (Elt F) (M.view.writes (Elt F) f (⟨Rect.unit (s := S16x256x128) off S1x256x128.size inb, w⟩ :: L)) y = out y := by
  rw [View.read_writes_cons_put M.view f inb w L rfl]
  exact put_step _ out k off hoff w hw hg y hy

set_option maxHeartbeats 8000000 in
theorem body_run (x1 : S256x4096.Idx → Elt F .f32) (x2 : S1x4096.Idx → Elt F .f32) (x3 : S4096x2048.Idx → Elt F .bf16)
    (x4 : S16x128x128.Idx → Elt F .bf16) (E : Set ℕ) (K : PUnit → sProp 𝕄) :
    iprop(owns c arg1 fullShare x1 ∗ owns c arg2 fullShare x2 ∗ owns c arg3 fullShare x3 ∗ owns c arg4 fullShare x4
      ∗ (∃ d, owns c arg5 fullShare d) ∗ (∃ d, owns c arg6 fullShare d) ∗ (∃ d, owns c arg7 fullShare d)
      ∗ (∃ d, owns c arg8 fullShare d) ∗ (∃ d, owns c arg9 fullShare d) ∗ (∃ d, owns c arg10 fullShare d)
      ∗ (∃ d, owns c arg11 fullShare d) ∗ (∃ d, owns c arg12 fullShare d) ∗ (∃ d, owns c arg13 fullShare d)
      ∗ (∃ d, owns c arg14 fullShare d)
      ∗ (iprop(owns c arg1 fullShare x1 ∗ owns c arg2 fullShare x2 ∗ owns c arg3 fullShare x3 ∗ owns c arg4 fullShare x4
        ∗ owns c arg5 fullShare (k0_pay383 x1 x2 : S256x4096.Idx → Elt F .bf16)
        ∗ owns c arg6 fullShare (finE1 x4 (qOf x1 x2 x3)) ∗ owns c arg7 fullShare (finC1 x4 (qOf x1 x2 x3))
        ∗ owns c arg8 fullShare (finE2 x4 (qOf x1 x2 x3)) ∗ owns c arg9 fullShare (finR2 x4 (qOf x1 x2 x3))
        ∗ (∃ d, owns c arg10 fullShare d)
        ∗ (∃ d, owns c arg11 fullShare d) ∗ (∃ d, owns c arg12 fullShare d) ∗ (∃ d, owns c arg13 fullShare d)
        ∗ (∃ d, owns c arg14 fullShare d)) -∗ K ⟨⟩))
    ⊢ wp Idealize.ShloMosaic.frame (wpE (defs₀ (F := F)) Variants.none (c : Thread nD τ) none) E
        (cc0_peer_route (F := F) i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_peer_route_eq_skeleton]; unfold cc0_peer_route_skel
  have hl := fun (x10 : S16x256x128.Idx → Elt F .bf16) (K : Unit → sProp 𝕄) => loop_gen c arg4 arg6 arg7 arg8 arg9 arg10 arg11 arg12 arg13 arg14 x4 x10 E K _ (loop_step c i arg1 harg1 arg2 harg2 arg3 harg3 arg4 harg4 arg5 harg5 arg6 harg6 arg7 harg7 arg8 harg8 arg9 harg9 arg10 harg10 arg11 harg11 arg12 harg12 arg13 harg13 arg14 harg14 x4 x10 E)
  generalize (Scf.Loop.for k0_t1_loop k0_t1_ok : Unit → (Fin k0_t1_loop.trips → Unit → Prog (TpuEff nD τ sig (Elt F) Λ₀ .tc) Unit) → Prog (TpuEff nD τ sig (Elt F) Λ₀ .tc) Unit) = lp at hl ⊢
  have hl' := hl (qOf x1 x2 x3)
  clear hl
  unfold loopAt at hl'
  unfold owns at hl' ⊢
  iintro ⟨⟨%f1, %hf1, H1⟩, ⟨%f2, %hf2, H2⟩, ⟨%f3, %hf3, H3⟩, ⟨%f4, %hf4, H4⟩, ⟨%d5, %f5, -, H5⟩, ⟨%d6, %f6, %hf6, H6⟩, ⟨%d7, %f7, %hf7, H7⟩, ⟨%d8, %f8, %hf8, H8⟩, ⟨%d9, %f9, %hf9, H9⟩, ⟨%d10, %f10, -, H10⟩, H11, H12, H13, H14, HK⟩
  sl_exec
  have e1 : View.readAt (Elt F) arg1.view (Rect.unit (s := S256x4096) ![0, 0] S256x4096.size inb_S256x4096_S256x4096_0_0).toLoadRect f1 = x1 :=
    (View.readAt_full _ _ _).trans hf1
  have e2 : View.readAt (Elt F) arg2.view (Rect.unit (s := S1x4096) ![0, 0] S1x4096.size inb_S1x4096_S1x4096_0_0).toLoadRect f2 = x2 :=
    (View.readAt_full _ _ _).trans hf2
  have e3 : View.readAt (Elt F) arg3.view (Rect.unit (s := S4096x2048) ![0, 0] S4096x2048.size inb_S4096x2048_S4096x2048_0_0).toLoadRect f3 = x3 :=
    (View.readAt_full _ _ _).trans hf3
  rw [wp_bind]
  iapply hl'
  isplitl [H4 H10 H11 H12 H13 H14 H6 H7 H8 H9]
  · isplitl [H4]
    · iexists _; isplitr; swap; · iexact H4
      ipureintro; exact hf4
    isplitl [H10]
    · iexists _; isplitr; swap; · iexact H10
      ipureintro
      rw [show qOf x1 x2 x3 = qS (k0_pay384 (View.readAt (Elt F) arg1.view (Rect.unit (s := S256x4096) ![0, 0] S256x4096.size inb_S256x4096_S256x4096_0_0).toLoadRect f1) (View.readAt (Elt F) arg2.view (Rect.unit (s := S1x4096) ![0, 0] S1x4096.size inb_S1x4096_S1x4096_0_0).toLoadRect f2)
        (View.readAt (Elt F) arg3.view (Rect.unit (s := S4096x2048) ![0, 0] S4096x2048.size inb_S4096x2048_S4096x2048_0_0).toLoadRect f3)) from by rw [e1, e2, e3]; rfl]
      exact funext fun y => (read_slabs_step _ _ 15 _ rfl _ _ _ _ (fun h a b => q_pay _ 15 1920 rfl slices_S256x2048_o0_1920_S256x128 _ h a b)
    (read_slabs_step _ _ 14 _ rfl _ _ _ _ (fun h a b => q_pay _ 14 1792 rfl slices_S256x2048_o0_1792_S256x128 _ h a b)
    (read_slabs_step _ _ 13 _ rfl _ _ _ _ (fun h a b => q_pay _ 13 1664 rfl slices_S256x2048_o0_1664_S256x128 _ h a b)
    (read_slabs_step _ _ 12 _ rfl _ _ _ _ (fun h a b => q_pay _ 12 1536 rfl slices_S256x2048_o0_1536_S256x128 _ h a b)
    (read_slabs_step _ _ 11 _ rfl _ _ _ _ (fun h a b => q_pay _ 11 1408 rfl slices_S256x2048_o0_1408_S256x128 _ h a b)
    (read_slabs_step _ _ 10 _ rfl _ _ _ _ (fun h a b => q_pay _ 10 1280 rfl slices_S256x2048_o0_1280_S256x128 _ h a b)
    (read_slabs_step _ _ 9 _ rfl _ _ _ _ (fun h a b => q_pay _ 9 1152 rfl slices_S256x2048_o0_1152_S256x128 _ h a b)
    (read_slabs_step _ _ 8 _ rfl _ _ _ _ (fun h a b => q_pay _ 8 1024 rfl slices_S256x2048_o0_1024_S256x128 _ h a b)
    (read_slabs_step _ _ 7 _ rfl _ _ _ _ (fun h a b => q_pay _ 7 896 rfl slices_S256x2048_o0_896_S256x128 _ h a b)
    (read_slabs_step _ _ 6 _ rfl _ _ _ _ (fun h a b => q_pay _ 6 768 rfl slices_S256x2048_o0_768_S256x128 _ h a b)
    (read_slabs_step _ _ 5 _ rfl _ _ _ _ (fun h a b => q_pay _ 5 640 rfl slices_S256x2048_o0_640_S256x128 _ h a b)
    (read_slabs_step _ _ 4 _ rfl _ _ _ _ (fun h a b => q_pay _ 4 512 rfl slices_S256x2048_o0_512_S256x128 _ h a b)
    (read_slabs_step _ _ 3 _ rfl _ _ _ _ (fun h a b => q_pay _ 3 384 rfl slices_S256x2048_o0_384_S256x128 _ h a b)
    (read_slabs_step _ _ 2 _ rfl _ _ _ _ (fun h a b => q_pay _ 2 256 rfl slices_S256x2048_o0_256_S256x128 _ h a b)
    (read_slabs_step _ _ 1 _ rfl _ _ _ _ (fun h a b => q_pay _ 1 128 rfl slices_S256x2048_o0_128_S256x128 _ h a b)
    (read_slabs_step _ _ 0 _ rfl _ _ _ _ (fun h a b => q_pay _ 0 0 rfl slices_S256x2048_o0_0_S256x128 _ h a b)
    (fun y hy => absurd hy (Nat.not_lt_zero _)))))))))))))))))) y (y 0).isLt
    iframe
    isplitl [H6]
    · iexists d6; isplitr; · ipureintro; exact fun y hy => absurd hy (Nat.not_lt_zero _)
      iexists _; isplitr; swap; · iexact H6
      ipureintro; exact hf6
    isplitl [H7]
    · iexists d7; isplitr; · ipureintro; exact fun y hy => absurd hy (Nat.not_lt_zero _)
      iexists _; isplitr; swap; · iexact H7
      ipureintro; exact hf7
    isplitl [H8]
    · iexists d8; isplitr; · ipureintro; exact fun y hy => absurd hy (Nat.not_lt_zero _)
      iexists _; isplitr; swap; · iexact H8
      ipureintro; exact hf8
    · iexists d9; isplitr; · ipureintro; exact fun y hy => absurd hy (Nat.not_lt_zero _)
      iexists _; isplitr; swap; · iexact H9
      ipureintro; exact hf9
  iintro ⟨H4, ⟨%f10, -, H10⟩, H11, H12, H13, H14, H6, H7, H8, H9⟩
  sl_step
  iapply HK
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexact H4
  isplitl [H5]
  · iexists _; isplitr; swap; · iexact H5
    ipureintro
    refine (View.read_writes_full _ _ _ _ _).trans ?_
    rw [e1, e2]
  iframe
  iexists _, _; isplitr; swap; · iexact H10
  ipureintro; rfl

end Cert.KernelIdeal.Hand

end

end
-- ==== Proof.Run.lean ====
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The launch: every block of tokens, and what the arrays hold after it -/

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128x256 .bf16 := win0_8.stage (cfg0.slots t 8)
abbrev hs0_8 (t : Fin cfg0.N) : (ms0_8 t).IsWhole := hstage0_8 ((cfg0.slots t 8).cast nbuf0_8)
abbrev scM0_0 : Memref sig .tc .vmem S16x256x128 .bf16 := Memref.whole cc0_scratch0
abbrev scM0_1 : Memref sig .tc .vmem S128x256 .i32 := Memref.whole cc0_scratch1
abbrev scM0_2 : Memref sig .tc .vmem S128x256 .i32 := Memref.whole cc0_scratch2
abbrev scM0_3 : Memref sig .tc .vmem S16x256 .i32 := Memref.whole cc0_scratch3
abbrev scM0_4 : Memref sig .tc .vmem S1x256 .f32 := Memref.whole cc0_scratch4

theorem PhiA0_eq (c : Dev nD) : (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The queries of block `t`. -/
def qB (c : Dev nD) (t : Fin cfg0.N) : S16x256x128.Idx → Elt F .bf16 := qOf (iblk m c 0 t) (iblk m c 1 t) (iblk m c 2 t)

/-- What the launch leaves in each window at each block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (k0_pay383 (iblk m c 0 t) (iblk m c 1 t) : S256x4096.Idx → Elt F .bf16)
    | ⟨5, _⟩ => finE1 (iblk m c 3 t) (qB m c t)
    | ⟨6, _⟩ => finC1 (iblk m c 3 t) (qB m c t)
    | ⟨7, _⟩ => finE2 (iblk m c 3 t) (qB m c t)
    | ⟨8, _⟩ => finR2 (iblk m c 3 t) (qB m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (k0_pay383 (iblk m c 0 t) (iblk m c 1 t) : S256x4096.Idx → Elt F .bf16) := by dsimp only [dats]
theorem after0_5 (c : Dev nD) (t : Fin cfg0.N) : (dats m 0 c).after 5 t = finE1 (iblk m c 3 t) (qB m c t) := by dsimp only [dats]
theorem after0_6 (c : Dev nD) (t : Fin cfg0.N) : (dats m 0 c).after 6 t = finC1 (iblk m c 3 t) (qB m c t) := by dsimp only [dats]
theorem after0_7 (c : Dev nD) (t : Fin cfg0.N) : (dats m 0 c).after 7 t = finE2 (iblk m c 3 t) (qB m c t) := by dsimp only [dats]
theorem after0_8 (c : Dev nD) (t : Fin cfg0.N) : (dats m 0 c).after 8 t = finR2 (iblk m c 3 t) (qB m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch ends, with every counter at zero and every array as `dats` says. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) (run_main m ρ)) ((θ_run defs _ _).mono (fun _ h => h.2) (run_main_quiescent m ρ))

end Cert.KernelIdeal.Hand

end

end
-- ==== Proof.Rank.lean ====
module

public import Idealize.ShloMosaic.PureOps.Ideal.Laws
public import Idealize.ShloMosaic.Lib.SortFacts

@[expose] public section

noncomputable section

open Finset
open scoped Classical

namespace Cert.Rank

/-! # The order of a table's places, and two ways of taking its greatest values round by round

`rk v i` counts the places before `i`: those of a greater value, and those of the same value at a
smaller number. The exact rounds take the places in that order; the fast rounds, which take every
place of the greatest value at once, do the same as long as no round takes two. -/

variable {N : ℕ}

/-- Place `j` comes before place `i`. -/
def Bef (v : Fin N → EReal) (j i : Fin N) : Prop := v i < v j ∨ (v i = v j ∧ j < i)

/-- How many places come before place `i`. -/
def rk (v : Fin N → EReal) (i : Fin N) : ℕ := (univ.filter fun j => Bef v j i).card

theorem bef_irrefl (v : Fin N → EReal) (i : Fin N) : ¬ Bef v i i := by
  rintro (h | ⟨_, h⟩) <;> exact lt_irrefl _ h

theorem bef_trans {v : Fin N → EReal} {i j k : Fin N} (h : Bef v i j) (h' : Bef v j k) : Bef v i k := by
  rcases h with h | ⟨h, l⟩ <;> rcases h' with h' | ⟨h', l'⟩
  · exact .inl (h'.trans h)
  · exact .inl (h' ▸ h)
  · exact .inl (h ▸ h')
  · exact .inr ⟨h'.trans h, l.trans l'⟩

theorem bef_total {v : Fin N → EReal} {i j : Fin N} (h : i ≠ j) : Bef v i j ∨ Bef v j i := by
  rcases lt_trichotomy (v i) (v j) with l | l | l
  · exact .inr (.inl l)
  · rcases lt_or_gt_of_ne h with g | g
    · exact .inl (.inr ⟨l.symm, g⟩)
    · exact .inr (.inr ⟨l, g⟩)
  · exact .inl (.inl l)

theorem rk_lt_of_bef {v : Fin N → EReal} {i j : Fin N} (h : Bef v j i) : rk v j < rk v i := by
  apply card_lt_card
  refine ⟨fun k hk => ?_, fun hs => ?_⟩
  · simp only [mem_filter, mem_univ, true_and] at hk ⊢; exact bef_trans hk h
  · have := hs (show j ∈ _ by simpa using h)
    simp only [mem_filter, mem_univ, true_and] at this
    exact bef_irrefl v j this

theorem rk_inj (v : Fin N → EReal) {i j : Fin N} (h : rk v i = rk v j) : i = j := by
  by_contra hn
  rcases bef_total (v := v) hn with b | b <;> have := rk_lt_of_bef b <;> omega

theorem bef_iff {v : Fin N → EReal} {i j : Fin N} : Bef v j i ↔ rk v j < rk v i := by
  refine ⟨rk_lt_of_bef, fun h => ?_⟩
  have hn : j ≠ i := fun e => by subst e; omega
  rcases bef_total (v := v) hn with b | b
  · exact b
  · have := rk_lt_of_bef b; omega

theorem rk_lt (v : Fin N → EReal) (i : Fin N) : rk v i < N := by
  have : (univ.filter fun j => Bef v j i) ⊂ (univ : Finset (Fin N)) := by
    refine ⟨filter_subset _ _, fun hs => ?_⟩
    have := hs (mem_univ i)
    simp only [mem_filter, mem_univ, true_and] at this
    exact bef_irrefl v i this
  have := card_lt_card this
  simpa [rk] using this

theorem rk_surj (v : Fin N → EReal) {p : ℕ} (hp : p < N) : ∃ i, rk v i = p := by
  have hi : Function.Injective fun i : Fin N => (⟨rk v i, rk_lt v i⟩ : Fin N) := fun i j h => rk_inj v (by simpa using h)
  obtain ⟨i, h⟩ := (Finite.injective_iff_surjective.mp hi) ⟨p, hp⟩
  exact ⟨i, by simpa using congrArg Fin.val h⟩

/-- The place of rank `p`. -/
def at_ (v : Fin N → EReal) (p : ℕ) (hp : p < N) : Fin N := (rk_surj v hp).choose

theorem rk_at (v : Fin N → EReal) (p : ℕ) (hp : p < N) : rk v (at_ v p hp) = p := (rk_surj v hp).choose_spec

theorem at_eq {v : Fin N → EReal} {p : ℕ} (hp : p < N) {i : Fin N} (h : rk v i = p) : at_ v p hp = i :=
  rk_inj v ((rk_at v p hp).trans h.symm)

theorem val_le_of_rk {v : Fin N → EReal} {i j : Fin N} (h : rk v i ≤ rk v j) : v j ≤ v i := by
  rcases h.lt_or_eq with h | h
  · rcases bef_iff.2 h with b | ⟨b, _⟩
    · exact b.le
    · exact b.le
  · rw [rk_inj v h]

theorem card_rk_lt (v : Fin N → EReal) {K : ℕ} (hK : K ≤ N) : (univ.filter fun i => rk v i < K).card = K := by
  have e : (univ.filter fun i => rk v i < K).image (rk v) = range K := by
    ext p
    simp only [mem_image, mem_filter, mem_univ, true_and, mem_range]
    refine ⟨fun ⟨i, h, e⟩ => e ▸ h, fun h => ?_⟩
    obtain ⟨i, hi⟩ := rk_surj v (h.trans_le hK)
    exact ⟨i, hi ▸ h, hi⟩
  have := card_image_of_injOn (s := univ.filter fun i => rk v i < K) (f := rk v) fun i _ j _ h => rk_inj v h
  rw [e, card_range] at this
  exact this.symm

/-! ## Rounds -/

/-- The greatest value. -/
def mx (w : Fin N → EReal) : EReal := univ.sup w

/-- The first place of the greatest value. -/
def xsel (w : Fin N → EReal) (i : Fin N) : Prop := w i = mx w ∧ ∀ j, j < i → w j ≠ mx w

/-- The table after `n` exact rounds. -/
def xc (v : Fin N → EReal) : ℕ → Fin N → EReal
  | 0 => v
  | n + 1 => fun i => if xsel (xc v n) i then ⊥ else xc v n i

/-- The table after `n` fast rounds. -/
def dc (v : Fin N → EReal) : ℕ → Fin N → EReal
  | 0 => v
  | n + 1 => fun i => if dc v n i = mx (dc v n) then ⊥ else dc v n i

theorem le_mx (w : Fin N → EReal) (i : Fin N) : w i ≤ mx w := le_sup (f := w) (mem_univ i)

theorem mx_xc_of {v : Fin N → EReal} {n : ℕ} (h : ∀ i, xc v n i = if rk v i < n then ⊥ else v i) {i : Fin N}
    (hi : rk v i = n) : mx (xc v n) = v i := by
  apply le_antisymm
  · refine Finset.sup_le fun j _ => ?_
    rw [h]; split
    · exact bot_le
    · exact val_le_of_rk (by omega)
  · have := le_mx (xc v n) i
    rw [h, if_neg (by omega)] at this; exact this

theorem xsel_of {v : Fin N → EReal} (hv : ∀ i, ⊥ < v i) {n : ℕ} (hn : n < N)
    (h : ∀ i, xc v n i = if rk v i < n then ⊥ else v i) (i : Fin N) : xsel (xc v n) i ↔ rk v i = n := by
  obtain ⟨i0, h0⟩ := rk_surj v hn
  have hm := mx_xc_of h h0
  unfold xsel
  rw [hm]
  constructor
  · rintro ⟨e, hj⟩
    rw [h] at e
    by_cases hr : rk v i < n
    · rw [if_pos hr] at e; exact absurd e (hv i0).ne
    · rw [if_neg hr] at e
      by_contra hne
      have b : Bef v i0 i := bef_iff.2 (by omega)
      rcases b with b | ⟨_, b⟩
      · exact absurd e b.ne
      · refine hj i0 b ?_
        rw [h, if_neg (by omega)]
  · intro hr
    have : i = i0 := rk_inj v (by omega)
    subst this
    refine ⟨by rw [h, if_neg (by omega)], fun j hj e => ?_⟩
    rw [h] at e
    by_cases hr' : rk v j < n
    · rw [if_pos hr'] at e; exact absurd e (hv i).ne
    · rw [if_neg hr'] at e
      have := rk_lt_of_bef (v := v) (j := j) (i := i) (.inr ⟨e.symm, hj⟩)
      omega

theorem xc_eq {v : Fin N → EReal} (hv : ∀ i, ⊥ < v i) : ∀ {n : ℕ}, n ≤ N → ∀ i, xc v n i = if rk v i < n then ⊥ else v i
  | 0, _, i => by simp [xc]
  | n + 1, hn, i => by
    have ih := xc_eq hv (n := n) (by omega)
    have hs := xsel_of hv (by omega) ih i
    show (if xsel (xc v n) i then ⊥ else xc v n i) = _
    by_cases hr : rk v i = n
    · rw [if_pos (hs.2 hr), if_pos (by omega)]
    · rw [if_neg (fun h => hr (hs.1 h)), ih]
      by_cases h' : rk v i < n
      · rw [if_pos h', if_pos (by omega)]
      · rw [if_neg h', if_neg (by omega)]

theorem xsel_iff {v : Fin N → EReal} (hv : ∀ i, ⊥ < v i) {n : ℕ} (hn : n < N) (i : Fin N) :
    xsel (xc v n) i ↔ rk v i = n := xsel_of hv hn (xc_eq hv hn.le) i

theorem mx_xc {v : Fin N → EReal} (hv : ∀ i, ⊥ < v i) {n : ℕ} (hn : n < N) {i : Fin N} (hi : rk v i = n) :
    mx (xc v n) = v i := mx_xc_of (xc_eq hv hn.le) hi

/-- No round before round `K` takes two places. -/
def Singles (v : Fin N → EReal) (K : ℕ) : Prop :=
  ∀ n, n < K → ∀ i j, dc v n i = mx (dc v n) → dc v n j = mx (dc v n) → i = j

theorem dsel_iff_of {w : Fin N → EReal} (h : ∀ i j, w i = mx w → w j = mx w → i = j) (i : Fin N) :
    w i = mx w ↔ xsel w i :=
  ⟨fun e => ⟨e, fun j hj e' => absurd (h i j e e') hj.ne'⟩, fun h => h.1⟩

theorem dc_eq_xc {v : Fin N → EReal} {K : ℕ} (h : Singles v K) : ∀ n, n ≤ K → dc v n = xc v n
  | 0, _ => rfl
  | n + 1, hn => by
    have ih := dc_eq_xc h n (by omega)
    funext i
    show (if dc v n i = mx (dc v n) then ⊥ else dc v n i) = (if xsel (xc v n) i then ⊥ else xc v n i)
    simp only [dsel_iff_of (h n (by omega)) i]
    rw [ih]

theorem dsel_iff {v : Fin N → EReal} {K : ℕ} (h : Singles v K) {n : ℕ} (hn : n < K) (i : Fin N) :
    dc v n i = mx (dc v n) ↔ xsel (xc v n) i := by
  rw [dsel_iff_of (h n hn) i, dc_eq_xc h n hn.le]

/-- The places taken in the first `K` fast rounds. -/
def taken (v : Fin N → EReal) (K : ℕ) : Finset (Fin N) := univ.filter fun i => ∃ n, n < K ∧ dc v n i = mx (dc v n)

theorem dc_le (v : Fin N → EReal) {a b : ℕ} (h : a ≤ b) (i : Fin N) : dc v b i ≤ dc v a i := by
  induction b, h using Nat.le_induction with
  | base => exact le_rfl
  | succ b _ ih =>
    show (if dc v b i = mx (dc v b) then ⊥ else dc v b i) ≤ _
    split
    · exact bot_le
    · exact ih

theorem singles_of_card (v : Fin N → EReal) {K : ℕ} (hK : K < N) (hc : (taken v K).card ≤ K) : Singles v K := by
  have hpos : ∀ n, n < K → ⊥ < mx (dc v n) := by
    intro n hn
    by_contra hb
    have hb : mx (dc v n) = ⊥ := not_bot_lt_iff.1 hb
    have : taken v K = univ := by
      refine eq_univ_of_forall fun i => ?_
      simp only [taken, mem_filter, mem_univ, true_and]
      refine ⟨n, hn, ?_⟩
      have := le_mx (dc v n) i
      rw [hb] at this ⊢
      exact le_bot_iff.1 this
    rw [this, card_univ, Fintype.card_fin] at hc
    omega
  let T : ℕ → Finset (Fin N) := fun n => univ.filter fun i => dc v n i = mx (dc v n)
  have hT : ∀ n i, i ∈ T n ↔ dc v n i = mx (dc v n) := fun n i => by simp [T]
  have hne : ∀ n, 1 ≤ (T n).card := fun n => by
    rw [Nat.one_le_iff_ne_zero, card_ne_zero]
    obtain ⟨i, _, e⟩ := exists_mem_eq_sup (univ : Finset (Fin N)) ⟨⟨0, by omega⟩, mem_univ _⟩ (dc v n)
    exact ⟨i, (hT n i).2 e.symm⟩
  have hlt : ∀ a b, a < b → b < K → Disjoint (T a) (T b) := by
    intro a b hab hb
    rw [Finset.disjoint_left]
    intro i hi hi'
    rw [hT] at hi hi'
    have h1 : dc v (a + 1) i = ⊥ := if_pos hi
    have h2 := dc_le v (show a + 1 ≤ b from hab) i
    rw [h1, hi'] at h2
    exact absurd (hpos b hb) (not_lt.2 h2)
  have hu : taken v K = (range K).biUnion T := by
    ext i; simp [taken, T]
  have hcard : (taken v K).card = ∑ n ∈ range K, (T n).card := by
    rw [hu]
    refine card_biUnion fun a ha b hb hab => ?_
    simp only [coe_range, Set.mem_Iio, mem_range] at ha hb
    rcases lt_or_gt_of_ne hab with h | h
    · exact hlt a b h hb
    · exact (hlt b a h ha).symm
  intro n hn i j hi hj
  by_contra hij
  have h2 : 1 < (T n).card := one_lt_card.2 ⟨i, (hT n i).2 hi, j, (hT n j).2 hj, hij⟩
  have : ∑ n ∈ range K, 1 < ∑ n ∈ range K, (T n).card :=
    sum_lt_sum (fun k _ => hne k) ⟨n, mem_range.2 hn, h2⟩
  simp only [sum_const, card_range, smul_eq_mul, mul_one] at this
  omega

theorem mem_taken {v : Fin N → EReal} (hv : ∀ i, ⊥ < v i) {K : ℕ} (hK : K < N) (h : Singles v K) (i : Fin N) :
    i ∈ taken v K ↔ rk v i < K := by
  simp only [taken, mem_filter, mem_univ, true_and]
  constructor
  · rintro ⟨n, hn, e⟩
    rw [dsel_iff h hn, xsel_iff hv (by omega)] at e
    omega
  · intro hr
    exact ⟨rk v i, hr, (dsel_iff h hr i).2 ((xsel_iff hv (by omega) i).2 rfl)⟩

/-- The places not below the last fast round's greatest value. -/
def above (v : Fin N → EReal) (K : ℕ) : Finset (Fin N) := univ.filter fun i => mx (dc v K) ≤ v i

theorem taken_sub_above (v : Fin N → EReal) (K : ℕ) : taken v (K + 1) ⊆ above v K := by
  intro i hi
  simp only [taken, above, mem_filter, mem_univ, true_and] at hi ⊢
  obtain ⟨n, hn, e⟩ := hi
  have h1 : dc v n i ≤ v i := dc_le v (Nat.zero_le n) i
  rw [e] at h1
  refine le_trans (Finset.sup_le fun j _ => ?_) h1
  exact (dc_le v (show n ≤ K by omega) j).trans (le_mx _ j)

theorem singles_of_above (v : Fin N → EReal) {K : ℕ} (hK : K + 1 < N) (hc : (above v K).card ≤ K + 1) : Singles v (K + 1) :=
  singles_of_card v hK ((card_le_card (taken_sub_above v K)).trans hc)

theorem mem_above {v : Fin N → EReal} (hv : ∀ i, ⊥ < v i) {K : ℕ} (hK : K + 1 < N) (hc : (above v K).card ≤ K + 1)
    (i : Fin N) : i ∈ above v K ↔ rk v i < K + 1 := by
  have hs := singles_of_above v hK hc
  have e : taken v (K + 1) = univ.filter fun i => rk v i < K + 1 := by
    ext i; simp [mem_taken hv hK hs i]
  have h2 : taken v (K + 1) = above v K :=
    eq_of_subset_of_card_le (taken_sub_above v K) (by rw [e, card_rk_lt v hK.le]; exact hc)
  rw [← h2, mem_taken hv hK hs]

/-! ## Ranks written round by round -/

/-- The ranks written by `n` exact rounds, `D` where none is. -/
def xr (v : Fin N → EReal) (D : ℕ) : ℕ → Fin N → ℕ
  | 0 => fun _ => D
  | n + 1 => fun i => if xsel (xc v n) i then n else xr v D n i

/-- The ranks written by `n` fast rounds. -/
def dr (v : Fin N → EReal) (D : ℕ) : ℕ → Fin N → ℕ
  | 0 => fun _ => D
  | n + 1 => fun i => if dc v n i = mx (dc v n) then n else dr v D n i

theorem xr_eq {v : Fin N → EReal} (hv : ∀ i, ⊥ < v i) (D : ℕ) : ∀ n, n ≤ N → ∀ i, xr v D n i = if rk v i < n then rk v i else D
  | 0, _, i => by simp [xr]
  | n + 1, hn, i => by
    have hs := xsel_iff hv (show n < N by omega) i
    show (if xsel (xc v n) i then n else xr v D n i) = _
    by_cases hr : rk v i = n
    · rw [if_pos (hs.2 hr), if_pos (by omega), hr]
    · rw [if_neg (fun h => hr (hs.1 h)), xr_eq hv D n (by omega)]
      by_cases h' : rk v i < n
      · rw [if_pos h', if_pos (by omega)]
      · rw [if_neg h', if_neg (by omega)]

theorem dr_eq_xr {v : Fin N → EReal} {K : ℕ} (h : Singles v K) (D : ℕ) : ∀ n, n ≤ K → dr v D n = xr v D n
  | 0, _ => rfl
  | n + 1, hn => by
    funext i
    show (if dc v n i = mx (dc v n) then n else dr v D n i) = (if xsel (xc v n) i then n else xr v D n i)
    simp only [dsel_iff h (show n < K by omega) i]
    rw [dr_eq_xr h D n (by omega)]

theorem dr_lt_iff (v : Fin N → EReal) (D : ℕ) : ∀ n, n ≤ D → ∀ i, dr v D n i < D ↔ ∃ k, k < n ∧ dc v k i = mx (dc v k)
  | 0, _, i => by simp [dr]
  | n + 1, hn, i => by
    show (if dc v n i = mx (dc v n) then n else dr v D n i) < D ↔ _
    by_cases h : dc v n i = mx (dc v n)
    · rw [if_pos h]; exact ⟨fun _ => ⟨n, by omega, h⟩, fun _ => by omega⟩
    · rw [if_neg h, dr_lt_iff v D n (by omega) i]
      refine ⟨fun ⟨k, hk, e⟩ => ⟨k, by omega, e⟩, fun ⟨k, hk, e⟩ => ⟨k, ?_, e⟩⟩
      rcases Nat.lt_succ_iff_lt_or_eq.1 hk with h' | h'
      · exact h'
      · exact absurd (h' ▸ e) h

theorem taken_eq (v : Fin N → EReal) (K : ℕ) : taken v K = univ.filter fun i => dr v K K i < K := by
  ext i; simp [taken, dr_lt_iff v K K le_rfl i]

/-! ## A part of the table that holds its first places -/

theorem rk_part {M : ℕ} (v : Fin N → EReal) (f : Fin M → Fin N) (hf : StrictMono f) {K : ℕ} (hK : K ≤ N)
    (hout : ∀ q, (∀ i, f i ≠ q) → K ≤ rk v q) (i : Fin M) :
    (rk (fun i => v (f i)) i < K ↔ rk v (f i) < K) ∧ (rk v (f i) < K → rk (fun i => v (f i)) i = rk v (f i)) := by
  have hb : ∀ j, Bef (fun i => v (f i)) j i ↔ Bef v (f j) (f i) := fun j => by
    unfold Bef; rw [hf.lt_iff_lt]
  have himg : rk (fun i => v (f i)) i = ((univ.filter fun j => Bef v (f j) (f i)).image f).card := by
    rw [card_image_of_injective _ hf.injective]
    unfold rk
    simp only [hb]
  have hle : rk (fun i => v (f i)) i ≤ rk v (f i) := by
    rw [himg]
    refine card_le_card fun q hq => ?_
    simp only [mem_image, mem_filter, mem_univ, true_and] at hq ⊢
    obtain ⟨j, h, rfl⟩ := hq
    exact h
  have heq : rk v (f i) < K → rk (fun i => v (f i)) i = rk v (f i) := by
    intro hr
    refine le_antisymm hle ?_
    rw [himg]
    refine card_le_card fun q hq => ?_
    simp only [mem_image, mem_filter, mem_univ, true_and] at hq ⊢
    by_contra hc
    have : K ≤ rk v q := hout q fun j e => hc ⟨j, e ▸ hq, e⟩
    have := bef_iff.1 hq
    omega
  refine ⟨⟨fun h => ?_, fun h => (heq h).symm ▸ h⟩, heq⟩
  by_contra hr
  have : K ≤ rk (fun i => v (f i)) i := by
    rw [himg]
    calc K = (univ.filter fun q => rk v q < K).card := (card_rk_lt v hK).symm
      _ ≤ _ := card_le_card fun q hq => by
          simp only [mem_image, mem_filter, mem_univ, true_and] at hq ⊢
          by_contra hc
          have : K ≤ rk v q := hout q fun j e => hc ⟨j, bef_iff.2 (by rw [e]; omega), e⟩
          omega
  omega

end Cert.Rank

end

end
-- ==== Proof.ColK.lean ====
module

public import proofs.«01_k».proof.Proof.Spec
public import proofs.«01_k».proof.Proof.Rank
public import Idealize.ShloMosaic.Lib.Pointwise
public import Idealize.ShloMosaic.Lib.Pipeline.Value
public import Idealize.ShloMosaic.Lib.WordSum

@[expose] public section

set_option maxRecDepth 16384

noncomputable section

namespace Cert.KernelIdeal.Hand

open Cert.KernelIdeal Cert.KernelIdeal.Gen Cert.Rank
open Idealize.ShloMosaic Idealize.ShloMosaic.TcCoe Idealize.ShloMosaic.Tactic

/-! # The rounds over the 128 keys, one token at a time -/

/-- One token's column of a table. -/
def col {n k : ℕ} {α : Type} (x : (⟨2, ![n, k]⟩ : Shape).Idx → α) (τ : Fin k) : Fin n → α := fun i => x (ix2 i τ)

/-- The bit pattern of minus infinity. -/
theorem ninf_eq : (FloatOps.ofBits .f32 0xFF800000#32 : Ideal .f32) = (⊥ : EReal) := by
  show Ideal.ofBits .f32 0xFF800000#32 = _
  simp [Ideal.ofBits, Ideal.ieee]

/-- Numbers as words, kept below the greatest. -/
def wd (a : ℕ) : BitVec 32 := BitVec.ofNat 32 (min a 2147483647)

theorem toInt_small {a : ℕ} (h : a < 2 ^ 31) : (BitVec.ofNat 32 a).toInt = a := by
  rw [BitVec.toInt_eq_toNat_of_lt (by rw [BitVec.toNat_ofNat]; omega), BitVec.toNat_ofNat]
  congr 1; omega

/-- A choice by a bit is a choice by what the bit says. -/
theorem select_iff {α : Type} {c : BitVec 1} {P : Prop} [Decidable P] (h : c = 1#1 ↔ P) (a b : α) :
    Scalar.select c a b = if P then a else b := by
  unfold Scalar.select
  by_cases hc : P
  · rw [if_pos hc]; exact if_pos (h.2 hc)
  · rw [if_neg hc]; exact if_neg fun e => hc (h.1 e)

theorem ofBool_iff (b : Bool) : BitVec.ofBool b = 1#1 ↔ b = true := by cases b <;> decide

theorem minsi_wd (a b : ℕ) : IntOp.minsi (wd a) (wd b) = wd (min a b) := by
  unfold IntOp.minsi wd
  have ha : (min a 2147483647) < 2 ^ 31 := by omega
  have hb : (min b 2147483647) < 2 ^ 31 := by omega
  have e : (BitVec.ofNat 32 (min a 2147483647)).slt (BitVec.ofNat 32 (min b 2147483647)) = decide (min a 2147483647 < min b 2147483647) := by
    rw [BitVec.slt_eq_decide]
    congr 1
    rw [toInt_small ha, toInt_small hb, eq_iff_iff]
    omega
  rw [e]
  by_cases h : min a 2147483647 < min b 2147483647
  · simp only [h, decide_true, if_true]; congr 1; omega
  · simp only [h, decide_false]; rw [if_neg (by simp)]; congr 1; omega

/-- The least of some numbers, as words. -/
theorem fold_minsi {n : ℕ} (f : Fin n → ℕ) (g : Fin n → BitVec 32) (hg : ∀ k, g k = wd (f k)) {i : Fin n} {a : ℕ}
    (hi : f i = a) (hle : ∀ k, a ≤ f k) (ha : a ≤ 2147483647) :
    (Finset.univ : Finset (Fin n)).fold IntOp.minsi 2147483647#32 g = wd a := by
  have e0 : (2147483647#32 : BitVec 32) = wd 2147483647 := by decide
  have eg : g = fun k => wd (f k) := funext hg
  rw [e0, eg, Finset.fold_hom (op := min) (m := wd) (f := f) (fun x y => (minsi_wd x y).symm)]
  congr 1
  apply le_antisymm
  · exact Finset.fold_min_le _ |>.2 (.inr ⟨i, Finset.mem_univ _, hi.le⟩)
  · exact Finset.le_fold_min _ |>.2 ⟨ha, fun k _ => hle k⟩

theorem rmxK_col (x : FVec Ideal S128x256 .f32) (τ : Fin 256) : rmxK x (ix1 τ) = mx (col x τ) := by
  unfold rmxK
  refine (Ideal.multiReduction_maximumf_single _ _ _ _ _ _).trans ?_
  rw [ninf_eq]
  unfold mx Finset.sup
  refine Finset.fold_congr fun k _ => congrArg x ?_
  funext a; match a with | ⟨0, _⟩ => rfl | ⟨1, _⟩ => rfl

theorem mxK_col (x : FVec Ideal S128x256 .f32) (τ : Fin 256) : mxK x (ix2 0 τ) = mx (col x τ) := by
  rw [← rmxK_col]
  unfold mxK
  refine (shapeCast_addUnit_apply ![256] _ _ (ix2 0 τ)).trans ?_
  congr 1
  funext a; match a with | ⟨0, _⟩ => rfl

theorem bcK_col {α : Type} (y : S1x256.Idx → α) (i : Fin 128) (τ : Fin 256) : bcK y (ix2 i τ) = y (ix2 0 τ) := by
  unfold bcK
  simp only [pointwise]
  congr 1

theorem eqK_col (x : FVec Ideal S128x256 .f32) (i : Fin 128) (τ : Fin 256) :
    eqK x (ix2 i τ) = 1#1 ↔ col x τ i = mx (col x τ) := by
  unfold eqK
  show Ideal.cmp .oeq (x (ix2 i τ)) (bcK (mxK x) (ix2 i τ)) = 1#1 ↔ _
  rw [bcK_col, mxK_col]
  exact (ofBool_iff _).trans decide_eq_true_iff

theorem cutK_col (sel : IVec S128x256 1) (x : FVec Ideal S128x256 .f32) (i : Fin 128) (τ : Fin 256) (P : Prop) [Decidable P]
    (h : sel (ix2 i τ) = 1#1 ↔ P) : cutK sel x (ix2 i τ) = if P then (⊥ : EReal) else x (ix2 i τ) := by
  have e : (ninfK : FVec Ideal S128x256 .f32) (ix2 i τ) = (⊥ : EReal) := ninf_eq
  unfold cutK
  rw [show select sel ninfK x (ix2 i τ) = Scalar.select (sel (ix2 i τ)) ((ninfK : FVec Ideal S128x256 .f32) (ix2 i τ)) (x (ix2 i τ)) from rfl, e]
  exact select_iff h _ _

open scoped Classical in
theorem dcur_col (s : FVec Ideal S128x256 .f32) (τ : Fin 256) : ∀ n, col (dcur s n) τ = dc (col s τ) n
  | 0 => rfl
  | n + 1 => by
    funext i
    have ih := dcur_col s τ n
    show cutK (eqK (dcur s n)) (dcur s n) (ix2 i τ) = _
    rw [cutK_col _ _ _ _ _ (eqK_col (dcur s n) i τ), ih]
    show _ = if dc (col s τ) n i = mx (dc (col s τ) n) then (⊥ : EReal) else dc (col s τ) n i
    rw [← ih]; congr

open scoped Classical in
theorem drank_col (s : FVec Ideal S128x256 .f32) (i : Fin 128) (τ : Fin 256) :
    ∀ n, drank s n (ix2 i τ) = BitVec.ofNat 32 (dr (col s τ) 16 n i)
  | 0 => rfl
  | n + 1 => by
    show Scalar.select (eqK (dcur s n) (ix2 i τ)) (BitVec.ofNat 32 n) (drank s n (ix2 i τ)) = _
    rw [drank_col s i τ n]
    show _ = BitVec.ofNat 32 (if dc (col s τ) n i = mx (dc (col s τ) n) then n else dr (col s τ) 16 n i)
    have h := eqK_col (dcur s n) i τ
    rw [dcur_col] at h
    rw [select_iff h]
    split <;> rfl

/-- Some place is the first of the greatest value. -/
theorem exists_xsel {n : ℕ} (hn : 0 < n) (w : Fin n → EReal) : ∃ i, xsel w i := by
  classical
  obtain ⟨i, _, e⟩ := Finset.exists_mem_eq_sup (Finset.univ : Finset (Fin n)) ⟨⟨0, hn⟩, Finset.mem_univ _⟩ w
  have hne : (Finset.univ.filter fun i => w i = mx w).Nonempty := ⟨i, by simp [mx, e]⟩
  refine ⟨_, (Finset.mem_filter.1 (Finset.min'_mem _ hne)).2, fun j hj e' => ?_⟩
  exact absurd (Finset.min'_le _ j (by simp [e'])) (not_le.2 hj)

theorem xsel_unique {n : ℕ} {w : Fin n → EReal} {i j : Fin n} (hi : xsel w i) (hj : xsel w j) : i = j := by
  rcases lt_trichotomy i j with h | h | h
  · exact absurd hi.1 (hj.2 i h)
  · exact h
  · exact absurd hj.1 (hi.2 j h)

/-- The number of the first place of the greatest value. -/
theorem ixK_col (x : FVec Ideal S128x256 .f32) (τ : Fin 256) {i : Fin 128} (hi : xsel (col x τ) i) :
    ixK x (ix2 0 τ) = BitVec.ofNat 32 i.val := by
  unfold ixK
  refine (shapeCast_addUnit_apply ![256] _ _ (ix2 0 τ)).trans ?_
  refine (multiReductionI_eq_fold _ _ _ _ _ _).trans ((Shape.Reduces.fold_filter_drop_single _ _ _ _ _).trans ?_)
  have hw : wd i.val = BitVec.ofNat 32 i.val := by unfold wd; rw [min_eq_left (by have := i.isLt; omega)]
  rw [← hw]
  classical
  refine fold_minsi (fun k : Fin 128 => if col x τ k = mx (col x τ) then k.val else 128) _ (fun k => ?_) (i := i) ?_ ?_ (by have := i.isLt; omega)
  · have el' : (reduces_S128x256_S256.lift (fun a => (ix2 0 τ : S1x256.Idx) a.succ) k) = ix2 k τ := by
      funext a; match a with | ⟨0, _⟩ => rfl | ⟨1, _⟩ => rfl
    refine (congrArg (select (eqK x) iotaK (broadcast S128x256 128#32)) el').trans ?_
    show Scalar.select (eqK x (ix2 k τ)) (BitVec.ofNat 32 (0 * 128 + k.val)) 128#32 = _
    rw [select_iff (eqK_col x k τ)]
    split
    · unfold wd; rw [min_eq_left (by have := k.isLt; omega)]; congr 1; omega
    · rfl
  · exact if_pos hi.1
  · intro k
    by_cases hc : col x τ k = mx (col x τ)
    · simp only [hc, if_true]
      by_contra hlt
      exact hi.2 k (by simpa using hlt) hc
    · simp only [hc, if_false]; have := i.isLt; omega

theorem selK_col (x : FVec Ideal S128x256 .f32) (i : Fin 128) (τ : Fin 256) : selK x (ix2 i τ) = 1#1 ↔ xsel (col x τ) i := by
  obtain ⟨i0, h0⟩ := exists_xsel (by decide) (col x τ)
  unfold selK
  show IntOp.cmpi .eq (BitVec.ofNat 32 (0 * 128 + i.val)) (bcK (ixK x) (ix2 i τ)) = 1#1 ↔ _
  rw [bcK_col, ixK_col x τ h0]
  have := i.isLt; have := i0.isLt
  have e : IntOp.cmpi .eq (BitVec.ofNat 32 (0 * 128 + i.val)) (BitVec.ofNat 32 i0.val) = 1#1 ↔ i = i0 := by
    unfold IntOp.cmpi
    have : (BitVec.ofNat 32 (0 * 128 + i.val) == BitVec.ofNat 32 i0.val) = decide (i = i0) := by
      rw [Bool.eq_iff_iff, beq_iff_eq, decide_eq_true_iff, ← BitVec.toNat_inj, BitVec.toNat_ofNat, BitVec.toNat_ofNat, Fin.ext_iff]
      omega
    simp only [this]
    by_cases hc : i = i0 <;> simp [hc]
  rw [e]
  exact ⟨fun h => h ▸ h0, fun h => xsel_unique h h0⟩

open scoped Classical in
theorem xcur_col (s : FVec Ideal S128x256 .f32) (τ : Fin 256) : ∀ n, col (xcur s n) τ = xc (col s τ) n
  | 0 => rfl
  | n + 1 => by
    funext i
    have ih := xcur_col s τ n
    show cutK (selK (xcur s n)) (xcur s n) (ix2 i τ) = _
    rw [cutK_col _ _ _ _ _ (selK_col (xcur s n) i τ), ih]
    show _ = if xsel (xc (col s τ) n) i then (⊥ : EReal) else xc (col s τ) n i
    rw [← ih]; congr

open scoped Classical in
theorem xrank_col (s : FVec Ideal S128x256 .f32) (i : Fin 128) (τ : Fin 256) :
    ∀ n, xrank s n (ix2 i τ) = BitVec.ofNat 32 (xr (col s τ) 16 n i)
  | 0 => rfl
  | n + 1 => by
    show Scalar.select (selK (xcur s n) (ix2 i τ)) (BitVec.ofNat 32 n) (xrank s n (ix2 i τ)) = _
    rw [xrank_col s i τ n]
    show _ = BitVec.ofNat 32 (if xsel (xc (col s τ) n) i then n else xr (col s τ) 16 n i)
    have h := selK_col (xcur s n) i τ
    rw [xcur_col] at h
    rw [select_iff h]
    split <;> rfl

end Cert.KernelIdeal.Hand

end

end
-- ==== Proof.Stack.lean ====
module

public import proofs.«01_k».proof.Proof.ColK
public import Idealize.ShloMosaic.Lib.Pointwise
public import Idealize.ShloMosaic.Lib.Pipeline.Value
public import Idealize.ShloMosaic.Lib.WordSum

@[expose] public section

set_option maxRecDepth 16384

noncomputable section

namespace Cert.KernelIdeal.Hand

open Cert.KernelIdeal Cert.KernelIdeal.Gen Cert.Rank
open Idealize.ShloMosaic Idealize.ShloMosaic.TcCoe Idealize.ShloMosaic.Tactic

/-! # The rounds over the 136 candidates, one token at a time -/

set_option maxHeartbeats 2000000 in
theorem stack16_col {α : Type} (f : ℕ → S1x256.Idx → α) (p : Fin 16) (τ : Fin 256) :
    stack16 f (ix2 p τ) = f p.val (ix2 0 τ) := by
  unfold stack16
  have hi : ∀ c : Fin 2, c ≠ (0 : Fin 2) → ((ix2 (0 : Fin 1) τ : S1x256.Idx) c).val = ((ix2 p τ : S16x256.Idx) c).val := by
    intro c hc
    match c with | ⟨0, _⟩ => exact absurd rfl hc | ⟨1, _⟩ => rfl
  fin_cases p
  · exact concatenate_apply_piece (t := S16x256) (0 : Fin 2) _ _ (ix2 0 τ) 0 (by simp) S1x256 (f 0) rfl rfl 0 rfl (ix2 0 τ) hi rfl
  · exact concatenate_apply_piece (t := S16x256) (0 : Fin 2) _ _ (ix2 1 τ) 1 (by simp) S1x256 (f 1) rfl rfl 1 rfl (ix2 0 τ) hi rfl
  · exact concatenate_apply_piece (t := S16x256) (0 : Fin 2) _ _ (ix2 2 τ) 2 (by simp) S1x256 (f 2) rfl rfl 2 rfl (ix2 0 τ) hi rfl
  · exact concatenate_apply_piece (t := S16x256) (0 : Fin 2) _ _ (ix2 3 τ) 3 (by simp) S1x256 (f 3) rfl rfl 3 rfl (ix2 0 τ) hi rfl
  · exact concatenate_apply_piece (t := S16x256) (0 : Fin 2) _ _ (ix2 4 τ) 4 (by simp) S1x256 (f 4) rfl rfl 4 rfl (ix2 0 τ) hi rfl
  · exact concatenate_apply_piece (t := S16x256) (0 : Fin 2) _ _ (ix2 5 τ) 5 (by simp) S1x256 (f 5) rfl rfl 5 rfl (ix2 0 τ) hi rfl
  · exact concatenate_apply_piece (t := S16x256) (0 : Fin 2) _ _ (ix2 6 τ) 6 (by simp) S1x256 (f 6) rfl rfl 6 rfl (ix2 0 τ) hi rfl
  · exact concatenate_apply_piece (t := S16x256) (0 : Fin 2) _ _ (ix2 7 τ) 7 (by simp) S1x256 (f 7) rfl rfl 7 rfl (ix2 0 τ) hi rfl
  · exact concatenate_apply_piece (t := S16x256) (0 : Fin 2) _ _ (ix2 8 τ) 8 (by simp) S1x256 (f 8) rfl rfl 8 rfl (ix2 0 τ) hi rfl
  · exact concatenate_apply_piece (t := S16x256) (0 : Fin 2) _ _ (ix2 9 τ) 9 (by simp) S1x256 (f 9) rfl rfl 9 rfl (ix2 0 τ) hi rfl
  · exact concatenate_apply_piece (t := S16x256) (0 : Fin 2) _ _ (ix2 10 τ) 10 (by simp) S1x256 (f 10) rfl rfl 10 rfl (ix2 0 τ) hi rfl
  · exact concatenate_apply_piece (t := S16x256) (0 : Fin 2) _ _ (ix2 11 τ) 11 (by simp) S1x256 (f 11) rfl rfl 11 rfl (ix2 0 τ) hi rfl
  · exact concatenate_apply_piece (t := S16x256) (0 : Fin 2) _ _ (ix2 12 τ) 12 (by simp) S1x256 (f 12) rfl rfl 12 rfl (ix2 0 τ) hi rfl
  · exact concatenate_apply_piece (t := S16x256) (0 : Fin 2) _ _ (ix2 13 τ) 13 (by simp) S1x256 (f 13) rfl rfl 13 rfl (ix2 0 τ) hi rfl
  · exact concatenate_apply_piece (t := S16x256) (0 : Fin 2) _ _ (ix2 14 τ) 14 (by simp) S1x256 (f 14) rfl rfl 14 rfl (ix2 0 τ) hi rfl
  · exact concatenate_apply_piece (t := S16x256) (0 : Fin 2) _ _ (ix2 15 τ) 15 (by simp) S1x256 (f 15) rfl rfl 15 rfl (ix2 0 τ) hi rfl

theorem row16_col {α : Type} (k : Fin 16) (x : S16x256.Idx → α) (τ : Fin 256) : row16 k x (ix2 0 τ) = x (ix2 k τ) := by
  unfold row16 extractStridedSlice
  refine congrArg x (funext fun a => ?_)
  match a with | ⟨0, _⟩ => exact Fin.ext (Nat.add_zero _) | ⟨1, _⟩ => exact Fin.ext (Nat.zero_add _)

/-- The place number of candidate `j`. -/
def posN (j : Fin 136) : ℕ := if j.val < 16 then j.val else 16 * ((j.val - 16) / 8 + 1) + (j.val - 16) % 8

theorem posN_lt (j : Fin 136) : posN j < 256 := by
  have := j.isLt; unfold posN; split <;> omega

theorem posN_mono {i j : Fin 136} (h : i < j) : posN i < posN j := by
  have := j.isLt; have h : i.val < j.val := h; unfold posN; split <;> split <;> omega

theorem posN_inj {i j : Fin 136} (h : posN i = posN j) : i = j := by
  rcases lt_trichotomy i j with l | l | l
  · have := posN_mono l; omega
  · exact l
  · have := posN_mono l; omega

/-- The first rank of candidate `j`. -/
def posA (j : Fin 136) : Fin 16 := ⟨posN j / 16, by have := posN_lt j; omega⟩

/-- The second rank of candidate `j`. -/
def posB (j : Fin 136) : Fin 16 := ⟨posN j % 16, by omega⟩

theorem posV_col (j : Fin 136) (τ : Fin 256) : posV (ix2 j τ) = BitVec.ofNat 32 (posN j) := by
  unfold posV
  have e : broadcastTo S136x256 (shapeCast S136x1 posCol shapeCasts_S136x1_S136x1) broadcasts_S136x1_S136x256 (ix2 j τ) = posCol (ix2 j 0) := by
    rw [shapeCast_self]
    refine congrArg posCol (funext fun a => ?_)
    match a with | ⟨0, _⟩ => rfl | ⟨1, _⟩ => rfl
  rw [e]
  fin_cases j <;> rfl

theorem stack136_A {α : Type} (f0 : S16x256.Idx → α) (f : ℕ → S8x256.Idx → α) (j : Fin 136) (h : j.val < 16) (τ : Fin 256) :
    stack136 f0 f (ix2 j τ) = f0 (ix2 ⟨j.val, h⟩ τ) := by
  unfold stack136
  refine concatenate_apply_piece (t := S136x256) (0 : Fin 2) _ _ (ix2 j τ) 0 (by simp) S16x256 f0 rfl rfl 0 rfl (ix2 ⟨j.val, h⟩ τ) (fun b hb => ?_) (Nat.zero_add _)
  match b with | ⟨0, _⟩ => exact absurd rfl hb | ⟨1, _⟩ => rfl

set_option maxHeartbeats 2000000 in
theorem stack136_B {α : Type} (f0 : S16x256.Idx → α) (f : ℕ → S8x256.Idx → α) (j : Fin 136) (A : ℕ) (b : Fin 8) (hA : 1 ≤ A) (hA' : A < 16)
    (hj : j.val = 8 + 8 * A + b.val) (τ : Fin 256) : stack136 f0 f (ix2 j τ) = f A (ix2 b τ) := by
  unfold stack136
  have hi : ∀ c : Fin 2, c ≠ (0 : Fin 2) → ((ix2 b τ : S8x256.Idx) c).val = ((ix2 j τ : S136x256.Idx) c).val := by
    intro c hc
    match c with | ⟨0, _⟩ => exact absurd rfl hc | ⟨1, _⟩ => rfl
  interval_cases A
  · exact concatenate_apply_piece (t := S136x256) (0 : Fin 2) _ _ (ix2 j τ) 1 (by simp) S8x256 (f 1) rfl rfl 16 rfl (ix2 b τ) hi hj.symm
  · exact concatenate_apply_piece (t := S136x256) (0 : Fin 2) _ _ (ix2 j τ) 2 (by simp) S8x256 (f 2) rfl rfl 24 rfl (ix2 b τ) hi hj.symm
  · exact concatenate_apply_piece (t := S136x256) (0 : Fin 2) _ _ (ix2 j τ) 3 (by simp) S8x256 (f 3) rfl rfl 32 rfl (ix2 b τ) hi hj.symm
  · exact concatenate_apply_piece (t := S136x256) (0 : Fin 2) _ _ (ix2 j τ) 4 (by simp) S8x256 (f 4) rfl rfl 40 rfl (ix2 b τ) hi hj.symm
  · exact concatenate_apply_piece (t := S136x256) (0 : Fin 2) _ _ (ix2 j τ) 5 (by simp) S8x256 (f 5) rfl rfl 48 rfl (ix2 b τ) hi hj.symm
  · exact concatenate_apply_piece (t := S136x256) (0 : Fin 2) _ _ (ix2 j τ) 6 (by simp) S8x256 (f 6) rfl rfl 56 rfl (ix2 b τ) hi hj.symm
  · exact concatenate_apply_piece (t := S136x256) (0 : Fin 2) _ _ (ix2 j τ) 7 (by simp) S8x256 (f 7) rfl rfl 64 rfl (ix2 b τ) hi hj.symm
  · exact concatenate_apply_piece (t := S136x256) (0 : Fin 2) _ _ (ix2 j τ) 8 (by simp) S8x256 (f 8) rfl rfl 72 rfl (ix2 b τ) hi hj.symm
  · exact concatenate_apply_piece (t := S136x256) (0 : Fin 2) _ _ (ix2 j τ) 9 (by simp) S8x256 (f 9) rfl rfl 80 rfl (ix2 b τ) hi hj.symm
  · exact concatenate_apply_piece (t := S136x256) (0 : Fin 2) _ _ (ix2 j τ) 10 (by simp) S8x256 (f 10) rfl rfl 88 rfl (ix2 b τ) hi hj.symm
  · exact concatenate_apply_piece (t := S136x256) (0 : Fin 2) _ _ (ix2 j τ) 11 (by simp) S8x256 (f 11) rfl rfl 96 rfl (ix2 b τ) hi hj.symm
  · exact concatenate_apply_piece (t := S136x256) (0 : Fin 2) _ _ (ix2 j τ) 12 (by simp) S8x256 (f 12) rfl rfl 104 rfl (ix2 b τ) hi hj.symm
  · exact concatenate_apply_piece (t := S136x256) (0 : Fin 2) _ _ (ix2 j τ) 13 (by simp) S8x256 (f 13) rfl rfl 112 rfl (ix2 b τ) hi hj.symm
  · exact concatenate_apply_piece (t := S136x256) (0 : Fin 2) _ _ (ix2 j τ) 14 (by simp) S8x256 (f 14) rfl rfl 120 rfl (ix2 b τ) hi hj.symm
  · exact concatenate_apply_piece (t := S136x256) (0 : Fin 2) _ _ (ix2 j τ) 15 (by simp) S8x256 (f 15) rfl rfl 128 rfl (ix2 b τ) hi hj.symm

end Cert.KernelIdeal.Hand

end

end
-- ==== Proof.ColC.lean ====
module

public import proofs.«01_k».proof.Proof.Stack
public import Idealize.ShloMosaic.Lib.Pointwise
public import Idealize.ShloMosaic.Lib.Pipeline.Value
public import Idealize.ShloMosaic.Lib.WordSum

@[expose] public section

set_option maxRecDepth 16384

noncomputable section

namespace Cert.KernelIdeal.Hand

open Cert.KernelIdeal Cert.KernelIdeal.Gen Cert.Rank
open Idealize.ShloMosaic Idealize.ShloMosaic.TcCoe Idealize.ShloMosaic.Tactic

/-! # The rounds over the 136 candidates, one token at a time -/

theorem candV_col (v1 v2 : FVec Ideal S16x256 .f32) (j : Fin 136) (τ : Fin 256) :
    col (candV v1 v2) τ j = (col v1 τ (posA j) + col v2 τ (posB j) : EReal) := by
  show candV v1 v2 (ix2 j τ) = _
  unfold candV
  by_cases h : j.val < 16
  · rw [stack136_A _ _ _ h]
    show (bcA (row16 0 v1) (ix2 ⟨j.val, h⟩ τ) : EReal) + v2 (ix2 ⟨j.val, h⟩ τ) = _
    have e1 : bcA (row16 0 v1) (ix2 ⟨j.val, h⟩ τ) = row16 0 v1 (ix2 0 τ) := by
      unfold bcA; simp only [pointwise]; congr 1
    have ea : posA j = 0 := Fin.ext (by unfold posA posN; simp only [h, if_true]; show j.val / 16 = 0; omega)
    have eb : posB j = ⟨j.val, h⟩ := Fin.ext (by unfold posB posN; simp only [h, if_true]; omega)
    rw [e1, row16_col, ea, eb]; rfl
  · have hj := j.isLt
    rw [stack136_B _ _ j ((j.val - 16) / 8 + 1) ⟨(j.val - 16) % 8, by omega⟩ (by omega) (by omega) (by simp only; omega)]
    generalize hA : (j.val - 16) / 8 + 1 = A
    have hA' : A < 16 := by omega
    have ea : posA j = ⟨A, hA'⟩ := Fin.ext (by unfold posA posN; simp only [h, if_false]; omega)
    have eb : posB j = ⟨(j.val - 16) % 8, by omega⟩ := Fin.ext (by unfold posB posN; simp only [h, if_false]; omega)
    unfold candB
    show (broadcastTo S8x256 (row16 (Fin.ofNat 16 A) v1) broadcasts_S1x256_S8x256 (ix2 ⟨(j.val - 16) % 8, by omega⟩ τ) : EReal)
      + extractStridedSlice S8x256 ![0, 0] v2 slices_S16x256_o0_0_S8x256 (ix2 ⟨(j.val - 16) % 8, by omega⟩ τ) = _
    have e1 : broadcastTo S8x256 (row16 (Fin.ofNat 16 A) v1) broadcasts_S1x256_S8x256 (ix2 ⟨(j.val - 16) % 8, by omega⟩ τ)
        = row16 (Fin.ofNat 16 A) v1 (ix2 0 τ) := by
      simp only [pointwise]; congr 1
    have e2 : extractStridedSlice S8x256 ![0, 0] v2 slices_S16x256_o0_0_S8x256 (ix2 ⟨(j.val - 16) % 8, by omega⟩ τ)
        = v2 (ix2 ⟨(j.val - 16) % 8, by omega⟩ τ) := by
      unfold extractStridedSlice
      refine congrArg v2 (funext fun a => ?_)
      match a with | ⟨0, _⟩ => exact Fin.ext (Nat.zero_add _) | ⟨1, _⟩ => exact Fin.ext (Nat.zero_add _)
    rw [e1, e2, row16_col, ea, eb]
    have e3 : Fin.ofNat 16 A = ⟨A, hA'⟩ := Fin.ext (Nat.mod_eq_of_lt hA')
    rw [e3]; rfl

theorem rmxC_col (x : FVec Ideal S136x256 .f32) (τ : Fin 256) : rmxC x (ix1 τ) = mx (col x τ) := by
  unfold rmxC
  refine (Ideal.multiReduction_maximumf_single _ _ _ _ _ _).trans ?_
  rw [ninf_eq]
  unfold mx Finset.sup
  refine Finset.fold_congr fun k _ => congrArg x ?_
  funext a; match a with | ⟨0, _⟩ => rfl | ⟨1, _⟩ => rfl

theorem mxC_col (x : FVec Ideal S136x256 .f32) (τ : Fin 256) : mxC x (ix2 0 τ) = mx (col x τ) := by
  rw [← rmxC_col]
  unfold mxC
  refine (shapeCast_addUnit_apply ![256] _ _ (ix2 0 τ)).trans ?_
  congr 1
  funext a; match a with | ⟨0, _⟩ => rfl

theorem bcC_col {α : Type} (y : S1x256.Idx → α) (i : Fin 136) (τ : Fin 256) : bcC y (ix2 i τ) = y (ix2 0 τ) := by
  unfold bcC
  simp only [pointwise]
  congr 1

theorem eqC_col (x : FVec Ideal S136x256 .f32) (i : Fin 136) (τ : Fin 256) :
    eqC x (ix2 i τ) = 1#1 ↔ col x τ i = mx (col x τ) := by
  unfold eqC
  show Ideal.cmp .oeq (x (ix2 i τ)) (bcC (mxC x) (ix2 i τ)) = 1#1 ↔ _
  rw [bcC_col, mxC_col]
  exact (ofBool_iff _).trans decide_eq_true_iff

theorem cutC_col (sel : IVec S136x256 1) (x : FVec Ideal S136x256 .f32) (i : Fin 136) (τ : Fin 256) (P : Prop) [Decidable P]
    (h : sel (ix2 i τ) = 1#1 ↔ P) : cutC sel x (ix2 i τ) = if P then (⊥ : EReal) else x (ix2 i τ) := by
  have e : (broadcast S136x256 (Scalar.ofBits .f32 0xFF800000#32) : FVec Ideal S136x256 .f32) (ix2 i τ) = (⊥ : EReal) := ninf_eq
  unfold cutC
  rw [show select sel (broadcast S136x256 (Scalar.ofBits .f32 0xFF800000#32)) x (ix2 i τ) = Scalar.select (sel (ix2 i τ)) ((broadcast S136x256 (Scalar.ofBits .f32 0xFF800000#32) : FVec Ideal S136x256 .f32) (ix2 i τ)) (x (ix2 i τ)) from rfl, e]
  exact select_iff h _ _

open scoped Classical in
theorem ecur_col (s : FVec Ideal S136x256 .f32) (τ : Fin 256) : ∀ n, col (ecur s n) τ = dc (col s τ) n
  | 0 => rfl
  | n + 1 => by
    funext i
    have ih := ecur_col s τ n
    show cutC (eqC (ecur s n)) (ecur s n) (ix2 i τ) = _
    rw [cutC_col _ _ _ _ _ (eqC_col (ecur s n) i τ), ih]
    show _ = if dc (col s τ) n i = mx (dc (col s τ) n) then (⊥ : EReal) else dc (col s τ) n i
    rw [← ih]; congr

/-- The place number of the first candidate of the greatest value. -/
theorem ixC_col (x : FVec Ideal S136x256 .f32) (τ : Fin 256) {i : Fin 136} (hi : xsel (col x τ) i) :
    ixC x (ix2 0 τ) = BitVec.ofNat 32 (posN i) := by
  unfold ixC
  refine (shapeCast_addUnit_apply ![256] _ _ (ix2 0 τ)).trans ?_
  unfold minC
  refine (multiReductionI_eq_fold _ _ _ _ _ _).trans ((Shape.Reduces.fold_filter_drop_single _ _ _ _ _).trans ?_)
  have hp : ∀ k, posN k ≤ 2147483647 := fun k => by have := posN_lt k; omega
  have hw : wd (posN i) = BitVec.ofNat 32 (posN i) := by unfold wd; rw [min_eq_left (hp i)]
  rw [← hw]
  classical
  refine fold_minsi (fun k : Fin 136 => if col x τ k = mx (col x τ) then posN k else 256) _ (fun k => ?_) (i := i) ?_ ?_ (hp i)
  · have el' : (reduces_S136x256_S256.lift (fun a => (ix2 0 τ : S1x256.Idx) a.succ) k) = ix2 k τ := by
      funext a; match a with | ⟨0, _⟩ => rfl | ⟨1, _⟩ => rfl
    refine (congrArg (select (eqC x) posV (broadcast S136x256 256#32)) el').trans ?_
    show Scalar.select (eqC x (ix2 k τ)) (posV (ix2 k τ)) 256#32 = _
    rw [select_iff (eqC_col x k τ), posV_col]
    split
    · unfold wd; rw [min_eq_left (hp k)]
    · rfl
  · exact if_pos hi.1
  · intro k
    by_cases hc : col x τ k = mx (col x τ)
    · simp only [hc, if_true]
      by_contra hlt
      refine hi.2 k ?_ hc
      by_contra hn
      rcases lt_or_eq_of_le (not_lt.1 hn) with h | h
      · have := posN_mono h; omega
      · rw [h] at hlt; omega
    · simp only [hc, if_false]; have := posN_lt i; omega

theorem bv_eq_iff {a b : ℕ} (ha : a < 2 ^ 31) (hb : b < 2 ^ 31) : IntOp.cmpi .eq (BitVec.ofNat 32 a) (BitVec.ofNat 32 b) = 1#1 ↔ a = b := by
  unfold IntOp.cmpi
  rw [ofBool_iff, beq_iff_eq, ← BitVec.toNat_inj, BitVec.toNat_ofNat, BitVec.toNat_ofNat]
  omega

theorem pselC_col (x : FVec Ideal S136x256 .f32) (i : Fin 136) (τ : Fin 256) : pselC x (ix2 i τ) = 1#1 ↔ xsel (col x τ) i := by
  obtain ⟨i0, h0⟩ := exists_xsel (by decide) (col x τ)
  unfold pselC
  show IntOp.cmpi .eq (posV (ix2 i τ)) (bcC (ixC x) (ix2 i τ)) = 1#1 ↔ _
  rw [posV_col, bcC_col, ixC_col x τ h0, bv_eq_iff (by have := posN_lt i; omega) (by have := posN_lt i0; omega)]
  exact ⟨fun h => posN_inj h ▸ h0, fun h => by rw [xsel_unique h h0]⟩

open scoped Classical in
theorem ccur_col (s : FVec Ideal S136x256 .f32) (τ : Fin 256) : ∀ n, col (ccur s n) τ = xc (col s τ) n
  | 0 => rfl
  | n + 1 => by
    funext i
    have ih := ccur_col s τ n
    show cutC (pselC (ccur s n)) (ccur s n) (ix2 i τ) = _
    rw [cutC_col _ _ _ _ _ (pselC_col (ccur s n) i τ), ih]
    show _ = if xsel (xc (col s τ) n) i then (⊥ : EReal) else xc (col s τ) n i
    rw [← ih]; congr

theorem cmpf_oge {s : Shape} (x y : FVec Ideal s .f32) (i : s.Idx) : cmpf .oge x y i = Ideal.cmp .oge (x i) (y i) := rfl

theorem cmp_oge (a M : EReal) : Ideal.cmp .oge a M = 1#1 ↔ M ≤ a := (ofBool_iff _).trans decide_eq_true_iff

theorem mem_above_iff {N : ℕ} (v : Fin N → EReal) (K : ℕ) (i : Fin N) : i ∈ above v K ↔ mx (dc v K) ≤ v i := by
  unfold above
  rw [Finset.mem_filter]
  exact ⟨fun h => h.2, fun h => ⟨Finset.mem_univ _, h⟩⟩

theorem selc_gen (c : FVec Ideal S136x256 .f32) (n : ℕ) (i : Fin 136) (τ : Fin 256) :
    cmpf .oge c (bcC (mxC (ecur c n))) (ix2 i τ) = 1#1 ↔ i ∈ above (col c τ) n := by
  rw [cmpf_oge, bcC_col, mxC_col, ecur_col, mem_above_iff, cmp_oge]
  rfl

theorem selc_col (c : FVec Ideal S136x256 .f32) (i : Fin 136) (τ : Fin 256) :
    selc c (ix2 i τ) = 1#1 ↔ i ∈ above (col c τ) 15 := selc_gen c 15 i τ

end Cert.KernelIdeal.Hand

end

end
-- ==== Proof.ColN.lean ====
module

public import proofs.«01_k».proof.Proof.ColC
public import Idealize.ShloMosaic.Lib.Pointwise
public import Idealize.ShloMosaic.Lib.Pipeline.Value
public import Idealize.ShloMosaic.Lib.WordSum

@[expose] public section

set_option maxRecDepth 16384

noncomputable section

namespace Cert.KernelIdeal.Hand

open Cert.KernelIdeal Cert.KernelIdeal.Gen Cert.Rank
open Idealize.ShloMosaic Idealize.ShloMosaic.TcCoe Idealize.ShloMosaic.Tactic

/-! # Counts, one token at a time -/

theorem fold_addi {n : ℕ} (f : Fin n → ℕ) (g : Fin n → BitVec 32) (hg : ∀ k, g k = BitVec.ofNat 32 (f k)) :
    (Finset.univ : Finset (Fin n)).fold IntOp.addi 0#32 g = BitVec.ofNat 32 (∑ k, f k) := by
  have eg : g = fun k => BitVec.ofNat 32 (f k) := funext hg
  subst eg
  generalize (Finset.univ : Finset (Fin n)) = S
  induction S using Finset.induction_on with
  | empty => rfl
  | insert a S ha ih =>
    rw [Finset.fold_insert ha, Finset.sum_insert ha, ih, BitVec.ofNat_add]
    rfl

theorem extui_bit {c : BitVec 1} {P : Prop} [Decidable P] (h : c = 1#1 ↔ P) : (c.setWidth 32) = BitVec.ofNat 32 (if P then 1 else 0) := by
  by_cases hc : P
  · rw [if_pos hc, h.2 hc]; rfl
  · rw [if_neg hc]
    have : c = 0#1 := by
      have hn : ¬ c = 1#1 := fun e => hc (h.1 e)
      clear h; revert c; decide
    rw [this]; rfl

open scoped Classical in
theorem cntA_col (sel : IVec S136x256 1) (τ : Fin 256) (A : Finset (Fin 136)) (h : ∀ i, sel (ix2 i τ) = 1#1 ↔ i ∈ A) :
    cntA sel (ix2 0 τ) = BitVec.ofNat 32 (∑ b : Fin 16, if (⟨b.val, by omega⟩ : Fin 136) ∈ A then 1 else 0) := by
  unfold cntA
  refine (shapeCast_addUnit_apply ![256] _ _ (ix2 0 τ)).trans ?_
  refine (multiReductionI_eq_fold _ _ _ _ _ _).trans ((Shape.Reduces.fold_filter_drop_single _ _ _ _ _).trans ?_)
  refine fold_addi (n := 16) _ _ fun k => ?_
  refine Eq.trans ?_ (extui_bit (h _))
  refine congrArg (fun i => (sel i).setWidth 32) ?_
  funext a; match a with | ⟨0, _⟩ => exact Fin.ext (Nat.zero_add _) | ⟨1, _⟩ => exact Fin.ext (Nat.zero_add _)

open scoped Classical in
theorem cntB_col (o : ℕ) (hs : S136x256.Slices ![o, 0] S8x256) (ho : o ≤ 128) (sel : IVec S136x256 1) (τ : Fin 256) (A : Finset (Fin 136))
    (h : ∀ i, sel (ix2 i τ) = 1#1 ↔ i ∈ A) :
    cntB o hs sel (ix2 0 τ) = BitVec.ofNat 32 (∑ b : Fin 8, if (⟨o + b.val, by omega⟩ : Fin 136) ∈ A then 1 else 0) := by
  unfold cntB
  refine (shapeCast_addUnit_apply ![256] _ _ (ix2 0 τ)).trans ?_
  refine (multiReductionI_eq_fold _ _ _ _ _ _).trans ((Shape.Reduces.fold_filter_drop_single _ _ _ _ _).trans ?_)
  refine fold_addi (n := 8) _ _ fun k => ?_
  refine Eq.trans ?_ (extui_bit (h _))
  refine congrArg (fun i => (sel i).setWidth 32) ?_
  funext a; match a with | ⟨0, _⟩ => rfl | ⟨1, _⟩ => exact Fin.ext (Nat.zero_add _)

open scoped Classical in
theorem sumA (A : Finset (Fin 136)) : (∑ b : Fin 16, if (⟨b.val, by omega⟩ : Fin 136) ∈ A then 1 else 0) = (A.filter fun i => posA i = 0).card := by
  rw [Finset.sum_boole, Nat.cast_id]
  refine Finset.card_bij (fun b _ => (⟨b.val, by omega⟩ : Fin 136)) ?_ ?_ ?_
  · intro b hb
    rw [Finset.mem_filter] at hb ⊢
    refine ⟨hb.2, Fin.ext ?_⟩
    have := b.isLt
    unfold posA posN; simp only [this, if_true]; show b.val / 16 = 0; omega
  · intro b _ b' _ e; exact Fin.ext (by simpa using e)
  · intro i hi
    rw [Finset.mem_filter] at hi
    have hl : i.val < 16 := by
      by_contra hn
      have := congrArg Fin.val hi.2
      unfold posA posN at this; simp only [hn, if_false] at this
      have e0 : ((0 : Fin 16)).val = 0 := rfl
      have hii := i.isLt
      omega
    exact ⟨⟨i.val, hl⟩, Finset.mem_filter.2 ⟨Finset.mem_univ _, hi.1⟩, rfl⟩

open scoped Classical in
theorem sumB (A : Finset (Fin 136)) (a : Fin 16) (ha : 1 ≤ a.val) (o : ℕ) (ho : o = 8 + 8 * a.val) :
    (∑ b : Fin 8, if (⟨o + b.val, by omega⟩ : Fin 136) ∈ A then 1 else 0) = (A.filter fun i => posA i = a).card := by
  rw [Finset.sum_boole, Nat.cast_id]
  refine Finset.card_bij (fun b _ => (⟨o + b.val, by omega⟩ : Fin 136)) ?_ ?_ ?_
  · intro b hb
    rw [Finset.mem_filter] at hb ⊢
    refine ⟨hb.2, Fin.ext ?_⟩
    have := b.isLt
    have hn : ¬ (o + b.val < 16) := by omega
    unfold posA posN; simp only [hn, if_false]; omega
  · intro b _ b' _ e; exact Fin.ext (by have := congrArg Fin.val e; simp only at this; omega)
  · intro i hi
    rw [Finset.mem_filter] at hi
    have hii := i.isLt
    have e := congrArg Fin.val hi.2
    by_cases hl : i.val < 16
    · unfold posA posN at e; simp only [hl, if_true] at e; omega
    · unfold posA posN at e; simp only [hl, if_false] at e
      refine ⟨⟨i.val - o, by omega⟩, Finset.mem_filter.2 ⟨Finset.mem_univ _, ?_⟩, Fin.ext (by simp only; omega)⟩
      have : (⟨o + (i.val - o), by omega⟩ : Fin 136) = i := Fin.ext (by simp only; omega)
      rw [this]; exact hi.1

/-- Sixteen rows put under one another, read at a row. -/
theorem rows16 {α : Type} (x : Fin 16 → S1x256.Idx → α) (h) (p : Fin 16) (τ : Fin 256) :
    concatenate S16x256 0 [⟨S1x256, x 0⟩, ⟨S1x256, x 1⟩, ⟨S1x256, x 2⟩, ⟨S1x256, x 3⟩, ⟨S1x256, x 4⟩, ⟨S1x256, x 5⟩, ⟨S1x256, x 6⟩, ⟨S1x256, x 7⟩, ⟨S1x256, x 8⟩, ⟨S1x256, x 9⟩, ⟨S1x256, x 10⟩, ⟨S1x256, x 11⟩, ⟨S1x256, x 12⟩, ⟨S1x256, x 13⟩, ⟨S1x256, x 14⟩, ⟨S1x256, x 15⟩] h (ix2 p τ)
      = x p (ix2 0 τ) := by
  refine (stack16_col (fun n => x (Fin.ofNat 16 n)) p τ).trans ?_
  have e3 : Fin.ofNat 16 p.val = p := Fin.ext (Nat.mod_eq_of_lt p.isLt)
  show x (Fin.ofNat 16 p.val) _ = _
  rw [e3]

theorem slicesB (a : Fin 16) : S136x256.Slices ![8 + 8 * a.val, 0] S8x256 := by
  revert a; decide

open scoped Classical in
theorem cntV_col (sel : IVec S136x256 1) (τ : Fin 256) (A : Finset (Fin 136)) (h : ∀ i, sel (ix2 i τ) = 1#1 ↔ i ∈ A) (a : Fin 16) :
    cntV sel (ix2 a τ) = BitVec.ofNat 32 (A.filter fun i => posA i = a).card := by
  unfold cntV
  refine (rows16 (fun a => if a.val = 0 then cntA sel else cntB (8 + 8 * a.val) (slicesB a) sel) _ a τ).trans ?_
  by_cases ha : a.val = 0
  · simp only [ha, if_true]
    rw [cntA_col sel τ A h, sumA]
    have : a = 0 := Fin.ext ha
    rw [this]
  · simp only [ha, if_false]
    rw [cntB_col _ _ (by omega) sel τ A h, sumB A a (by omega) _ rfl]

open scoped Classical in
theorem rankedV_col (r : IVec S128x256 32) (τ : Fin 256) (f : Fin 128 → ℕ) (hf : ∀ i, f i ≤ 16)
    (h : ∀ i, r (ix2 i τ) = BitVec.ofNat 32 (f i)) :
    rankedV r (ix2 0 τ) = BitVec.ofNat 32 ((Finset.univ.filter fun i => f i < 16).card) := by
  unfold rankedV
  refine (shapeCast_addUnit_apply ![256] _ _ (ix2 0 τ)).trans ?_
  refine (multiReductionI_eq_fold _ _ _ _ _ _).trans ((Shape.Reduces.fold_filter_drop_single _ _ _ _ _).trans ?_)
  rw [show (Finset.univ.filter fun i => f i < 16).card = ∑ i, if f i < 16 then 1 else 0 by rw [Finset.sum_boole, Nat.cast_id]]
  refine fold_addi (n := 128) _ _ fun k => ?_
  have el' : (reduces_S128x256_S256.lift (fun a => (ix2 0 τ : S1x256.Idx) a.succ) k) = ix2 k τ := by
    funext a; match a with | ⟨0, _⟩ => rfl | ⟨1, _⟩ => rfl
  refine (congrArg (fun i => (cmpi .slt r (numK 16) i).setWidth 32) el').trans ?_
  refine extui_bit ?_
  show IntOp.cmpi .slt (r (ix2 k τ)) (BitVec.ofNat 32 16) = 1#1 ↔ _
  rw [h k]
  unfold IntOp.cmpi
  rw [ofBool_iff]
  show (BitVec.ofNat 32 (f k)).slt (BitVec.ofNat 32 16) = true ↔ _
  rw [BitVec.slt_eq_decide, decide_eq_true_iff, toInt_small (by have := hf k; omega), toInt_small (by omega)]
  omega

theorem sum16_col (cnt : IVec S16x256 32) (τ : Fin 256) (f : Fin 16 → ℕ) (h : ∀ i, cnt (ix2 i τ) = BitVec.ofNat 32 (f i)) :
    (shapeCast S1x256 (multiReductionI .add [0] S256 cnt 0#32 reduces_S16x256_S256 rfl) shapeCasts_S256_S1x256) (ix2 0 τ)
      = BitVec.ofNat 32 (∑ i, f i) := by
  refine (shapeCast_addUnit_apply ![256] _ _ (ix2 0 τ)).trans ?_
  refine (multiReductionI_eq_fold _ _ _ _ _ _).trans ((Shape.Reduces.fold_filter_drop_single _ _ _ _ _).trans ?_)
  refine fold_addi (n := 16) _ _ fun k => ?_
  have el' : (reduces_S16x256_S256.lift (fun a => (ix2 0 τ : S1x256.Idx) a.succ) k) = ix2 k τ := by
    funext a; match a with | ⟨0, _⟩ => rfl | ⟨1, _⟩ => rfl
  exact (congrArg cnt el').trans (h k)

theorem not16_zero {x : IVec S1x256 32} {i : S1x256.Idx} {n : ℕ} (hx : x i = BitVec.ofNat 32 n) (hn : n < 2 ^ 31) (h : not16 x i = 0#1) : n = 16 := by
  unfold not16 at h
  have h : IntOp.cmpi .ne (x i) 16#32 = 0#1 := h
  rw [hx] at h
  by_contra hne
  have : IntOp.cmpi .ne (BitVec.ofNat 32 n) 16#32 = 1#1 := by
    unfold IntOp.cmpi
    rw [ofBool_iff]
    show (BitVec.ofNat 32 n != 16#32) = true
    rw [bne_iff_ne]
    intro e
    have := congrArg BitVec.toNat e
    rw [BitVec.toNat_ofNat, BitVec.toNat_ofNat] at this
    omega
  rw [this] at h
  exact absurd h (by decide)

theorem or_zero3 {a b c : BitVec 1} (h : IntOp.ori (IntOp.ori a b) c = 0#1) : a = 0#1 ∧ b = 0#1 ∧ c = 0#1 := by
  revert a b c; decide

theorem maxsi_left (x y : BitVec 32) : x.toInt ≤ (IntOp.maxsi x y).toInt := by
  unfold IntOp.maxsi
  split
  · exact le_rfl
  · rename_i h; simp only [BitVec.slt_eq_decide, decide_eq_true_iff] at h; omega

/-- When no token of the block is marked, none is. -/
theorem bad_col {b : IVec S1x256 1} (h : badS b ≠ 1#1) (τ : Fin 256) : b (ix2 0 τ) = 0#1 := by
  by_contra hb
  have hb : b (ix2 0 τ) = 1#1 := by
    generalize b (ix2 0 τ) = c at hb; clear h; revert c; decide
  refine h ?_
  unfold badS
  have key : ∀ (j : S1.Idx), 0 < (multiReductionI .maxsi [1, 2] S1
      (shapeCast S1x1x256 (extui 32 b natLt_1_32) shapeCasts_S1x256_S1x1x256)
      2147483648#32 reduces_S1x1x256_S1 rfl j).toInt := by
    intro j
    refine lt_of_lt_of_eq ?_ (congrArg BitVec.toInt (multiReductionI_eq_fold _ _ _ _ _ _).symm)
    have hin : (ix3 0 0 τ : S1x1x256.Idx) ∈ (Finset.univ.filter fun i => reduces_S1x1x256_S1.drop i = j) := by
      rw [Finset.mem_filter]
      refine ⟨Finset.mem_univ _, funext fun a => ?_⟩
      match a with | ⟨0, _⟩ => exact Subsingleton.elim (α := Fin 1) _ _
    rw [← Finset.insert_erase hin, Finset.fold_insert (Finset.notMem_erase _ _)]
    refine lt_of_lt_of_le ?_ (maxsi_left _ _)
    have e : shapeCast S1x1x256 (extui 32 b natLt_1_32) shapeCasts_S1x256_S1x1x256 (ix3 0 0 τ) = (b (ix2 0 τ)).setWidth 32 := by
      refine (shapeCast_addUnit_apply ![1, 256] _ _ (ix3 0 0 τ)).trans ?_
      refine congrArg (fun i => (b i).setWidth 32) ?_
      funext a; match a with | ⟨0, _⟩ => rfl | ⟨1, _⟩ => rfl
    rw [e, hb]; decide
  have fin : ∀ w : BitVec 32, 0 < w.toInt → Scalar.cmpi .ne (Scalar.extui (Scalar.cmpi .sgt w 0#32) : BitVec 32) 0#32 = 1#1 := by
    intro w hw
    have e : Scalar.cmpi .sgt w 0#32 = 1#1 := by
      refine (ofBool_iff _).2 ?_
      show (0#32).slt w = true
      rw [BitVec.slt_eq_decide, decide_eq_true_iff]
      exact hw
    rw [e]; rfl
  exact fin _ (key _)

theorem notBad {r1 r2 : IVec S128x256 32} {cnt : IVec S16x256 32} (h : badS (badV r1 r2 cnt) ≠ 1#1) (τ : Fin 256) :
    not16 (rankedV r1) (ix2 0 τ) = 0#1 ∧ not16 (rankedV r2) (ix2 0 τ) = 0#1
      ∧ not16 (shapeCast S1x256 (multiReductionI .add [0] S256 cnt 0#32 reduces_S16x256_S256 rfl) shapeCasts_S256_S1x256) (ix2 0 τ) = 0#1 :=
  or_zero3 (bad_col h τ)

end Cert.KernelIdeal.Hand

end

end
-- ==== Proof.ColM.lean ====
module

public import proofs.«01_k».proof.Proof.ColN
public import Idealize.ShloMosaic.Lib.Pointwise
public import Idealize.ShloMosaic.Lib.Pipeline.Value
public import Idealize.ShloMosaic.Lib.WordSum

@[expose] public section

set_option maxRecDepth 16384

noncomputable section

namespace Cert.KernelIdeal.Hand

open Cert.KernelIdeal Cert.KernelIdeal.Gen Cert.Rank
open Idealize.ShloMosaic Idealize.ShloMosaic.TcCoe Idealize.ShloMosaic.Tactic

/-! # The masks, their population counts, and what a trip keeps -/

theorem bit_at : ∀ p : Fin 256, ∀ b : Fin 32,
    (IntOp.shli .vector 1#32 (IntOp.andi (BitVec.ofNat 32 p.val) 15#32)).getLsbD b.val = decide (p.val % 16 = b.val) := by
  decide +kernel

theorem row_at : ∀ p : Fin 256, IntOp.shrsi .vector (BitVec.ofNat 32 p.val) 4#32 = BitVec.ofNat 32 (p.val / 16) := by
  decide +kernel

theorem bcA_col {α : Type} (y : S1x256.Idx → α) (i : Fin 16) (τ : Fin 256) : bcA y (ix2 i τ) = y (ix2 0 τ) := by
  unfold bcA
  simp only [pointwise]
  congr 1

theorem iotaA_col (a : Fin 16) (τ : Fin 256) : iotaA (ix2 a τ) = BitVec.ofNat 32 a.val := by
  unfold iotaA
  show BitVec.ofNat 32 (0 * 16 + a.val) = _
  congr 1; omega

theorem rowA_col (x : IVec S1x256 32) (τ : Fin 256) (p : ℕ) (hp : p < 256) (hx : x (ix2 0 τ) = BitVec.ofNat 32 p) (a : Fin 16) :
    rowA x (ix2 a τ) = 1#1 ↔ p / 16 = a.val := by
  unfold rowA
  show IntOp.cmpi .eq (iotaA (ix2 a τ)) (bcA (shrsi x (broadcast S1x256 4#32)) (ix2 a τ)) = 1#1 ↔ _
  rw [bcA_col, iotaA_col]
  show IntOp.cmpi .eq _ (IntOp.shrsi .vector (x (ix2 0 τ)) 4#32) = 1#1 ↔ _
  rw [hx, row_at ⟨p, hp⟩]
  show IntOp.cmpi .eq (BitVec.ofNat 32 a.val) (BitVec.ofNat 32 (p / 16)) = 1#1 ↔ _
  have := a.isLt
  rw [bv_eq_iff (by omega) (by omega)]
  exact eq_comm

theorem cmask_col (c : FVec Ideal S136x256 .f32) (τ : Fin 256) (hv : ∀ i, (⊥ : EReal) < col c τ i) (a : Fin 16) (b : ℕ) (hb : b < 32) :
    ∀ n, n ≤ 16 → ((cmask c n (ix2 a τ)).getLsbD b = true ↔ ∃ i, rk (col c τ) i < n ∧ posN i / 16 = a.val ∧ posN i % 16 = b)
  | 0, _ => by
    constructor
    · intro h
      have : (0#32).getLsbD b = true := h
      simp at this
    · rintro ⟨i, h, _⟩; omega
  | n + 1, hn => by
    have ih := cmask_col c τ hv a b hb n (by omega)
    obtain ⟨i0, h0⟩ := rk_surj (col c τ) (show n < 136 by omega)
    have hx : ixC (ccur c n) (ix2 0 τ) = BitVec.ofNat 32 (posN i0) :=
      ixC_col _ τ (by rw [ccur_col]; exact (xsel_iff hv (show n < 136 by omega) i0).2 h0)
    have hsplit : (∃ i, rk (col c τ) i < n + 1 ∧ posN i / 16 = a.val ∧ posN i % 16 = b)
        ↔ (∃ i, rk (col c τ) i < n ∧ posN i / 16 = a.val ∧ posN i % 16 = b) ∨ (posN i0 / 16 = a.val ∧ posN i0 % 16 = b) := by
      constructor
      · rintro ⟨i, hi, h1⟩
        rcases Nat.lt_succ_iff_lt_or_eq.1 hi with l | l
        · exact .inl ⟨i, l, h1⟩
        · rw [rk_inj (col c τ) (l.trans h0.symm)] at h1; exact .inr h1
      · rintro (⟨i, hi, h1⟩ | h1)
        · exact ⟨i, by omega, h1⟩
        · exact ⟨i0, by omega, h1⟩
    rw [hsplit, ← ih]
    show (Scalar.select (rowA (ixC (ccur c n)) (ix2 a τ)) (IntOp.ori (cmask c n (ix2 a τ)) (bcA (bitA (ixC (ccur c n))) (ix2 a τ))) (cmask c n (ix2 a τ))).getLsbD b = true ↔ _
    rw [select_iff (rowA_col _ τ _ (posN_lt i0) hx a), bcA_col]
    by_cases hr : posN i0 / 16 = a.val
    · rw [if_pos hr]
      have e : bitA (ixC (ccur c n)) (ix2 0 τ) = IntOp.shli .vector 1#32 (IntOp.andi (BitVec.ofNat 32 (posN i0)) 15#32) := by
        rw [← hx]; rfl
      rw [e]
      have hbit := bit_at ⟨posN i0, posN_lt i0⟩ ⟨b, hb⟩
      show (cmask c n (ix2 a τ) ||| IntOp.shli .vector 1#32 (IntOp.andi (BitVec.ofNat 32 (posN i0)) 15#32)).getLsbD b = true ↔ _
      rw [BitVec.getLsbD_or, Bool.or_eq_true, hbit, decide_eq_true_iff]
      simp only [hr, true_and]
    · rw [if_neg hr]
      simp only [hr, false_and, or_false]

open scoped Classical in
theorem ccnt_col (c : FVec Ideal S136x256 .f32) (τ : Fin 256) (hv : ∀ i, (⊥ : EReal) < col c τ i) (a : Fin 16) :
    ccnt c (ix2 a τ) = BitVec.ofNat 32 ((Finset.univ.filter fun i => rk (col c τ) i < 16).filter fun i => posA i = a).card := by
  show BitVec.ofNat 32 ((List.range 32).filter fun b => (cmask c 16 (ix2 a τ)).getLsbD b).length = _
  congr 1
  have e : ((List.range 32).filter fun b => (cmask c 16 (ix2 a τ)).getLsbD b).length
      = ((Finset.range 32).filter fun b => (cmask c 16 (ix2 a τ)).getLsbD b = true).card := by
    rw [← List.toFinset_card_of_nodup (List.nodup_range.filter _)]
    congr 1
    ext b; simp
  rw [e]
  symm
  refine Finset.card_bij (fun i _ => posN i % 16) ?_ ?_ ?_
  · intro i hi
    simp only [Finset.mem_filter, Finset.mem_univ, true_and, Finset.mem_range] at hi ⊢
    refine ⟨by omega, (cmask_col c τ hv a _ (by omega) 16 le_rfl).2 ⟨i, hi.1, congrArg Fin.val hi.2, rfl⟩⟩
  · intro i hi j hj e
    simp only [Finset.mem_filter, Finset.mem_univ, true_and] at hi hj
    have h1 : posN i / 16 = a.val := congrArg Fin.val hi.2
    have h2 : posN j / 16 = a.val := congrArg Fin.val hj.2
    exact posN_inj (by omega)
  · intro b hb
    simp only [Finset.mem_filter, Finset.mem_range] at hb
    obtain ⟨i, h1, h2, h3⟩ := (cmask_col c τ hv a b hb.1 16 le_rfl).1 hb.2
    refine ⟨i, ?_, h3⟩
    simp only [Finset.mem_filter, Finset.mem_univ, true_and]
    exact ⟨h1, Fin.ext h2⟩

/-- The counts handed out, key by key. -/
theorem c1V_col (r : IVec S128x256 32) (cnt : IVec S16x256 32) (i : Fin 128) (τ : Fin 256) (k : ℕ) (hk : k ≤ 16)
    (hr : r (ix2 i τ) = BitVec.ofNat 32 k) : ∀ n, n ≤ 16 →
    c1V r cnt n (ix2 i τ) = if k < n then cnt (ix2 (Fin.ofNat 16 k) τ) else 0#32
  | 0, _ => by simp; rfl
  | n + 1, hn => by
    have ih := c1V_col r cnt i τ k hk hr n (by omega)
    show Scalar.select (IntOp.cmpi .eq (r (ix2 i τ)) (BitVec.ofNat 32 n)) (bcK (shapeCast S1x256 (row16 (Fin.ofNat 16 n) cnt) shapeCasts_S1x256_S1x256) (ix2 i τ)) (c1V r cnt n (ix2 i τ)) = _
    rw [hr, select_iff (bv_eq_iff (by omega) (by omega)), bcK_col, shapeCast_self, row16_col, ih]
    by_cases h : k = n
    · subst h; simp
    · rw [if_neg h]
      by_cases h2 : k < n
      · rw [if_pos h2, if_pos (by omega)]
      · rw [if_neg h2, if_neg (by omega)]

theorem z0_eq : (FloatOps.ofBits .f32 0x00000000#32 : Ideal .f32) = (0 : EReal) := by
  show Ideal.ofBits .f32 0x00000000#32 = _
  simp [Ideal.ofBits, Ideal.ieee]

/-- The sum of the exponentials of sixteen values against the greatest. -/
def zs (f : ℕ → EReal) (t : EReal) : ℕ → EReal
  | 0 => 0
  | n + 1 => zs f t n + Ideal.exp (f n - t)

theorem addexp (a b t : FVec Ideal S1x256 .f32) (i : S1x256.Idx) : addf a (exp (subf b t)) i = (a i + Ideal.exp (b i - t i) : EReal) := rfl

theorem cz_col (c : FVec Ideal S136x256 .f32) (top : FVec Ideal S1x256 .f32) (τ : Fin 256) :
    ∀ n, cz c top n (ix2 0 τ) = zs (fun k => mx (xc (col c τ) k)) (top (ix2 0 τ)) n
  | 0 => z0_eq
  | n + 1 => by
    have ih := cz_col c top τ n
    show addf (cz c top n) (exp (subf (mxC (ccur c n)) top)) (ix2 0 τ) = _
    rw [addexp, ih, mxC_col, ccur_col]
    rfl

theorem ez_col (c : FVec Ideal S136x256 .f32) (top : FVec Ideal S1x256 .f32) (τ : Fin 256) :
    ∀ n, ez c top n (ix2 0 τ) = zs (fun k => mx (dc (col c τ) k)) (top (ix2 0 τ)) n
  | 0 => z0_eq
  | n + 1 => by
    have ih := ez_col c top τ n
    show addf (ez c top n) (exp (subf (mxC (ecur c n)) top)) (ix2 0 τ) = _
    rw [addexp, ih, mxC_col, ecur_col]
    rfl

theorem zs_congr {f g : ℕ → EReal} {t t' : EReal} (ht : t = t') : ∀ n, (∀ k, k < n → f k = g k) → zs f t n = zs g t' n
  | 0, _ => rfl
  | n + 1, h => by
    show zs f t n + Ideal.exp (f n - t) = zs g t' n + Ideal.exp (g n - t')
    rw [zs_congr ht n fun k hk => h k (by omega), h n (by omega), ht]

theorem dvals_col (s : FVec Ideal S128x256 .f32) (p : Fin 16) (τ : Fin 256) : dvals s (ix2 p τ) = mx (dc (col s τ) p.val) := by
  unfold dvals
  rw [stack16_col, mxK_col, dcur_col]

theorem xvals_col (s : FVec Ideal S128x256 .f32) (p : Fin 16) (τ : Fin 256) : xvals s (ix2 p τ) = mx (xc (col s τ) p.val) := by
  unfold xvals
  rw [stack16_col, mxK_col, xcur_col]

/-- The value of rank `p` of a table. -/
def top {N : ℕ} (v : Fin N → EReal) (p : ℕ) : EReal := mx (xc v p)

/-- The 136 candidate sums of one token. -/
def cnd (v1 v2 : Fin 128 → EReal) : Fin 136 → EReal := fun j => top v1 (posA j).val + top v2 (posB j).val

theorem xcand_col (s1 s2 : FVec Ideal S128x256 .f32) (τ : Fin 256) : col (xcand s1 s2) τ = cnd (col s1 τ) (col s2 τ) := by
  funext j
  unfold xcand
  rw [candV_col]
  show (xvals s1 (ix2 _ τ) : EReal) + xvals s2 (ix2 _ τ) = _
  rw [xvals_col, xvals_col]; rfl

theorem dcand_col (s1 s2 : FVec Ideal S128x256 .f32) (τ : Fin 256) (h1 : Singles (col s1 τ) 16) (h2 : Singles (col s2 τ) 16) :
    col (dcand s1 s2) τ = cnd (col s1 τ) (col s2 τ) := by
  funext j
  unfold dcand
  rw [candV_col]
  show (dvals s1 (ix2 _ τ) : EReal) + dvals s2 (ix2 _ τ) = _
  rw [dvals_col, dvals_col, dc_eq_xc h1 _ (by omega), dc_eq_xc h2 _ (by omega)]; rfl

theorem dtop_col (s1 s2 : FVec Ideal S128x256 .f32) (τ : Fin 256) :
    dtop s1 s2 (ix2 0 τ) = (top (col s1 τ) 0 + top (col s2 τ) 0 : EReal) := by
  unfold dtop topV
  show (row16 0 (dvals s1) (ix2 0 τ) : EReal) + row16 0 (dvals s2) (ix2 0 τ) = _
  rw [row16_col, row16_col, dvals_col, dvals_col]; rfl

theorem top_pos {N : ℕ} {v : Fin N → EReal} (hv : ∀ i, (⊥ : EReal) < v i) {p : ℕ} (hp : p < N) : (⊥ : EReal) < top v p := by
  obtain ⟨i, hi⟩ := rk_surj v hp
  unfold top; rw [mx_xc hv hp hi]; exact hv i

theorem cnd_pos {v1 v2 : Fin 128 → EReal} (h1 : ∀ i, (⊥ : EReal) < v1 i) (h2 : ∀ i, (⊥ : EReal) < v2 i) (j : Fin 136) :
    (⊥ : EReal) < cnd v1 v2 j := by
  have a := top_pos h1 (show (posA j).val < 128 by omega)
  have b := top_pos h2 (show (posB j).val < 128 by omega)
  exact bot_lt_iff_ne_bot.2 (by rw [ne_eq, cnd, EReal.add_eq_bot_iff]; rintro (h | h); exacts [a.ne' h, b.ne' h])

open scoped Classical in
/-- When the fast rounds met no tie, each of them took one place. -/
theorem singles_of_fast {s1 s2 : FVec Ideal S128x256 .f32} (h : tieS s1 s2 ≠ 1#1) (τ : Fin 256) :
    Singles (col s1 τ) 16 ∧ Singles (col s2 τ) 16 ∧ (above (col (dcand s1 s2) τ) 15).card ≤ 16 := by
  obtain ⟨b1, b2, b3⟩ := notBad h τ
  have dr_le : ∀ (v : Fin 128 → EReal) n, n ≤ 16 → ∀ i, dr v 16 n i ≤ 16 := by
    intro v n
    induction n with
    | zero => intro _ i; exact le_rfl
    | succ n ih =>
      intro hn i
      show (if dc v n i = mx (dc v n) then n else dr v 16 n i) ≤ 16
      split
      · omega
      · exact ih (by omega) i
  have one : ∀ s : FVec Ideal S128x256 .f32, not16 (rankedV (drank s 16)) (ix2 0 τ) = 0#1 → Singles (col s τ) 16 := by
    intro s hb
    refine singles_of_card _ (by decide) ?_
    rw [taken_eq]
    have hr := rankedV_col (drank s 16) τ (dr (col s τ) 16 16) (dr_le _ 16 le_rfl) (fun i => drank_col s i τ 16)
    refine le_of_eq ?_
    refine not16_zero hr ?_ hb
    exact lt_of_le_of_lt (Finset.card_le_univ _) (by simp)
  refine ⟨one s1 b1, one s2 b2, ?_⟩
  have hc := sum16_col (cntV (selc (dcand s1 s2))) τ _ (fun a => cntV_col (selc (dcand s1 s2)) τ _ (fun i => selc_col (dcand s1 s2) i τ) a)
  have hsum : (∑ a : Fin 16, ((above (col (dcand s1 s2) τ) 15).filter fun i => posA i = a).card) = (above (col (dcand s1 s2) τ) 15).card :=
    (Finset.card_eq_sum_card_fiberwise (fun i _ => Finset.mem_univ _)).symm
  rw [hsum] at hc
  exact (not16_zero hc (lt_of_le_of_lt (Finset.card_le_univ _) (by simp)) b3).le

theorem keepR1_col {s1 s2 : FVec Ideal S128x256 .f32} (τ : Fin 256) (hv : ∀ i, (⊥ : EReal) < col s1 τ i) (i : Fin 128) :
    keepR1 s1 s2 (ix2 i τ) = BitVec.ofNat 32 (if rk (col s1 τ) i < 16 then rk (col s1 τ) i else 16) := by
  rw [← xr_eq hv 16 16 (by decide) i]
  unfold keepR1
  split
  · exact xrank_col s1 i τ 16
  · rename_i h
    rw [drank_col, dr_eq_xr (singles_of_fast h τ).1 16 16 le_rfl]

theorem keepR2_col {s1 s2 : FVec Ideal S128x256 .f32} (τ : Fin 256) (hv : ∀ i, (⊥ : EReal) < col s2 τ i) (i : Fin 128) :
    keepR2 s1 s2 (ix2 i τ) = BitVec.ofNat 32 (if rk (col s2 τ) i < 16 then rk (col s2 τ) i else 16) := by
  rw [← xr_eq hv 16 16 (by decide) i]
  unfold keepR2
  split
  · exact xrank_col s2 i τ 16
  · rename_i h
    rw [drank_col, dr_eq_xr (singles_of_fast h τ).2.1 16 16 le_rfl]

open scoped Classical in
theorem keepCnt_col {s1 s2 : FVec Ideal S128x256 .f32} (τ : Fin 256) (h1 : ∀ i, (⊥ : EReal) < col s1 τ i) (h2 : ∀ i, (⊥ : EReal) < col s2 τ i) (a : Fin 16) :
    keepCnt s1 s2 (ix2 a τ) = BitVec.ofNat 32
      ((Finset.univ.filter fun i => rk (cnd (col s1 τ) (col s2 τ)) i < 16).filter fun i => posA i = a).card := by
  have hc := cnd_pos h1 h2
  unfold keepCnt
  split
  · rw [ccnt_col _ _ (by rw [xcand_col]; exact hc), xcand_col]
  · rename_i h
    obtain ⟨g1, g2, g3⟩ := singles_of_fast h τ
    rw [cntV_col _ τ _ (fun i => selc_col _ i τ)]
    rw [dcand_col s1 s2 τ g1 g2] at g3 ⊢
    have e : above (cnd (col s1 τ) (col s2 τ)) 15 = Finset.univ.filter fun i => rk (cnd (col s1 τ) (col s2 τ)) i < 16 := by
      ext i
      rw [mem_above hc (by decide) g3, Finset.mem_filter]
      simp
    rw [e]

theorem keepZ_col {s1 s2 : FVec Ideal S128x256 .f32} (τ : Fin 256) :
    keepZ s1 s2 (ix2 0 τ) = zs (top (cnd (col s1 τ) (col s2 τ))) (top (col s1 τ) 0 + top (col s2 τ) 0) 16 := by
  unfold keepZ
  split
  · rw [cz_col, xcand_col, dtop_col]; rfl
  · rename_i h
    obtain ⟨g1, g2, g3⟩ := singles_of_fast h τ
    rw [ez_col, dtop_col]
    rw [dcand_col s1 s2 τ g1 g2] at g3 ⊢
    refine zs_congr rfl 16 fun k hk => ?_
    rw [dc_eq_xc (singles_of_above _ (by decide) g3) k (by omega)]
    rfl

end Cert.KernelIdeal.Hand

end

end
-- ==== Proof.Blk.lean ====
module

public import proofs.«01_k».proof.Proof.Run
public import proofs.«01_k».proof.Proof.ColM
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The blocks a grid point reads, at coordinates -/

variable (m : (ℓ : Loc nD τ sig) → Buf (Elt Ideal) ℓ) (c : Dev nD)

/-- The tokens. -/
abbrev aX : FVec Ideal S16384x4096 .f32 := m ((c.tc : Thread nD τ).loc main_arg0)
/-- The scales. -/
abbrev aG : FVec Ideal S1x4096 .f32 := m ((c.tc : Thread nD τ).loc main_arg1)
/-- The query weights. -/
abbrev aW : FVec Ideal S1x4096x2048 .f32 := m ((c.tc : Thread nD τ).loc main_arg2)
/-- The sub-keys. -/
abbrev aK : FVec Ideal S1x8x2x128x128 .f32 := m ((c.tc : Thread nD τ).loc main_arg3)

theorem idx_in : ∀ t : Fin cfg0.N, win0_0.index t = ![t.val, 0] ∧ win0_1.index t = ![0, 0] ∧ win0_2.index t = ![0, 0] ∧ win0_3.index t = ![0, 0, 0] :=
  (by decide +kernel : ∀ t : Fin grid0.N, _)

theorem idx_out : ∀ t : Fin cfg0.N, win0_4.index t = ![t.val, 0] ∧ win0_5.index t = ![0, 0, t.val] ∧ win0_6.index t = ![0, 0, t.val]
    ∧ win0_7.index t = ![0, 0, t.val] ∧ win0_8.index t = ![0, 0, t.val] :=
  (by decide +kernel : ∀ t : Fin grid0.N, _)

theorem N_eq : cfg0.N = 64 := by decide +kernel

/-- Token `a` of block `t`. -/
def tok (t : Fin cfg0.N) (a : Fin 256) : Fin 16384 := ⟨t.val * 256 + a.val, by have := t.isLt.trans_eq N_eq; omega⟩

theorem iblk0_at (t : Fin cfg0.N) (a : Fin 256) (d : Fin 4096) :
    (iblk m c 0 t : S256x4096.Idx → Elt Ideal .f32) (ix2 a d) = aX m c (ix2 (tok t a) d) := by
  unfold aX tok
  blk_simp [iblk, (idx_in t).1]
  rw [V_main_arg0]
  blk_ext [(idx_in t).1]

theorem iblk1_at (t : Fin cfg0.N) (a : Fin 1) (d : Fin 4096) :
    (iblk m c 1 t : S1x4096.Idx → Elt Ideal .f32) (ix2 a d) = aG m c (ix2 0 d) := by
  unfold aG
  blk_simp [iblk, (idx_in t).2.1]
  entry_read
  pointwise
  blk_ext [(idx_in t).2.1]

theorem iblk2_at (t : Fin cfg0.N) (d : Fin 4096) (e : Fin 2048) :
    (iblk m c 2 t : S4096x2048.Idx → Elt Ideal .bf16) (ix2 d e) = aW m c (ix3 0 d e) := by
  unfold aW
  blk_simp [iblk, (idx_in t).2.2.1]
  entry_read
  pointwise
  blk_ext [(idx_in t).2.2.1]

theorem iblk3_at (t : Fin cfg0.N) (h : Fin 8) (p : Fin 2) (n d : Fin 128) :
    (iblk m c 3 t : S16x128x128.Idx → Elt Ideal .bf16) (ix3 ⟨2 * h.val + p.val, by omega⟩ n d) = aK m c (ix5 0 h p n d) := by
  unfold aK
  blk_simp [iblk, (idx_in t).2.2.2]
  entry_read
  pointwise
  blk_ext [(idx_in t).2.2.2]

end Cert.KernelIdeal.Hand

end

end
-- ==== Proof.Score.lean ====
module

public import proofs.«01_k».proof.Proof.Blk

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The scores, written over the arguments

The normalised tokens, their queries and the scores of the rows, as sums over the arguments' entries, and that the kernel's
blocks hold them. -/

/-- The normalised tokens. -/
def xn (x : Fin 16384 → Fin 4096 → EReal) (g : Fin 4096 → EReal) (t : Fin 16384) (d : Fin 4096) : EReal :=
  x t d * Ideal.rsqrt (Ideal.div (∑ k, x t k * x t k) (Ideal.ofBits FTy.f32 1166016512#32) + Ideal.ofBits FTy.f32 897988541#32) * g d

/-- The queries. -/
def qq (x : Fin 16384 → Fin 4096 → EReal) (g : Fin 4096 → EReal) (w : Fin 4096 → Fin 2048 → EReal) (t : Fin 16384) (e : Fin 2048) : EReal :=
  ∑ d, xn x g t d * w d e

/-- Where the queries of half `p` of head `h` lie. -/
def qpos (h : Fin 8) (p : Fin 2) (d : Fin 128) : Fin 2048 := ⟨128 * (2 * h.val + p.val) + d.val, by omega⟩

/-- The scores of the rows of half `p` of head `h`, for token `t`. -/
def vs (x : Fin 16384 → Fin 4096 → EReal) (g : Fin 4096 → EReal) (w : Fin 4096 → Fin 2048 → EReal)
    (k : Fin 8 → Fin 2 → Fin 128 → Fin 128 → EReal) (h : Fin 8) (p : Fin 2) (t : Fin 16384) (n : Fin 128) : EReal :=
  ∑ d, k h p n d * qq x g w t (qpos h p d)

variable (m : (ℓ : Loc nD τ sig) → Buf (Elt Ideal) ℓ) (c : Dev nD)

/-- The tokens, by coordinates. -/
def fX (t : Fin 16384) (d : Fin 4096) : EReal := aX m c (ix2 t d)
/-- The scales, by coordinates. -/
def fG (d : Fin 4096) : EReal := aG m c (ix2 0 d)
/-- The query weights, by coordinates. -/
def fW (d : Fin 4096) (e : Fin 2048) : EReal := aW m c (ix3 0 d e)
/-- The sub-keys, by coordinates. -/
def fK (h : Fin 8) (p : Fin 2) (n d : Fin 128) : EReal := aK m c (ix5 0 h p n d)

/-- The scores the kernel takes. -/
def ks (h : Fin 8) (p : Fin 2) (t : Fin 16384) : Fin 128 → EReal := vs (fX m c) (fG m c) (fW m c) (fK m c) h p t

theorem pay383_at (t : Fin cfg0.N) (a : Fin 256) (d : Fin 4096) :
    k0_pay383 (F := Ideal) (iblk m c 0 t) (iblk m c 1 t) (ix2 a d) = (xn (fX m c) (fG m c) (tok t a) d : EReal) := by
  have hx : ∀ e, (iblk m c 0 t : FVec Ideal S256x4096 .f32) (ix2 a e) = fX m c (tok t a) e := fun e => iblk0_at m c t a e
  have hg : (iblk m c 1 t : FVec Ideal S1x4096 .f32) (ix2 0 d) = fG m c d := iblk1_at m c t 0 d
  generalize (iblk m c 0 t : FVec Ideal S256x4096 .f32) = x1 at hx
  generalize (iblk m c 1 t : FVec Ideal S1x4096 .f32) = x2 at hg
  change k0_pay383 (F := Ideal) x1 x2 (ix2 a d) = (_ : EReal)
  pointwise [k0_pay383]
  simp only [hx, hg, xn]

theorem pay384_of (y1 : Vec Ideal S256x4096 .f32) (y2 : Vec Ideal S1x4096 .f32) (x3 : Vec Ideal S4096x2048 .bf16) (a : Fin 256)
    (e : Fin 2048) : k0_pay384 (F := Ideal) y1 y2 x3 (ix2 a e) =
      (∑ d, (k0_pay383 (F := Ideal) y1 y2 (ix2 a d) : EReal) * (x3 (ix2 d e) : EReal) : EReal) := by
  unfold k0_pay384
  generalize k0_pay383 (F := Ideal) y1 y2 = y
  pointwise

theorem pay384_at (t : Fin cfg0.N) (a : Fin 256) (e : Fin 2048) :
    k0_pay384 (F := Ideal) (iblk m c 0 t) (iblk m c 1 t) (iblk m c 2 t) (ix2 a e) = (qq (fX m c) (fG m c) (fW m c) (tok t a) e : EReal) := by
  refine (pay384_of _ _ _ a e).trans ?_
  refine Finset.sum_congr rfl fun d _ => ?_
  refine congrArg₂ (fun u v : EReal => u * v) ?_ ?_
  · exact pay383_at m c t a d
  · exact iblk2_at m c t d e

theorem scV_at (k : Vec Ideal S1x128x128 .bf16) (q : Vec Ideal S1x256x128 .bf16) (n : Fin 128) (τ : Fin 256) :
    scV (F := Ideal) k q (ix2 n τ) = (∑ d, (k (ix3 0 n d) : EReal) * (q (ix3 0 τ d) : EReal) : EReal) := by
  pointwise [scV]

theorem trOf_val (h : Fin 8) : (trOf h).val = h.val := rfl

theorem ldK1_at (h : Fin 8) (x : S16x128x128.Idx → Elt Ideal .bf16) (n d : Fin 128) :
    ldK1 (trOf h) x (ix3 0 n d) = x (ix3 ⟨2 * h.val + (0 : Fin 2).val, by omega⟩ n d) := by
  unfold ldK1
  refine congrArg x (funext fun i => Fin.ext ?_)
  have := k0_off1_eq (trOf h)
  fin_cases i <;> simp [LoadRect.idx, Rect.toLoadRect, Rect.unit, this, trOf_val, ix3]

theorem ldK2_at (h : Fin 8) (x : S16x128x128.Idx → Elt Ideal .bf16) (n d : Fin 128) :
    ldK2 (trOf h) x (ix3 0 n d) = x (ix3 ⟨2 * h.val + (1 : Fin 2).val, by omega⟩ n d) := by
  unfold ldK2
  refine congrArg x (funext fun i => Fin.ext ?_)
  have := k0_off3_eq (trOf h)
  fin_cases i <;> simp [LoadRect.idx, Rect.toLoadRect, Rect.unit, this, trOf_val, ix3]

theorem ldQ1_at (h : Fin 8) (x : S16x256x128.Idx → Elt Ideal .bf16) (n : Fin 256) (d : Fin 128) :
    ldQ1 (trOf h) x (ix3 0 n d) = x (ix3 ⟨2 * h.val + (0 : Fin 2).val, by omega⟩ n d) := by
  unfold ldQ1
  refine congrArg x (funext fun i => Fin.ext ?_)
  have := k0_off2_eq (trOf h)
  fin_cases i <;> simp [LoadRect.idx, Rect.toLoadRect, Rect.unit, this, trOf_val, ix3]

theorem ldQ2_at (h : Fin 8) (x : S16x256x128.Idx → Elt Ideal .bf16) (n : Fin 256) (d : Fin 128) :
    ldQ2 (trOf h) x (ix3 0 n d) = x (ix3 ⟨2 * h.val + (1 : Fin 2).val, by omega⟩ n d) := by
  unfold ldQ2
  refine congrArg x (funext fun i => Fin.ext ?_)
  have := k0_off4_eq (trOf h)
  fin_cases i <;> simp [LoadRect.idx, Rect.toLoadRect, Rect.unit, this, trOf_val, ix3]

theorem sc1_col (t : Fin cfg0.N) (h : Fin 8) (τ : Fin 256) :
    col (sc1 (iblk m c 3 t) (qB m c t) (trOf h)) τ = ks m c h 0 (tok t τ) := by
  funext n
  refine (scV_at _ _ n τ).trans ?_
  unfold ks vs
  refine Finset.sum_congr rfl fun d _ => ?_
  refine congrArg₂ (fun u v : EReal => u * v) ?_ ?_
  · exact (ldK1_at h _ n d).trans (iblk3_at m c t h 0 n d)
  · exact (ldQ1_at h _ τ d).trans (pay384_at m c t τ (qpos h 0 d))

theorem sc2_col (t : Fin cfg0.N) (h : Fin 8) (τ : Fin 256) :
    col (sc2 (iblk m c 3 t) (qB m c t) (trOf h)) τ = ks m c h 1 (tok t τ) := by
  funext n
  refine (scV_at _ _ n τ).trans ?_
  unfold ks vs
  refine Finset.sum_congr rfl fun d _ => ?_
  refine congrArg₂ (fun u v : EReal => u * v) ?_ ?_
  · exact (ldK2_at h _ n d).trans (iblk3_at m c t h 1 n d)
  · exact (ldQ2_at h _ τ d).trans (pay384_at m c t τ (qpos h 1 d))

end Cert.KernelIdeal.Hand

end

end
-- ==== Proof.RefScore.lean ====
module

public import proofs.«01_k».proof.Proof.Gen.ReferenceIdeal.Run
public import proofs.«01_k».proof.Proof.Score
public import Idealize.ShloMosaic.Lib.Pointwise
public import Idealize.ShloMosaic.Lib.IdealHost

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.Tactic

/-! # The reference's scores at coordinates -/

/-- The reference's normalised tokens. -/
def rXN (x0 : FVec Ideal S16384x4096 .f32) (x1 : FVec Ideal S1x4096 .f32) : FVec Ideal S16384x4096 .f32 :=
  (mulf (mulf x0 (broadcastInDim S16384x4096 ![0, 1] bcast_S16384x1_S16384x4096_0_1 (Host.rsqrt (addf (Host.divf (broadcastInDim S16384x1 ![0] bcast_S16384_S16384x1_0 (Host.reduceAdd (mulf x0 x0) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ x1 shapeCasts_S1x4096_S4096))))

/-- The reference's queries. -/
def rQ (y : FVec Ideal S16384x4096 .f32) (x2 : FVec Ideal S1x4096x2048 .f32) : FVec Ideal S16384x8x2x128 .f32 :=
  shapeCast _ (Host.dotGeneral dot_S16384x4096_S4096x2048_S16384x2048_1_0_0_1_n_n none y (shapeCast _ x2 shapeCasts_S1x4096x2048_S4096x2048)) shapeCasts_S16384x2048_S16384x8x2x128

/-- The reference's scores of both halves. -/
def rS (q : FVec Ideal S16384x8x2x128 .f32) (x3 : FVec Ideal S1x8x2x128x128 .f32) : FVec Ideal S16384x8x2x128 .f32 :=
  (transpose S16384x8x2x128 [3, 0, 1, 2] (Host.dotGeneral dot_S8x2x128x128_S16384x8x2x128_S8x2x128x16384_3_3_2_0_01_12 none (shapeCast _ x3 shapeCasts_S1x8x2x128x128_S8x2x128x128) q) transposes_S8x2x128x16384_S16384x8x2x128_3_0_1_2)

/-- The scores of the first half. -/
def rS1 (s : FVec Ideal S16384x8x2x128 .f32) : FVec Ideal S16384x8x128 .f32 :=
  (shapeCast _ (extractStridedSlice S16384x8x1x128 ![0, 0, 0, 0] s slices_S16384x8x2x128_S16384x8x1x128_0_0_0_0) shapeCasts_S16384x8x1x128_S16384x8x128)
/-- The scores of the second half. -/
def rS2 (s : FVec Ideal S16384x8x2x128 .f32) : FVec Ideal S16384x8x128 .f32 :=
  (shapeCast _ (extractStridedSlice S16384x8x1x128 ![0, 0, 1, 0] s slices_S16384x8x2x128_S16384x8x1x128_0_0_1_0) shapeCasts_S16384x8x1x128_S16384x8x128)

theorem rXN_at (x0 : FVec Ideal S16384x4096 .f32) (x1 : FVec Ideal S1x4096 .f32) (t : Fin 16384) (d : Fin 4096) :
    rXN x0 x1 (ix2 t d) = (Cert.KernelIdeal.Hand.xn (fun t d => x0 (ix2 t d)) (fun d => x1 (ix2 0 d)) t d : EReal) := by
  pointwise [rXN]
  rfl

theorem rQ_at (y : FVec Ideal S16384x4096 .f32) (x2 : FVec Ideal S1x4096x2048 .f32) (t : Fin 16384) (h : Fin 8) (p : Fin 2) (d : Fin 128) :
    rQ y x2 (ix4 t h p d) = (∑ e, (y (ix2 t e) : EReal) * x2 (ix3 0 e (Cert.KernelIdeal.Hand.qpos h p d)) : EReal) := by
  pointwise [rQ]
  refine Finset.sum_congr rfl fun e _ => congrArg (fun k => (y (ix2 t e) : EReal) * x2 (ix3 0 e k)) (Fin.ext ?_)
  show h.val * 256 + p.val * 128 + d.val = 128 * (2 * h.val + p.val) + d.val
  omega

theorem rS_at (q : FVec Ideal S16384x8x2x128 .f32) (x3 : FVec Ideal S1x8x2x128x128 .f32) (t : Fin 16384) (h : Fin 8) (p : Fin 2) (n : Fin 128) :
    rS q x3 (ix4 t h p n) = (∑ d, (x3 (ix5 0 h p n d) : EReal) * q (ix4 t h p d) : EReal) := by
  pointwise [rS]

theorem rS1_at (s : FVec Ideal S16384x8x2x128 .f32) (t : Fin 16384) (h : Fin 8) (n : Fin 128) :
    rS1 s (ix3 t h n) = s (ix4 t h 0 n) := by
  pointwise [rS1]

theorem rS2_at (s : FVec Ideal S16384x8x2x128 .f32) (t : Fin 16384) (h : Fin 8) (n : Fin 128) :
    rS2 s (ix3 t h n) = s (ix4 t h 1 n) := by
  pointwise [rS2]

end Cert.ReferenceIdeal.Hand

end

end
-- ==== Proof.TopK.lean ====
module

public import proofs.«01_k».proof.Proof.Rank
public import Idealize.ShloMosaic.Lib.Pointwise

@[expose] public section

noncomputable section

open Finset
open scoped Classical
open Idealize.ShloMosaic Idealize.ShloMosaic.Pointwise

namespace Cert.Rank

/-! # The reference's selection takes the places in order

A stable sort by "greater" puts at place `p` the entry with `p` entries before it, and the greatest
`k` entries are its first `k`. -/

variable {N : ℕ}

/-- On positions in order, the stable sort by "greater" is the sort by `Bef`. -/
theorem stableSort_bef (v : Fin N → EReal) (R : Fin N → Fin N → Bool) (hR : ∀ a b, R a b = true ↔ v b < v a) :
    ∀ l : List (Fin N), l.Pairwise (· < ·) → stableSort R l = stableSort (fun a b => decide (Bef v a b)) l
  | [], _ => rfl
  | a :: l, h => by
    have hp := List.pairwise_cons.1 h
    rw [stableSort, stableSort, stableSort_bef v R hR l hp.2]
    refine insertBefore_congr _ _ a _ fun b hb => ?_
    have hab : a < b := hp.1 b ((perm_stableSort _ l).mem_iff.1 hb)
    rw [Bool.eq_iff_iff, hR, decide_eq_true_iff]
    unfold Bef
    exact ⟨fun h => .inl h, fun h => h.elim id fun h => absurd h.2 (not_lt.2 hab.le)⟩

theorem sortedFrom_bef (v : Fin N → EReal) (R : Fin N → Fin N → Bool) (hR : ∀ a b, R a b = true ↔ v b < v a) :
    sortedFrom R = sortedFrom fun a b => decide (Bef v a b) := by
  have e : sortPositions N R = sortPositions N fun a b => decide (Bef v a b) :=
    stableSort_bef v R hR _ (List.pairwise_lt_finRange N)
  funext k
  unfold sortedFrom
  rw [List.get_of_eq e]
  rfl

theorem bef_sorted (v : Fin N → EReal) {i j : Fin N} (h : i < j) :
    Bef v (sortedFrom (fun a b => decide (Bef v a b)) i) (sortedFrom (fun a b => decide (Bef v a b)) j) := by
  have := sortedFrom_noInversion (fun a b => decide (Bef v a b)) (fun a b => decide (Bef v a b))
    (fun a b h => by
      simp only [decide_eq_true_iff, decide_eq_false_iff_not] at h ⊢
      exact fun h' => bef_irrefl v a (bef_trans h h'))
    (fun a b h => h)
    (fun a b c h h' => by
      simp only [decide_eq_false_iff_not, bef_iff] at h h' ⊢
      omega) i j h
  simp only [decide_eq_false_iff_not] at this
  rcases bef_total (v := v) (i := sortedFrom (fun a b => decide (Bef v a b)) i) (j := sortedFrom (fun a b => decide (Bef v a b)) j)
    (fun e => h.ne (sortedFrom_injective _ e)) with b | b
  · exact b
  · exact absurd b this

theorem rk_sorted (v : Fin N → EReal) (R : Fin N → Fin N → Bool) (hR : ∀ a b, R a b = true ↔ v b < v a) (p : Fin N) :
    rk v (sortedFrom R p) = p.val := by
  rw [sortedFrom_bef v R hR]
  have e : (univ.filter fun j => Bef v j (sortedFrom (fun a b => decide (Bef v a b)) p))
      = (univ.filter fun i => i < p).image (sortedFrom fun a b => decide (Bef v a b)) := by
    ext j
    obtain ⟨i, rfl⟩ := sortedFrom_surjective (fun a b => decide (Bef v a b)) j
    simp only [mem_filter, mem_univ, true_and, mem_image]
    constructor
    · intro h
      refine ⟨i, ?_, rfl⟩
      by_contra hn
      rcases (not_lt.1 hn).lt_or_eq with l | l
      · exact bef_irrefl v _ (bef_trans h (bef_sorted v l))
      · subst l; exact bef_irrefl v _ h
    · rintro ⟨i', h, e⟩
      cases sortedFrom_injective _ e
      exact bef_sorted v h
  unfold rk
  rw [e, card_image_of_injective _ (sortedFrom_injective _)]
  have : (univ.filter fun i => i < p) = Iio p := by ext; simp
  rw [this, Fin.card_Iio]

theorem sorted_eq_at (v : Fin N → EReal) (R : Fin N → Fin N → Bool) (hR : ∀ a b, R a b = true ↔ v b < v a) (p : ℕ) (hp : p < N) :
    sortedFrom R ⟨p, hp⟩ = at_ v p hp := (at_eq hp (rk_sorted v R hR ⟨p, hp⟩)).symm

variable {n0 n1 n2 k : ℕ}

theorem along_ix3 (a : Fin n0) (b : Fin n1) (c e : Fin n2) :
    (ix3 a b c : (⟨3, ![n0, n1, n2]⟩ : Shape).Idx).along (2 : Fin 3) e = ix3 a b e := by
  funext i
  fin_cases i <;> rfl

theorem gt_iff (x y : EReal) : (FloatOps.cmpfTotal (F := Ideal) (φ := .f32) .gt x y == 1#1) = true ↔ y < x := by
  rw [Ideal.cmpfTotal_def]
  by_cases h : y < x <;> simp [Ideal.cmp, CmpDirection.ordered, h]

/-- The selection's values and places, of one row. -/
theorem topK_at (x : FVec Ideal (⟨3, ![n0, n1, n2]⟩ : Shape) .f32) (h : (⟨3, ![n0, n1, n2]⟩ : Shape).Slices (fun _ => 0) ⟨3, ![n0, n1, k]⟩)
    (a : Fin n0) (b : Fin n1) (p : Fin k) (hp : p.val < n2) :
    (Host.topK (⟨3, ![n0, n1, k]⟩ : Shape) 2 (FloatOps.cmpfTotal (F := Ideal) (φ := .f32) .gt) x h).1 (ix3 a b p)
      = x (ix3 a b (at_ (fun n => (x (ix3 a b n) : EReal)) p.val hp))
    ∧ (Host.topK (⟨3, ![n0, n1, k]⟩ : Shape) 2 (FloatOps.cmpfTotal (F := Ideal) (φ := .f32) .gt) x h).2 (ix3 a b p)
      = BitVec.ofNat 32 (at_ (fun n => (x (ix3 a b n) : EReal)) p.val hp).val := by
  have e : extractStridedSlice (⟨3, ![n0, n1, k]⟩ : Shape) (fun _ => 0) (fun j : (⟨3, ![n0, n1, n2]⟩ : Shape).Idx => j) h (ix3 a b p)
      = ix3 a b ⟨p.val, hp⟩ := by
    funext i
    fin_cases i <;> simp [extractStridedSlice, ix3] <;> rfl
  have hs := sorted_eq_at (fun n => (x (ix3 a b n) : EReal))
    (fun q q' => FloatOps.cmpfTotal (F := Ideal) (φ := .f32) .gt (x (ix3 a b q)) (x (ix3 a b q')) == 1#1) (fun q q' => gt_iff _ _) p.val hp
  have hh : ∀ {α : Type} (y : (⟨3, ![n0, n1, n2]⟩ : Shape).Idx → α),
      extractStridedSlice (⟨3, ![n0, n1, k]⟩ : Shape) (fun _ => 0) y h (ix3 a b p)
      = y (extractStridedSlice (⟨3, ![n0, n1, k]⟩ : Shape) (fun _ => 0) (fun j : (⟨3, ![n0, n1, n2]⟩ : Shape).Idx => j) h (ix3 a b p)) := fun y => rfl
  unfold Host.topK
  dsimp only
  unfold Host.sort2
  rw [dif_pos (show 2 < (⟨3, ![n0, n1, n2]⟩ : Shape).rank from (by decide : 2 < 3))]
  dsimp only
  have hl : ∀ q : Fin n2, (ix3 a b ⟨p.val, hp⟩ : (⟨3, ![n0, n1, n2]⟩ : Shape).Idx).along (2 : Fin 3) q = ix3 a b q :=
    along_ix3 a b _
  have hq : (ix3 a b ⟨p.val, hp⟩ : (⟨3, ![n0, n1, n2]⟩ : Shape).Idx) (2 : Fin 3) = (⟨p.val, hp⟩ : Fin n2) := rfl
  constructor
  · refine (hh _).trans ?_
    rw [e]
    refine (congrArg x (hl _)).trans ?_
    refine congrArg (fun q => x (ix3 a b q)) ?_
    refine Eq.trans ?_ hs
    refine congrArg₂ (fun R q => sortedFrom R q) ?_ hq
    funext q q'
    exact congrArg₂ (fun u v => FloatOps.cmpfTotal (F := Ideal) (φ := .f32) .gt (x u) (x v) == 1#1) (hl q) (hl q')
  · refine (hh _).trans ?_
    rw [e]
    refine (congrArg (fun i : (⟨3, ![n0, n1, n2]⟩ : Shape).Idx => iotaInDim (⟨3, ![n0, n1, n2]⟩ : Shape) 32 (2 : Fin 3) i) (hl _)).trans ?_
    refine congrArg (fun q : Fin n2 => BitVec.ofNat 32 q.val) ?_
    refine Eq.trans ?_ hs
    refine congrArg₂ (fun R q => sortedFrom R q) ?_ hq
    funext q q'
    exact congrArg₂ (fun u v => FloatOps.cmpfTotal (F := Ideal) (φ := .f32) .gt (x u) (x v) == 1#1) (hl q) (hl q')

end Cert.Rank

end

end
-- ==== Proof.Grid.lean ====
module

public import proofs.«01_k».proof.Proof.ColM
public import proofs.«01_k».proof.Proof.TopK

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The full grid of sums and the kernel's part of it

The reference adds every one of the first sixteen values of one half to every one of the other's and takes the sixteen
greatest of the 256 sums; the kernel looks at 136 of them. A sum it leaves out has sixteen before it. -/

open Finset Cert.Rank
open scoped Classical

theorem top_at {N : ℕ} {v : Fin N → EReal} (hv : ∀ i, (⊥ : EReal) < v i) {p : ℕ} (hp : p < N) : top v p = v (at_ v p hp) :=
  mx_xc hv hp (rk_at v p hp)

theorem top_anti {N : ℕ} {v : Fin N → EReal} (hv : ∀ i, (⊥ : EReal) < v i) {p p' : ℕ} (h : p ≤ p') (hp : p' < N) : top v p' ≤ top v p := by
  rw [top_at hv hp, top_at hv (h.trans_lt hp)]
  exact val_le_of_rk (by rw [rk_at, rk_at]; exact h)

/-- The 256 sums of one token. -/
def gr (v1 v2 : Fin 128 → EReal) : Fin 256 → EReal := fun q => top v1 (q.val / 16) + top v2 (q.val % 16)

variable {v1 v2 : Fin 128 → EReal} (h1 : ∀ i, (⊥ : EReal) < v1 i) (h2 : ∀ i, (⊥ : EReal) < v2 i)

include h1 h2

theorem gr_pos (q : Fin 256) : (⊥ : EReal) < gr v1 v2 q := by
  have a := top_pos h1 (show q.val / 16 < 128 by omega)
  have b := top_pos h2 (show q.val % 16 < 128 by omega)
  exact bot_lt_iff_ne_bot.2 (by rw [ne_eq, gr, EReal.add_eq_bot_iff]; rintro (h | h); exacts [a.ne' h, b.ne' h])

theorem gr_bef {q q' : Fin 256} (ha : q.val / 16 ≤ q'.val / 16) (hb : q.val % 16 ≤ q'.val % 16) (h : q < q') : Bef (gr v1 v2) q q' := by
  have : gr v1 v2 q' ≤ gr v1 v2 q :=
    add_le_add (top_anti h1 ha (by omega)) (top_anti h2 hb (by omega))
  rcases this.lt_or_eq with l | l
  · exact .inl l
  · exact .inr ⟨l, h⟩

omit h1 h2 in
/-- Where candidate `j` lies in the grid. -/
def posF (j : Fin 136) : Fin 256 := ⟨posN j, posN_lt j⟩

omit h1 h2 in
theorem posF_mono : StrictMono posF := fun i j h => posN_mono h

omit h1 h2 in
theorem posF_hit (q : Fin 256) (h : q.val / 16 = 0 ∨ q.val % 16 < 8) : ∃ j, posF j = q := by
  by_cases h0 : q.val < 16
  · refine ⟨⟨q.val, by omega⟩, Fin.ext ?_⟩
    show posN _ = _
    unfold posN
    rw [if_pos h0]
  · have h' : q.val % 16 < 8 := by omega
    have := q.isLt
    refine ⟨⟨16 + 8 * (q.val / 16 - 1) + q.val % 16, by omega⟩, Fin.ext ?_⟩
    show posN _ = _
    unfold posN
    rw [if_neg (by show ¬ 16 + 8 * (q.val / 16 - 1) + q.val % 16 < 16; omega)]
    show 16 * ((16 + 8 * (q.val / 16 - 1) + q.val % 16 - 16) / 8 + 1) + (16 + 8 * (q.val / 16 - 1) + q.val % 16 - 16) % 8 = q.val
    omega

theorem gr_out (q : Fin 256) (h : ∀ j, posF j ≠ q) : 16 ≤ rk (gr v1 v2) q := by
  have hq : ¬ (q.val / 16 = 0 ∨ q.val % 16 < 8) := fun hq => (posF_hit q hq).elim h
  have hs : (univ.image fun i : Fin 16 => (⟨16 * (i.val / 8) + i.val % 8, by omega⟩ : Fin 256)) ⊆ univ.filter fun j => Bef (gr v1 v2) j q := by
    intro j hj
    simp only [mem_image, mem_univ, true_and, mem_filter] at hj ⊢
    obtain ⟨i, rfl⟩ := hj
    have := i.isLt
    refine gr_bef h1 h2 ?_ ?_ ?_
    · show (16 * (i.val / 8) + i.val % 8) / 16 ≤ _; omega
    · show (16 * (i.val / 8) + i.val % 8) % 16 ≤ _; omega
    · show 16 * (i.val / 8) + i.val % 8 < q.val; omega
  have hc : (univ.image fun i : Fin 16 => (⟨16 * (i.val / 8) + i.val % 8, by omega⟩ : Fin 256)).card = 16 := by
    rw [card_image_of_injective]
    · simp
    · intro i j e
      have e : 16 * (i.val / 8) + i.val % 8 = 16 * (j.val / 8) + j.val % 8 := congrArg Fin.val e
      exact Fin.ext (by omega)
  calc 16 = _ := hc.symm
    _ ≤ _ := card_le_card hs

theorem cnd_rank (j : Fin 136) : (rk (cnd v1 v2) j < 16 ↔ rk (gr v1 v2) (posF j) < 16)
    ∧ (rk (gr v1 v2) (posF j) < 16 → rk (cnd v1 v2) j = rk (gr v1 v2) (posF j)) :=
  rk_part (gr v1 v2) posF posF_mono (by omega) (gr_out h1 h2) j

theorem at_gr (p : ℕ) (hp : p < 16) : at_ (gr v1 v2) p (by omega) = posF (at_ (cnd v1 v2) p (by omega)) := by
  have hr := rk_at (gr v1 v2) p (by omega)
  have : ∃ j, posF j = at_ (gr v1 v2) p (by omega) := by
    by_contra hn
    have := gr_out h1 h2 (at_ (gr v1 v2) p (by omega)) fun j e => hn ⟨j, e⟩
    omega
  obtain ⟨j, hj⟩ := this
  have := (cnd_rank h1 h2 j).2 (by rw [hj]; omega)
  rw [hj, hr] at this
  rw [← hj, at_eq _ this]

theorem top_gr (p : ℕ) (hp : p < 16) : top (cnd v1 v2) p = top (gr v1 v2) p := by
  rw [top_at (cnd_pos h1 h2) (by omega), top_at (gr_pos h1 h2) (by omega), at_gr h1 h2 p hp]
  rfl

theorem top_gr0 : top (gr v1 v2) 0 = top v1 0 + top v2 0 := by
  have : rk (gr v1 v2) 0 = 0 := by
    unfold rk
    rw [card_eq_zero, filter_eq_empty_iff]
    intro j _ hb
    by_cases e : j = 0
    · subst e; exact bef_irrefl _ _ hb
    · exact bef_irrefl _ _ (bef_trans hb (gr_bef h1 h2 (q := 0) (q' := j) (by simp) (by simp) (Fin.pos_iff_ne_zero.2 e)))
  rw [top_at (gr_pos h1 h2) (by omega), at_eq _ this]
  rfl

/-- How many of the sixteen sums use the first half's place `a`, counted over the sums and over the candidates. -/
theorem count_gr (a : Fin 16) :
    ((univ.filter fun i => rk (cnd v1 v2) i < 16).filter fun i => posA i = a).card
      = (univ.filter fun p : Fin 16 => (at_ (gr v1 v2) p.val (by omega)).val / 16 = a.val).card := by
  symm
  refine card_bij (fun p _ => at_ (cnd v1 v2) p.val (by omega)) ?_ ?_ ?_
  · intro p hp
    simp only [mem_filter, mem_univ, true_and] at hp ⊢
    rw [rk_at]
    refine ⟨p.isLt, Fin.ext ?_⟩
    rw [at_gr h1 h2 p.val p.isLt] at hp
    exact hp
  · intro p _ p' _ e
    have := congrArg (rk (cnd v1 v2)) e
    rw [rk_at, rk_at] at this
    exact Fin.ext this
  · intro i hi
    simp only [mem_filter, mem_univ, true_and] at hi
    refine ⟨⟨rk (cnd v1 v2) i, hi.1⟩, ?_, at_eq _ rfl⟩
    simp only [mem_filter, mem_univ, true_and]
    rw [at_gr h1 h2 _ hi.1, at_eq _ rfl]
    exact congrArg Fin.val hi.2

omit h1 h2 in
theorem zs_sum (f : ℕ → EReal) (t : EReal) : ∀ n, zs f t n = ∑ k ∈ range n, Ideal.exp (f k - t)
  | 0 => by simp [zs]
  | n + 1 => by rw [sum_range_succ, ← zs_sum f t n]; rfl

theorem zs_gr : zs (top (cnd v1 v2)) (top v1 0 + top v2 0) 16 = ∑ p : Fin 16, Ideal.exp (top (gr v1 v2) p.val - top (gr v1 v2) 0) := by
  rw [zs_sum, ← Fin.sum_univ_eq_sum_range (fun k => Ideal.exp (top (cnd v1 v2) k - (top v1 0 + top v2 0))), top_gr0 h1 h2]
  exact sum_congr rfl fun p _ => by rw [top_gr h1 h2 p.val p.isLt]

end Cert.KernelIdeal.Hand

end

end
-- ==== Proof.RefGrid.lean ====
module

public import proofs.«01_k».proof.Proof.Gen.ReferenceIdeal.Run
public import proofs.«01_k».proof.Proof.RefScore
public import proofs.«01_k».proof.Proof.Grid
public import Idealize.ShloMosaic.Lib.KernelVsHost
public import Idealize.ShloMosaic.Lib.Pointwise
public import Idealize.ShloMosaic.Lib.IdealHost

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.Tactic

/-! # The reference's results, as functions of the scores -/

/-- The 256 sums. -/
def rG (s1 s2 : FVec Ideal S16384x8x128 .f32) : FVec Ideal S16384x8x256 .f32 :=
  (shapeCast _ (addf (broadcastInDim S16384x8x16x16 ![0, 1, 2, 3] bcast_S16384x8x16x1_S16384x8x16x16_0_1_2_3 (broadcastInDim S16384x8x16x1 ![0, 1, 2] bcast_S16384x8x16_S16384x8x16x1_0_1_2 ((Host.topK S16384x8x16 2 (FloatOps.cmpfTotal .gt) s1 sliceFits_S16384x8x128_S16384x8x16).1))) (broadcastInDim S16384x8x16x16 ![0, 1, 2, 3] bcast_S16384x8x1x16_S16384x8x16x16_0_1_2_3 (broadcastInDim S16384x8x1x16 ![0, 1, 3] bcast_S16384x8x16_S16384x8x1x16_0_1_3 ((Host.topK S16384x8x16 2 (FloatOps.cmpfTotal .gt) s2 sliceFits_S16384x8x128_S16384x8x16).1)))) shapeCasts_S16384x8x16x16_S16384x8x256)

/-- The exponentials of a half's scores below their greatest. -/
def rE (s : FVec Ideal S16384x8x128 .f32) : FVec Ideal S16384x8x128 .f32 :=
  Host.exp (subf s (broadcastInDim S16384x8x128 ![0, 1, 2] bcast_S16384x8x1_S16384x8x128_0_1_2 (broadcastInDim S16384x8x1 ![0, 1] bcast_S16384x8_S16384x8x1_0_1 (Host.reduce FloatOps.maximumf s (constant S_ .f32 0xFF800000#32) reducesTo_S16384x8x128_S16384x8_d2 h_S_))))

/-- The sum of the exponentials of the sixteen sums. -/
def rZ (b : FVec Ideal S16384x8x16 .f32) : FVec Ideal S16384x8 .f32 :=
  Host.reduceAdd (Host.exp (subf b (broadcastInDim S16384x8x16 ![0, 1, 2] bcast_S16384x8x1_S16384x8x16_0_1_2 (broadcastInDim S16384x8x1 ![0, 1] bcast_S16384x8_S16384x8x1_0_1 (Host.reduce FloatOps.maximumf b (constant S_ .f32 0xFF800000#32) reducesTo_S16384x8x16_S16384x8_d2 h_S_))))) (constant S_ .f32 0x00000000#32) reducesTo_S16384x8x16_S16384x8_d2 h_S_

/-- The first result of the routing proper. -/
def r86 (s : FVec Ideal S16384x8x128 .f32) (b : FVec Ideal S16384x8x16 .f32) : FVec Ideal S8x128x16384 .f32 :=
  transpose S8x128x16384 [1, 2, 0] (Host.divf (rE s) (broadcastInDim S16384x8x128 ![0, 1, 2] bcast_S16384x8x1_S16384x8x128_0_1_2 (broadcastInDim S16384x8x1 ![0, 1] bcast_S16384x8_S16384x8x1_0_1 (rZ b)))) transposes_S16384x8x128_S8x128x16384_1_2_0

/-- The first half's rows of the sixteen sums. -/
def rF (i1 ib : IVec S16384x8x16 32) : IVec S16384x8x16 32 :=
  Host.reduce IntOp.addi (select (cmpi .eq (broadcastInDim S16384x8x16x16 ![0, 1, 2, 3] bcast_S16384x8x16x1_S16384x8x16x16_0_1_2_3 (broadcastInDim S16384x8x16x1 ![0, 1, 2] bcast_S16384x8x16_S16384x8x16x1_0_1_2 (Host.divsi ib (broadcastInDim S16384x8x16 ![] bcast_S_S16384x8x16 (constantI S_ 32 16#32))))) (broadcastInDim S16384x8x16x16 ![0, 1, 2, 3] bcast_S1x1x1x16_S16384x8x16x16_0_1_2_3 (broadcastInDim S1x1x1x16 ![3] bcast_S16_S1x1x1x16_3 (iotaInDim S16 32 0)))) (broadcastInDim S16384x8x16x16 ![0, 1, 2, 3] bcast_S16384x8x1x16_S16384x8x16x16_0_1_2_3 (broadcastInDim S16384x8x1x16 ![0, 1, 3] bcast_S16384x8x16_S16384x8x1x16_0_1_3 i1)) (broadcastInDim S16384x8x16x16 ![] bcast_S_S16384x8x16x16 (id (constantI S_ 32 0#32)))) (constantI S_ 32 0#32) reducesTo_S16384x8x16x16_S16384x8x16_d3 h_S_

/-- The counts, as words. -/
def rC (f : IVec S16384x8x16 32) : IVec S16384x8x128 32 :=
  Host.reduce IntOp.addi (id (select (cmpi .eq (broadcastInDim S16384x8x16x128 ![0, 1, 2, 3] bcast_S16384x8x16x1_S16384x8x16x128_0_1_2_3 (broadcastInDim S16384x8x16x1 ![0, 1, 2] bcast_S16384x8x16_S16384x8x16x1_0_1_2 f)) (broadcastInDim S16384x8x16x128 ![0, 1, 2, 3] bcast_S1x1x1x128_S16384x8x16x128_0_1_2_3 (broadcastInDim S1x1x1x128 ![3] bcast_S128_S1x1x1x128_3 (iotaInDim S128 32 0)))) (broadcastInDim S16384x8x16x128 ![] bcast_S_S16384x8x16x128 (constantI S_ 32 1#32)) (broadcastInDim S16384x8x16x128 ![] bcast_S_S16384x8x16x128 (constantI S_ 32 0#32)))) (constantI S_ 32 0#32) reducesTo_S16384x8x16x128_S16384x8x128_d2 h_S_

/-- The ranks, as words. -/
def rR (i2 : IVec S16384x8x16 32) : IVec S16384x8x128 32 :=
  Host.reduce IntOp.minsi (select (cmpi .eq (broadcastInDim S16384x8x16x128 ![0, 1, 2, 3] bcast_S16384x8x16x1_S16384x8x16x128_0_1_2_3 (broadcastInDim S16384x8x16x1 ![0, 1, 2] bcast_S16384x8x16_S16384x8x16x1_0_1_2 i2)) (broadcastInDim S16384x8x16x128 ![0, 1, 2, 3] bcast_S1x1x1x128_S16384x8x16x128_0_1_2_3 (broadcastInDim S1x1x1x128 ![3] bcast_S128_S1x1x1x128_3 (iotaInDim S128 32 0)))) (broadcastInDim S16384x8x16x128 ![2, 3] bcast_S16x1_S16384x8x16x128_2_3 (broadcastInDim S16x1 ![0] bcast_S16_S16x1_0 (iotaInDim S16 32 0))) (broadcastInDim S16384x8x16x128 ![] bcast_S_S16384x8x16x128 (id (constantI S_ 32 16#32)))) (constantI S_ 32 2147483647#32) reducesTo_S16384x8x16x128_S16384x8x128_d2 h_S_

open Finset Cert.Rank
open scoped Classical
open Cert.KernelIdeal.Hand (top gr ninf_eq fold_addi select_iff bv_eq_iff top_at top_anti gr_pos top_pos)

theorem fold_max {n : ℕ} (f : Fin n → EReal) :
    (Finset.univ : Finset (Fin n)).fold max (Ideal.ofBits FTy.f32 4286578688#32) f = mx f := by
  rw [show Ideal.ofBits FTy.f32 4286578688#32 = (⊥ : EReal) from ninf_eq]
  rfl

theorem top0 {N : ℕ} (v : Fin N → EReal) : top v 0 = mx v := rfl

/-- A fold that adds up one word and zeros is that word. -/
theorem fold_one {n : ℕ} (a : Fin n) (w : ℕ) (g : Fin n → BitVec 32) (hg : ∀ k, g k = if k = a then BitVec.ofNat 32 w else 0#32) :
    (Finset.univ : Finset (Fin n)).fold IntOp.addi 0#32 g = BitVec.ofNat 32 w := by
  rw [fold_addi (fun k => if k = a then w else 0) g fun k => by rw [hg]; split <;> rfl]
  simp

theorem fold_min (S : Finset (Fin 16)) (M : ℕ) (hM : M < 2 ^ 31) (f : Fin 16 → ℕ) (hf : ∀ k, f k < 2 ^ 31) :
    S.fold IntOp.minsi (BitVec.ofNat 32 M) (fun k => BitVec.ofNat 32 (f k)) = BitVec.ofNat 32 (S.fold min M f) ∧ S.fold min M f < 2 ^ 31 := by
  induction S using Finset.induction_on with
  | empty => exact ⟨rfl, hM⟩
  | insert a S ha ih =>
    rw [Finset.fold_insert ha, Finset.fold_insert ha, ih.1]
    have hn : ∀ x y : ℕ, x < 2 ^ 31 → y < 2 ^ 31 → IntOp.minsi (BitVec.ofNat 32 x) (BitVec.ofNat 32 y) = BitVec.ofNat 32 (min x y) := by
      intro x y hx hy
      unfold IntOp.minsi
      have e : ∀ z : ℕ, z < 2 ^ 31 → (BitVec.ofNat 32 z).toInt = z := fun z hz => by
        rw [BitVec.toInt_eq_toNat_of_lt (by rw [BitVec.toNat_ofNat]; omega), BitVec.toNat_ofNat, Nat.mod_eq_of_lt (by omega)]
      rw [BitVec.slt_eq_decide, e x hx, e y hy]
      by_cases h : x < y
      · rw [if_pos (by simpa using h), min_eq_left h.le]
      · rw [if_neg (by simpa using h), min_eq_right (not_lt.1 h)]
    exact ⟨hn _ _ (hf a) ih.2, lt_of_le_of_lt (min_le_left _ _) (hf a)⟩

theorem divsi16 : ∀ q : Fin 256, IntOp.divsi .host (BitVec.ofNat 32 q.val) 16#32 = BitVec.ofNat 32 (q.val / 16) := by decide +kernel

variable (s1 s2 : FVec Ideal S16384x8x128 .f32) (t : Fin 16384) (h : Fin 8)

/-- The scores of one token and head. -/
def row (s : FVec Ideal S16384x8x128 .f32) (t : Fin 16384) (h : Fin 8) : Fin 128 → EReal := fun n => s (ix3 t h n)

theorem topK128 (hv : ∀ n, (⊥ : EReal) < row s1 t h n) (p : Fin 16) :
    (Host.topK S16384x8x16 2 (FloatOps.cmpfTotal .gt) s1 sliceFits_S16384x8x128_S16384x8x16).1 (ix3 t h p) = (top (row s1 t h) p.val : EReal)
    ∧ (Host.topK S16384x8x16 2 (FloatOps.cmpfTotal .gt) s1 sliceFits_S16384x8x128_S16384x8x16).2 (ix3 t h p)
      = BitVec.ofNat 32 (at_ (row s1 t h) p.val (by omega)).val := by
  have := topK_at s1 sliceFits_S16384x8x128_S16384x8x16 t h p (by omega)
  refine ⟨this.1.trans ?_, this.2⟩
  rw [top_at hv (by omega)]
  rfl

theorem topK256 (g : FVec Ideal S16384x8x256 .f32) (w : Fin 256 → EReal) (hw : ∀ q, g (ix3 t h q) = (w q : EReal)) (hv : ∀ n, (⊥ : EReal) < w n) (p : Fin 16) :
    (Host.topK S16384x8x16 2 (FloatOps.cmpfTotal .gt) g sliceFits_S16384x8x256_S16384x8x16).1 (ix3 t h p) = (top w p.val : EReal)
    ∧ (Host.topK S16384x8x16 2 (FloatOps.cmpfTotal .gt) g sliceFits_S16384x8x256_S16384x8x16).2 (ix3 t h p)
      = BitVec.ofNat 32 (at_ w p.val (by omega)).val := by
  have e : (fun q => (g (ix3 t h q) : EReal)) = w := funext hw
  subst e
  have := topK_at g sliceFits_S16384x8x256_S16384x8x16 t h p (by omega)
  refine ⟨this.1.trans ?_, this.2⟩
  rw [top_at hv (by omega)]

theorem rG_at (h1 : ∀ n, (⊥ : EReal) < row s1 t h n) (h2 : ∀ n, (⊥ : EReal) < row s2 t h n) (q : Fin 256) :
    rG s1 s2 (ix3 t h q) = (gr (row s1 t h) (row s2 t h) q : EReal) := by
  have e1 := fun p => (topK128 s1 t h h1 p).1
  have e2 := fun p => (topK128 s2 t h h2 p).1
  unfold rG
  generalize (Host.topK S16384x8x16 2 (FloatOps.cmpfTotal .gt) s1 sliceFits_S16384x8x128_S16384x8x16).1 = u1 at e1
  generalize (Host.topK S16384x8x16 2 (FloatOps.cmpfTotal .gt) s2 sliceFits_S16384x8x128_S16384x8x16).1 = u2 at e2
  pointwise
  rw [e1, e2]
  rfl

theorem rE_at (n : Fin 128) : rE s1 (ix3 t h n) = (Ideal.exp (row s1 t h n - top (row s1 t h) 0) : EReal) := by
  pointwise [rE]
  rw [fold_max]
  rfl

theorem mx_top (w : Fin 256 → EReal) (hv : ∀ n, (⊥ : EReal) < w n) : mx (fun p : Fin 16 => top w p.val) = top w 0 := by
  apply le_antisymm
  · exact Finset.sup_le fun p _ => top_anti hv (Nat.zero_le _) (by omega)
  · exact le_mx (fun p : Fin 16 => top w p.val) 0

theorem rZ_at (s : FVec Ideal S16384x8x16 .f32) (w : Fin 256 → EReal) (hw : ∀ p : Fin 16, s (ix3 t h p) = (top w p.val : EReal)) (hv : ∀ n, (⊥ : EReal) < w n) :
    rZ s (ix2 t h) = (∑ p : Fin 16, Ideal.exp (top w p.val - top w 0) : EReal) := by
  pointwise [rZ]
  rw [fold_max]
  simp only [hw, mx_top w hv]

theorem r86_at (s : FVec Ideal S16384x8x128 .f32) (b : FVec Ideal S16384x8x16 .f32) (n : Fin 128) :
    r86 s b (ix3 h n t) = (Ideal.div (rE s (ix3 t h n)) (rZ b (ix2 t h)) : EReal) := by
  unfold r86
  generalize rE s = e
  generalize rZ b = z
  pointwise

theorem rF_at (i1 ib : IVec S16384x8x16 32) (a : Fin 16 → Fin 128) (hi : ∀ k, i1 (ix3 t h k) = BitVec.ofNat 32 (a k).val) (p : Fin 16) (q : Fin 256)
    (hq : ib (ix3 t h p) = BitVec.ofNat 32 q.val) : rF i1 ib (ix3 t h p) = BitVec.ofNat 32 (a ⟨q.val / 16, by omega⟩).val := by
  pointwise [rF]
  refine fold_one ⟨q.val / 16, by omega⟩ _ _ fun k => ?_
  rw [hq, divsi16]
  refine (select_iff (P := k = ⟨q.val / 16, by omega⟩) ((bv_eq_iff (by omega) (by omega)).trans ?_) _ _).trans ?_
  · rw [Fin.ext_iff]; exact eq_comm
  · by_cases e : k = ⟨q.val / 16, by omega⟩
    · rw [if_pos e, if_pos e, ← e]; exact hi k
    · rw [if_neg e, if_neg e]; rfl

theorem rC_at (f : IVec S16384x8x16 32) (b : Fin 16 → Fin 128) (hf : ∀ p, f (ix3 t h p) = BitVec.ofNat 32 (b p).val) (n : Fin 128) :
    rC f (ix3 t h n) = BitVec.ofNat 32 (univ.filter fun p => b p = n).card := by
  unfold rC
  rw [id_eq]
  pointwise
  refine (fold_addi (fun p => if b p = n then 1 else 0) _ fun p => ?_).trans ?_
  · rw [hf]
    refine (select_iff (P := b p = n) ((bv_eq_iff (by omega) (by omega)).trans Fin.ext_iff.symm) _ _).trans ?_
    split <;> rfl
  · rw [Finset.card_filter]

theorem rR_at (f : IVec S16384x8x16 32) (v : Fin 128 → EReal) (hf : ∀ p : Fin 16, f (ix3 t h p) = BitVec.ofNat 32 (at_ v p.val (by omega)).val) (n : Fin 128) :
    rR f (ix3 t h n) = BitVec.ofNat 32 (if rk v n < 16 then rk v n else 16) := by
  pointwise [rR]
  have e : ∀ p : Fin 16, Scalar.select (IntOp.cmpi CmpIPredicate.eq (f (ix3 t h p)) (BitVec.ofNat 32 n.val)) (BitVec.ofNat 32 p.val)
      (id (constantI S_ 32 16#32) ix0) = BitVec.ofNat 32 (if rk v n = p.val then p.val else 16) := by
    intro p
    rw [hf]
    refine (select_iff (P := rk v n = p.val) ((bv_eq_iff (by omega) (by omega)).trans ?_) _ _).trans ?_
    · rw [← Fin.ext_iff]
      constructor
      · intro e; rw [← e, rk_at]
      · intro e; exact at_eq _ e
    · split <;> rfl
  simp only [e]
  rw [show (2147483647#32 : BitVec 32) = BitVec.ofNat 32 2147483647 from rfl, (fold_min _ 2147483647 (by norm_num) _ fun k => by split <;> omega).1]
  congr 1
  apply le_antisymm
  · rw [Finset.fold_min_le]
    right
    by_cases h : rk v n < 16
    · exact ⟨⟨rk v n, h⟩, mem_univ _, by simp [h]⟩
    · exact ⟨0, mem_univ _, by split <;> simp [h] <;> omega⟩
  · rw [Finset.le_fold_min]
    refine ⟨by split <;> omega, fun p _ => ?_⟩
    have := p.isLt
    split <;> split <;> omega

end Cert.ReferenceIdeal.Hand

end

end
-- ==== Proof.Arr.lean ====
module

public import proofs.«01_k».proof.Proof.Score
public import proofs.«01_k».proof.Proof.Grid
public import proofs.«01_k».proof.Proof.ColM
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # What the arrays hold after the launch -/

open Cert.Rank
open scoped Classical

variable (m : (ℓ : Loc nD τ sig) → Buf (Elt Ideal) ℓ) (c : Dev nD)

/-- The normalised tokens. -/
def G4 : S16384x4096.Idx → Elt Ideal .bf16 := fun i => (xn (fX m c) (fG m c) (i 0) (i 1) : EReal)

/-- The first half's exponentials, divided by the sum `z`. -/
def G5 : S8x128x16384.Idx → Elt Ideal .f32 := fun i =>
  (Ideal.exp (ks m c (i 0) 0 (i 2) (i 1) - top (ks m c (i 0) 0 (i 2)) 0
    - Ideal.log (zs (top (cnd (ks m c (i 0) 0 (i 2)) (ks m c (i 0) 1 (i 2)))) (top (ks m c (i 0) 0 (i 2)) 0 + top (ks m c (i 0) 1 (i 2)) 0) 16)) : EReal)

/-- How many of the sixteen sums use a row of the first half, as a word. -/
def cntW (v1 v2 : Fin 128 → EReal) (n : Fin 128) : BitVec 32 :=
  if rk v1 n < 16 then BitVec.ofNat 32 ((Finset.univ.filter fun i => rk (cnd v1 v2) i < 16).filter fun i => posA i = Fin.ofNat 16 (rk v1 n)).card else 0#32

/-- The counts. -/
def G6 : S8x128x16384.Idx → Elt Ideal .f32 := fun i =>
  FloatOps.sitofp (F := Ideal) .f32 (cntW (ks m c (i 0) 0 (i 2)) (ks m c (i 0) 1 (i 2)) (i 1))

/-- The second half's exponentials. -/
def G7 : S8x128x16384.Idx → Elt Ideal .bf16 := fun i =>
  (Ideal.exp (ks m c (i 0) 1 (i 2) (i 1) - top (ks m c (i 0) 1 (i 2)) 0) : EReal)

/-- A row's rank, sixteen for the later ones, as a word. -/
def rkW (v : Fin 128 → EReal) (n : Fin 128) : BitVec 32 := BitVec.ofNat 32 (if rk v n < 16 then rk v n else 16)

/-- The second half's ranks. -/
def G8 : S8x128x16384.Idx → Elt Ideal .bf16 := fun i => FloatOps.sitofp (F := Ideal) .f32 (rkW (ks m c (i 0) 1 (i 2)) (i 1))

theorem emb4 (t : Fin cfg0.N) (a : Fin 256) (d : Fin 4096) : ((cfg0.win 4).blk t).view.emb (ix2 a d) = ix2 (tok t a) d := by
  unfold tok
  blk_ext [(idx_out t).1]

theorem emb5 (t : Fin cfg0.N) (h : Fin 8) (n : Fin 128) (a : Fin 256) : ((cfg0.win 5).blk t).view.emb (ix3 h n a) = ix3 h n (tok t a) := by
  unfold tok
  blk_ext [(idx_out t).2.1]

theorem emb6 (t : Fin cfg0.N) (h : Fin 8) (n : Fin 128) (a : Fin 256) : ((cfg0.win 6).blk t).view.emb (ix3 h n a) = ix3 h n (tok t a) := by
  unfold tok
  blk_ext [(idx_out t).2.2.1]

theorem emb7 (t : Fin cfg0.N) (h : Fin 8) (n : Fin 128) (a : Fin 256) : ((cfg0.win 7).blk t).view.emb (ix3 h n a) = ix3 h n (tok t a) := by
  unfold tok
  blk_ext [(idx_out t).2.2.2.1]

theorem emb8 (t : Fin cfg0.N) (h : Fin 8) (n : Fin 128) (a : Fin 256) : ((cfg0.win 8).blk t).view.emb (ix3 h n a) = ix3 h n (tok t a) := by
  unfold tok
  blk_ext [(idx_out t).2.2.2.2]

theorem outE1_at (s : FVec Ideal S128x256 .f32) (z : FVec Ideal S1x256 .f32) (n : Fin 128) (τ : Fin 256) :
    outE1 s z (ix3 0 n τ) = (Ideal.exp (col s τ n - top (col s τ) 0 - Ideal.log (z (ix2 0 τ))) : EReal) := by
  have e : dvals s (ix2 0 τ) = (top (col s τ) 0 : EReal) := dvals_col s 0 τ
  unfold outE1
  generalize dvals s = y at e
  pointwise [bcK, row16]
  rw [e]
  rfl

theorem outE2_at (s : FVec Ideal S128x256 .f32) (n : Fin 128) (τ : Fin 256) :
    outE2 s (ix3 0 n τ) = (Ideal.exp (col s τ n - top (col s τ) 0) : EReal) := by
  have e : dvals s (ix2 0 τ) = (top (col s τ) 0 : EReal) := dvals_col s 0 τ
  unfold outE2
  generalize dvals s = y at e
  pointwise [bcK, row16]
  rw [e]
  rfl

theorem outC1_at (r : IVec S128x256 32) (cnt : IVec S16x256 32) (n : Fin 128) (τ : Fin 256) :
    outC1 (F := Ideal) r cnt (ix3 0 n τ) = FloatOps.sitofp (F := Ideal) .f32 (c1V r cnt 16 (ix2 n τ)) := by
  unfold outC1
  generalize c1V r cnt 16 = y
  pointwise

theorem outR2_at (r : IVec S128x256 32) (n : Fin 128) (τ : Fin 256) :
    outR2 (F := Ideal) r (ix3 0 n τ) = FloatOps.sitofp (F := Ideal) .f32 (r (ix2 n τ)) := by
  pointwise [outR2]

theorem fin8_at {α : Type} (w : Fin 8 → S1x128x256.Idx → α) (h : Fin 8) (n : Fin 128) (a : Fin 256) : fin8 w (ix3 h n a) = w h (ix3 0 n a) := rfl

theorem final4 : (dats m 0 c).arrAt 4 (cfgs 0).N = G4 m c := by
  refine (dats m 0 c).arrAt_eq_of_covers 4 _ (by decide +kernel) fun t hf y => ?_
  blk_simp
  rw [after0_4]
  obtain ⟨a, d, rfl⟩ : ∃ a d, y = (ix2 a d : S256x4096.Idx) := ⟨y 0, y 1, by funext i; fin_cases i <;> rfl⟩
  refine (pay383_at m c t a d).trans ?_
  exact (congrArg (G4 m c) (emb4 t a d)).symm

theorem final5 : (dats m 0 c).arrAt 5 (cfgs 0).N = G5 m c := by
  refine (dats m 0 c).arrAt_eq_of_covers 5 _ (by decide +kernel) fun t hf y => ?_
  blk_simp
  rw [after0_5]
  obtain ⟨h, n, a, rfl⟩ : ∃ h n a, y = (ix3 h n a : S8x128x256.Idx) := ⟨y 0, y 1, y 2, by funext i; fin_cases i <;> rfl⟩
  refine Eq.trans ?_ (congrArg (G5 m c) (emb5 t h n a)).symm
  unfold finE1
  refine (fin8_at _ h n a).trans ((outE1_at _ _ n a).trans ?_)
  rw [keepZ_col a, sc1_col, sc2_col]
  rfl

variable (H : ∀ h p T n, (⊥ : EReal) < ks m c h p T n)
include H

theorem H1 (t : Fin cfg0.N) (h : Fin 8) (τ : Fin 256) (i) : (⊥ : EReal) < col (sc1 (iblk m c 3 t) (qB m c t) (trOf h)) τ i := by
  rw [sc1_col]; exact H _ _ _ _
theorem H2 (t : Fin cfg0.N) (h : Fin 8) (τ : Fin 256) (i) : (⊥ : EReal) < col (sc2 (iblk m c 3 t) (qB m c t) (trOf h)) τ i := by
  rw [sc2_col]; exact H _ _ _ _

theorem final6 : (dats m 0 c).arrAt 6 (cfgs 0).N = G6 m c := by
  refine (dats m 0 c).arrAt_eq_of_covers 6 _ (by decide +kernel) fun t hf y => ?_
  blk_simp
  rw [after0_6]
  obtain ⟨h, n, a, rfl⟩ : ∃ h n a, y = (ix3 h n a : S8x128x256.Idx) := ⟨y 0, y 1, y 2, by funext i; fin_cases i <;> rfl⟩
  refine Eq.trans ?_ (congrArg (G6 m c) (emb6 t h n a)).symm
  unfold finC1
  refine (fin8_at _ h n a).trans ((outC1_at _ _ n a).trans ?_)
  refine congrArg (FloatOps.sitofp (F := Ideal) .f32) ?_
  refine (c1V_col _ _ n a _ (by split <;> omega) (keepR1_col a (H1 m c H t h a) n) 16 le_rfl).trans ?_
  rw [sc1_col]
  unfold cntW
  by_cases hr : rk (ks m c h 0 (tok t a)) n < 16
  · refine Eq.trans ?_ (if_pos hr).symm
    rw [if_pos hr, if_pos hr, keepCnt_col a (H1 m c H t h a) (H2 m c H t h a), sc1_col, sc2_col]
    rfl
  · refine Eq.trans ?_ (if_neg hr).symm
    rw [if_neg hr, if_neg (by omega)]

theorem final8 : (dats m 0 c).arrAt 8 (cfgs 0).N = G8 m c := by
  refine (dats m 0 c).arrAt_eq_of_covers 8 _ (by decide +kernel) fun t hf y => ?_
  blk_simp
  rw [after0_8]
  obtain ⟨h, n, a, rfl⟩ : ∃ h n a, y = (ix3 h n a : S8x128x256.Idx) := ⟨y 0, y 1, y 2, by funext i; fin_cases i <;> rfl⟩
  refine Eq.trans ?_ (congrArg (G8 m c) (emb8 t h n a)).symm
  unfold finR2
  refine (fin8_at _ h n a).trans ((outR2_at _ n a).trans ?_)
  refine congrArg (FloatOps.sitofp (F := Ideal) .f32) ?_
  refine (keepR2_col a (H2 m c H t h a) n).trans ?_
  rw [sc2_col]
  rfl

omit H

theorem final7 : (dats m 0 c).arrAt 7 (cfgs 0).N = G7 m c := by
  refine (dats m 0 c).arrAt_eq_of_covers 7 _ (by decide +kernel) fun t hf y => ?_
  blk_simp
  rw [after0_7]
  obtain ⟨h, n, a, rfl⟩ : ∃ h n a, y = (ix3 h n a : S8x128x256.Idx) := ⟨y 0, y 1, y 2, by funext i; fin_cases i <;> rfl⟩
  refine Eq.trans ?_ (congrArg (G7 m c) (emb7 t h n a)).symm
  unfold finE2
  refine (fin8_at _ h n a).trans ((outE2_at _ n a).trans ?_)
  rw [sc2_col]
  rfl

end Cert.KernelIdeal.Hand

end

end
-- ==== Proof.Reals.lean ====
module

public import proofs.«01_k».proof.Proof.Score
public import proofs.«01_k».proof.Proof.Grid
public import proofs.«01_k».proof.Proof.ColM
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Real arguments give real scores

On arguments that are all real numbers every score is one, the sum `z` is a positive one, and so the kernel's exponential of a
difference with a logarithm is the reference's quotient. -/

open Cert.Rank
open scoped Classical

/-- A value that is a real number. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sum {ι : Type} (S : Finset ι) (f : ι → EReal) (h : ∀ i ∈ S, IsR (f i)) : IsR (∑ i ∈ S, f i) := by
  induction S using Finset.induction_on with
  | empty => exact ⟨0, by simp⟩
  | insert a S ha ih =>
    rw [Finset.sum_insert ha]
    exact (h a (Finset.mem_insert_self _ _)).add (ih fun i hi => h i (Finset.mem_insert_of_mem hi))

theorem IsR.pos {x : EReal} (h : IsR x) : (⊥ : EReal) < x := by obtain ⟨a, rfl⟩ := h; exact EReal.bot_lt_coe a

theorem isR_of_abs {x : EReal} (h : max x (-x) < ⊤) : IsR x := by
  induction x using EReal.rec with
  | bot => simp at h
  | top => simp at h
  | coe r => exact ⟨r, rfl⟩

theorem c4096 : Ideal.ofBits FTy.f32 1166016512#32 = ((4096 : ℝ) : EReal) := by
  simp [Ideal.ofBits, Ideal.ieee]
  rw [← EReal.coe_mul]
  norm_num

theorem ceps : ∃ e : ℝ, 0 < e ∧ Ideal.ofBits FTy.f32 897988541#32 = (e : EReal) := by
  refine ⟨8796093 * (2 : ℝ) ^ (-43 : ℤ), by positivity, ?_⟩
  simp [Ideal.ofBits, Ideal.ieee]

theorem sq_sum {n : ℕ} (x : Fin n → EReal) (hx : ∀ i, IsR (x i)) : ∃ r : ℝ, 0 ≤ r ∧ ∑ i, x i * x i = (r : EReal) := by
  choose f hf using hx
  refine ⟨∑ i, f i * f i, Finset.sum_nonneg fun i _ => mul_self_nonneg _, ?_⟩
  rw [show (∑ i, x i * x i) = ∑ i, ((f i * f i : ℝ) : EReal) from Finset.sum_congr rfl fun i _ => by rw [hf i, EReal.coe_mul]]
  generalize (Finset.univ : Finset (Fin n)) = S
  induction S using Finset.induction_on with
  | empty => simp
  | insert a S ha ih => rw [Finset.sum_insert ha, Finset.sum_insert ha, ih, EReal.coe_add]

theorem rs_real {r : ℝ} (h : 0 ≤ r) : IsR (Ideal.rsqrt (Ideal.div (r : EReal) (Ideal.ofBits FTy.f32 1166016512#32) + Ideal.ofBits FTy.f32 897988541#32)) := by
  obtain ⟨e, he, hE⟩ := ceps
  rw [hE, c4096]
  have hd : Ideal.div (r : EReal) ((4096 : ℝ) : EReal) = ((r * (4096 : ℝ)⁻¹ : ℝ) : EReal) := by
    unfold Ideal.div
    rw [if_neg (by norm_num), ← EReal.coe_inv, ← EReal.coe_mul]
  rw [hd, ← EReal.coe_add]
  have hp : 0 < r * (4096 : ℝ)⁻¹ + e := by positivity
  refine ⟨(Real.sqrt (r * (4096 : ℝ)⁻¹ + e))⁻¹, ?_⟩
  show (if r * (4096 : ℝ)⁻¹ + e < 0 then (⊥ : EReal) else if r * (4096 : ℝ)⁻¹ + e = 0 then ⊤ else _) = _
  rw [if_neg hp.le.not_gt, if_neg hp.ne']

theorem xn_real {x : Fin 16384 → Fin 4096 → EReal} {g : Fin 4096 → EReal} (hx : ∀ t d, IsR (x t d)) (hg : ∀ d, IsR (g d)) (t d) : IsR (xn x g t d) := by
  unfold xn
  obtain ⟨r, hr, e⟩ := sq_sum (x t) (hx t)
  rw [e]
  exact ((hx t d).mul (rs_real hr)).mul (hg d)

theorem vs_real {x : Fin 16384 → Fin 4096 → EReal} {g : Fin 4096 → EReal} {w : Fin 4096 → Fin 2048 → EReal}
    {k : Fin 8 → Fin 2 → Fin 128 → Fin 128 → EReal} (hx : ∀ t d, IsR (x t d)) (hg : ∀ d, IsR (g d)) (hw : ∀ d e, IsR (w d e))
    (hk : ∀ h p n d, IsR (k h p n d)) (h p t n) : IsR (vs x g w k h p t n) := by
  unfold vs
  refine IsR.sum _ _ fun d _ => (hk _ _ _ _).mul ?_
  unfold qq
  exact IsR.sum _ _ fun e _ => (xn_real hx hg _ _).mul (hw _ _)

theorem top_real {N : ℕ} {v : Fin N → EReal} (hv : ∀ i, IsR (v i)) {p : ℕ} (hp : p < N) : IsR (top v p) := by
  rw [top_at (fun i => (hv i).pos) hp]; exact hv _

theorem gr_real {v1 v2 : Fin 128 → EReal} (h1 : ∀ i, IsR (v1 i)) (h2 : ∀ i, IsR (v2 i)) (q : Fin 256) : IsR (gr v1 v2 q) :=
  (top_real h1 (by omega)).add (top_real h2 (by omega))

theorem exp_sum {n : ℕ} (f : Fin (n + 1) → EReal) (b : EReal) (hf : ∀ i, IsR (f i)) (hb : IsR b) :
    ∃ z : ℝ, 0 < z ∧ ∑ i, Ideal.exp (f i - b) = (z : EReal) := by
  obtain ⟨b, rfl⟩ := hb
  choose g hg using hf
  refine ⟨∑ i, Real.exp (g i - b), Finset.sum_pos (fun i _ => Real.exp_pos _) Finset.univ_nonempty, ?_⟩
  rw [show (∑ i, Ideal.exp (f i - b)) = ∑ i, ((Real.exp (g i - b) : ℝ) : EReal) from Finset.sum_congr rfl fun i _ => by
    rw [hg i, ← EReal.coe_sub]; rfl]
  generalize (Finset.univ : Finset (Fin (n + 1))) = S
  induction S using Finset.induction_on with
  | empty => simp
  | insert a S ha ih => rw [Finset.sum_insert ha, Finset.sum_insert ha, ih, EReal.coe_add]

/-- An exponential of a difference with a logarithm is a quotient. -/
theorem exp_log_div {a b : EReal} (ha : IsR a) (hb : IsR b) {z : ℝ} (hz : 0 < z) :
    Ideal.exp (a - b - Ideal.log (z : EReal)) = Ideal.div (Ideal.exp (a - b)) (z : EReal) := by
  obtain ⟨a, rfl⟩ := ha
  obtain ⟨b, rfl⟩ := hb
  have hl : Ideal.log (z : EReal) = (Real.log z : EReal) := if_neg hz.not_ge
  rw [hl, ← EReal.coe_sub, ← EReal.coe_sub]
  show ((Real.exp (a - b - Real.log z) : ℝ) : EReal) = Ideal.div ((Real.exp (a - b) : ℝ) : EReal) (z : EReal)
  unfold Ideal.div
  rw [if_neg (by exact_mod_cast hz.ne'), ← EReal.coe_inv, ← EReal.coe_mul, Real.exp_sub, Real.exp_log hz, div_eq_mul_inv]

end Cert.KernelIdeal.Hand

end

end
-- ==== Proof.RefRes.lean ====
module

public import proofs.«01_k».proof.Proof.Gen.ReferenceIdeal.Run
public import proofs.«01_k».proof.Proof.RefGrid
public import proofs.«01_k».proof.Proof.Arr
public import proofs.«01_k».proof.Proof.Reals
public import Idealize.ShloMosaic.Lib.KernelVsHost
public import Idealize.ShloMosaic.Lib.Pointwise
public import Idealize.ShloMosaic.Lib.IdealHost

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.Tactic

/-! # The reference's results are the kernel's -/

open Finset Cert.Rank
open scoped Classical
open Cert.KernelIdeal.Hand (top gr cnd zs zs_gr count_gr posA fold_addi top_at aX aG aW aK fX fG fW fK ks xn vs qq qpos G4 G5 G6 G7 G8 cntW rkW
  IsR exp_sum exp_log_div top_real gr_real gr_pos)

/-- The places of the sixteen greatest sums. -/
def rB (s1 s2 : FVec Ideal S16384x8x128 .f32) : FVec Ideal S16384x8x16 .f32 × IVec S16384x8x16 32 :=
  Host.topK S16384x8x16 2 (FloatOps.cmpfTotal .gt) (rG s1 s2) sliceFits_S16384x8x256_S16384x8x16

/-- The counts, as the reference lays them. -/
def r88 (s1 s2 : FVec Ideal S16384x8x128 .f32) : FVec Ideal S8x128x16384 .f32 :=
  transpose S8x128x16384 [1, 2, 0] (sitofp .f32 (rC (rF (Host.topK S16384x8x16 2 (FloatOps.cmpfTotal .gt) s1 sliceFits_S16384x8x128_S16384x8x16).2 (rB s1 s2).2))) transposes_S16384x8x128_S8x128x16384_1_2_0

/-- The second half's exponentials, as the reference lays them. -/
def r90 (s2 : FVec Ideal S16384x8x128 .f32) : FVec Ideal S8x128x16384 .bf16 :=
  truncf .bf16 (transpose S8x128x16384 [1, 2, 0] (rE s2) transposes_S16384x8x128_S8x128x16384_1_2_0) bitsLt_bf16_f32

/-- The second half's ranks, as the reference lays them. -/
def r93 (s2 : FVec Ideal S16384x8x128 .f32) : FVec Ideal S8x128x16384 .bf16 :=
  truncf .bf16 (transpose S8x128x16384 [1, 2, 0] (sitofp .f32 (rR (Host.topK S16384x8x16 2 (FloatOps.cmpfTotal .gt) s2 sliceFits_S16384x8x128_S16384x8x16).2)) transposes_S16384x8x128_S8x128x16384_1_2_0) bitsLt_bf16_f32

theorem r88_at (s1 s2 : FVec Ideal S16384x8x128 .f32) (t : Fin 16384) (h : Fin 8) (n : Fin 128) :
    r88 s1 s2 (ix3 h n t) = FloatOps.sitofp (F := Ideal) .f32 (rC (rF (Host.topK S16384x8x16 2 (FloatOps.cmpfTotal .gt) s1 sliceFits_S16384x8x128_S16384x8x16).2 (rB s1 s2).2) (ix3 t h n)) := by
  unfold r88
  generalize rC _ = y
  pointwise

theorem r90_at (s2 : FVec Ideal S16384x8x128 .f32) (t : Fin 16384) (h : Fin 8) (n : Fin 128) :
    r90 s2 (ix3 h n t) = rE s2 (ix3 t h n) := by
  unfold r90
  generalize rE _ = y
  pointwise

theorem r93_at (s2 : FVec Ideal S16384x8x128 .f32) (t : Fin 16384) (h : Fin 8) (n : Fin 128) :
    r93 s2 (ix3 h n t) = FloatOps.sitofp (F := Ideal) .f32 (rR (Host.topK S16384x8x16 2 (FloatOps.cmpfTotal .gt) s2 sliceFits_S16384x8x128_S16384x8x16).2 (ix3 t h n)) := by
  unfold r93
  generalize rR _ = y
  pointwise

variable (s1 s2 : FVec Ideal S16384x8x128 .f32) (t : Fin 16384) (h : Fin 8)

theorem cnt_eq (h1 : ∀ n, (⊥ : EReal) < row s1 t h n) (h2 : ∀ n, (⊥ : EReal) < row s2 t h n) (n : Fin 128) :
    rC (rF (Host.topK S16384x8x16 2 (FloatOps.cmpfTotal .gt) s1 sliceFits_S16384x8x128_S16384x8x16).2 (rB s1 s2).2) (ix3 t h n)
      = cntW (row s1 t h) (row s2 t h) n := by
  have hb : ∀ p : Fin 16, (rB s1 s2).2 (ix3 t h p) = BitVec.ofNat 32 (at_ (gr (row s1 t h) (row s2 t h)) p.val (by omega)).val := fun p =>
    (topK256 t h (rG s1 s2) _ (rG_at s1 s2 t h h1 h2) (gr_pos h1 h2) p).2
  have hi := fun p => (topK128 s1 t h h1 p).2
  refine (rC_at t h _ (fun p => at_ (row s1 t h) ((at_ (gr (row s1 t h) (row s2 t h)) p.val (by omega)).val / 16) (by omega))
    (fun p => rF_at t h _ _ (fun k => at_ (row s1 t h) k.val (by omega)) hi p _ (hb p)) n).trans ?_
  unfold cntW
  by_cases hr : rk (row s1 t h) n < 16
  · rw [if_pos hr, count_gr h1 h2]
    refine congrArg (BitVec.ofNat 32) (congrArg Finset.card (Finset.filter_congr fun p _ => ?_))
    have e : (Fin.ofNat 16 (rk (row s1 t h) n)).val = rk (row s1 t h) n := Nat.mod_eq_of_lt hr
    rw [e]
    constructor
    · intro e; rw [← e, rk_at]
    · intro e; exact at_eq _ e.symm
  · rw [if_neg hr]
    refine congrArg (BitVec.ofNat 32) (Finset.card_eq_zero.2 (Finset.filter_eq_empty_iff.2 fun p _ e => hr ?_))
    rw [← e, rk_at]
    omega

theorem e1_eq (h1 : ∀ n, IsR (row s1 t h n)) (h2 : ∀ n, IsR (row s2 t h n)) (n : Fin 128) :
    r86 s1 (rB s1 s2).1 (ix3 h n t) = (Ideal.exp (row s1 t h n - top (row s1 t h) 0
      - Ideal.log (zs (top (cnd (row s1 t h) (row s2 t h))) (top (row s1 t h) 0 + top (row s2 t h) 0) 16)) : EReal) := by
  have p1 := fun n => (h1 n).pos
  have p2 := fun n => (h2 n).pos
  have hb : ∀ p : Fin 16, (rB s1 s2).1 (ix3 t h p) = (top (gr (row s1 t h) (row s2 t h)) p.val : EReal) := fun p =>
    (topK256 t h (rG s1 s2) _ (rG_at s1 s2 t h p1 p2) (gr_pos p1 p2) p).1
  have hg := gr_real h1 h2
  obtain ⟨z, hz, e⟩ := exp_sum (fun p : Fin 16 => top (gr (row s1 t h) (row s2 t h)) p.val) (top (gr (row s1 t h) (row s2 t h)) 0)
    (fun p => top_real hg (by omega)) (top_real hg (by omega))
  rw [zs_gr p1 p2, e, exp_log_div (h1 n) (top_real h1 (by omega)) hz, r86_at, rE_at, rZ_at t h _ _ hb (gr_pos p1 p2), e]

theorem r2_eq (h2 : ∀ n, (⊥ : EReal) < row s2 t h n) (n : Fin 128) :
    rR (Host.topK S16384x8x16 2 (FloatOps.cmpfTotal .gt) s2 sliceFits_S16384x8x128_S16384x8x16).2 (ix3 t h n) = rkW (row s2 t h) n :=
  rR_at t h _ _ (fun p => (topK128 s2 t h h2 p).2) n

end Cert.ReferenceIdeal.Hand

end

end
-- ==== Proof.Algebraic.lean ====
module

public import proofs.«01_k».proof.Proof.RefRes
public import proofs.«01_k».proof.Defs
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Cert.ReferenceIdeal.Hand (rXN rQ rS rS1 rS2 rXN_at rQ_at rS_at rS1_at rS2_at row r86 rB r88 r90 r93 r88_at r90_at r93_at rE_at e1_eq cnt_eq r2_eq)

/-! # The kernel's results are the reference's -/

variable (m : (ℓ : Loc nD τ sig) → Buf (Elt Ideal) ℓ) (c : Dev nD)

/-- The precondition's shapes fit. -/
theorem preFacts : Cert.Pre_finite.Facts where
  bcast_S_S16384x4096 := by decide
  bcast_S_S1x4096 := by decide
  bcast_S_S1x4096x2048 := by decide
  bcast_S_S1x8x2x128x128 := by decide

theorem top_ofBits : (FloatOps.ofBits .f32 0x7F800000#32 : Ideal .f32) = (⊤ : EReal) := by
  show Ideal.ofBits .f32 0x7F800000#32 = _
  simp [Ideal.ofBits, Ideal.ieee]

theorem isR_of_cmp {x : EReal} (h : FloatOps.cmpf (F := Ideal) (φ := .f32) .olt (max x (-x)) (FloatOps.ofBits .f32 0x7F800000#32) = 1#1) : IsR x := by
  rw [top_ofBits, Ideal.cmpf_def] at h
  refine isR_of_abs ?_
  by_contra hn
  simp [Ideal.cmp, hn] at h

/-- The reference's scores of both halves, over the kernel's arguments. -/
def rSc : FVec Ideal Cert.ReferenceIdeal.S16384x8x2x128 .f32 := rS (rQ (rXN (aX m c) (aG m c)) (aW m c)) (aK m c)

theorem rSc_at (t : Fin 16384) (h : Fin 8) (p : Fin 2) (n : Fin 128) : rSc m c (ix4 t h p n) = (ks m c h p t n : EReal) := by
  unfold rSc
  refine (rS_at _ _ t h p n).trans ?_
  unfold ks vs
  refine Finset.sum_congr rfl fun d _ => congrArg₂ (fun u v : EReal => u * v) rfl ?_
  refine (rQ_at _ _ t h p d).trans ?_
  unfold qq
  exact Finset.sum_congr rfl fun e _ => congrArg₂ (fun u v : EReal => u * v) (rXN_at _ _ t e) rfl

theorem row1 (t : Fin 16384) (h : Fin 8) : row (rS1 (rSc m c)) t h = ks m c h 0 t :=
  funext fun n => (rS1_at _ t h n).trans (rSc_at m c t h 0 n)

theorem row2 (t : Fin 16384) (h : Fin 8) : row (rS2 (rSc m c)) t h = ks m c h 1 t :=
  funext fun n => (rS2_at _ t h n).trans (rSc_at m c t h 1 n)

theorem out0 : truncf .bf16 (rXN (aX m c) (aG m c)) Cert.ReferenceIdeal.Gen.bitsLt_bf16_f32 = G4 m c := by
  funext i
  obtain ⟨a, d, rfl⟩ : ∃ a d, i = (ix2 a d : S16384x4096.Idx) := ⟨i 0, i 1, by funext i; fin_cases i <;> rfl⟩
  exact rXN_at _ _ a d

theorem out3 : r90 (rS2 (rSc m c)) = G7 m c := by
  funext i
  obtain ⟨h, n, t, rfl⟩ : ∃ h n t, i = (ix3 h n t : S8x128x16384.Idx) := ⟨i 0, i 1, i 2, by funext i; fin_cases i <;> rfl⟩
  refine (r90_at _ t h n).trans ((rE_at _ t h n).trans ?_)
  rw [row2]
  rfl

variable (H : ∀ h p T n, IsR (ks m c h p T n))
include H

theorem out1 : r86 (rS1 (rSc m c)) (rB (rS1 (rSc m c)) (rS2 (rSc m c))).1 = G5 m c := by
  funext i
  obtain ⟨h, n, t, rfl⟩ : ∃ h n t, i = (ix3 h n t : S8x128x16384.Idx) := ⟨i 0, i 1, i 2, by funext i; fin_cases i <;> rfl⟩
  refine (e1_eq _ _ t h (by rw [row1]; exact H _ _ _) (by rw [row2]; exact H _ _ _) n).trans ?_
  rw [row1, row2]
  rfl

theorem out2 : r88 (rS1 (rSc m c)) (rS2 (rSc m c)) = G6 m c := by
  funext i
  obtain ⟨h, n, t, rfl⟩ : ∃ h n t, i = (ix3 h n t : S8x128x16384.Idx) := ⟨i 0, i 1, i 2, by funext i; fin_cases i <;> rfl⟩
  refine (r88_at _ _ t h n).trans ?_
  rw [cnt_eq _ _ t h (by rw [row1]; exact fun n => (H _ _ _ n).pos) (by rw [row2]; exact fun n => (H _ _ _ n).pos), row1, row2]
  rfl

theorem out4 : r93 (rS2 (rSc m c)) = G8 m c := by
  funext i
  obtain ⟨h, n, t, rfl⟩ : ∃ h n t, i = (ix3 h n t : S8x128x16384.Idx) := ⟨i 0, i 1, i 2, by funext i; fin_cases i <;> rfl⟩
  refine (r93_at _ t h n).trans ?_
  rw [r2_eq _ t h (by rw [row2]; exact fun n => (H _ _ _ n).pos), row2]
  rfl

omit H

/-- On real arguments every score is real. -/
theorem real_of_pre (hp : Cert.Pre_KernelIdeal_finite (hPre_finite := preFacts) m) (h p T n) : IsR (ks m c h p T n) := by
  obtain ⟨h0, h1, h2, h3⟩ := hp c
  refine vs_real (fun t d => ?_) (fun d => ?_) (fun d e => ?_) (fun h p n d => ?_) h p T n
  · exact isR_of_cmp (congrFun h0 (ix2 t d))
  · exact isR_of_cmp (congrFun h1 (ix2 0 d))
  · exact isR_of_cmp (congrFun h2 (ix3 0 d e))
  · exact isR_of_cmp (congrFun h3 (ix5 0 h p n d))

set_option maxHeartbeats 4000000 in
/-- From real arguments the call's five results are the reference's. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hp ha
  refine ⟨fun c => G4 m c, fun c => G5 m c, fun c => G6 m c, fun c => G7 m c, fun c => G8 m c, ?_, ?_⟩
  · refine (θ_run _ _ _).mono ?_ (θ_run_and (run_main m g) (frame_run m g))
    rintro r ⟨hr, hf⟩ c
    have hb := fun h p T n => (real_of_pre m c hp h p T n).pos
    refine ⟨(hr.out_eq c 4).trans (final4 m c), (hr.out_eq c 5).trans (final5 m c), (hr.out_eq c 6).trans (final6 m c hb),
      (hr.out_eq c 7).trans (final7 m c), (hr.out_eq c 8).trans (final8 m c hb), (hf.1 c).1, (hf.1 c).2.1, (hf.1 c).2.2.1, (hf.1 c).2.2.2⟩
  · refine (θ_run _ _ _).mono ?_ (Cert.ReferenceIdeal.Value.run (F := Ideal) m' g')
    intro r hr c
    obtain ⟨a0, a1, a2, a3⟩ := ha c
    obtain ⟨r0, r1, r2, r3, r4, rest⟩ := hr c
    have H := real_of_pre m c hp
    refine ⟨r0.trans ?_, r1.trans ?_, r2.trans ?_, r3.trans ?_, r4.trans ?_, rest⟩
    · refine Eq.trans ?_ (out0 m c)
      rw [a0, a1]
      rfl
    · refine Eq.trans ?_ (out1 m c H)
      unfold Cert.ReferenceIdeal.Value.res_main_v86
      rw [a0, a1, a2, a3]
      rfl
    · refine Eq.trans ?_ (out2 m c H)
      unfold Cert.ReferenceIdeal.Value.res_main_v88
      rw [a0, a1, a2, a3]
      rfl
    · refine Eq.trans ?_ (out3 m c)
      rw [a0, a1, a2, a3]
      rfl
    · refine Eq.trans ?_ (out4 m c H)
      rw [a0, a1, a2, a3]
      rfl

end Cert.KernelIdeal.Hand

end

end
-- ==== Proof.Norm.lean ====
module

public import Idealize.ShloMosaic.Lib.Pointwise

@[expose] public section

noncomputable section

namespace Cert.Hand

open Idealize.ShloMosaic

/-! # The normed row, as both projections take it -/

/-- A row over its root mean square, scaled; `l` is the row's length as a float word. -/
def nrm (l : BitVec 32) {n : ℕ} (x g : Fin n → EReal) (d : Fin n) : EReal :=
  x d * Ideal.rsqrt (Ideal.div (∑ k, x k * x k) (Ideal.ofBits FTy.f32 l) + Ideal.ofBits FTy.f32 897988541#32) * g d

/-- The entry of a stream of four sequences at token `t` of all. -/
def tokOf (t : Fin 16384) : Fin 4 × Fin 4096 := (⟨t.val / 4096, by omega⟩, ⟨t.val % 4096, by omega⟩)

end Cert.Hand

end

end
-- ==== Proof.InProj.lean ====
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Norm
public import proofs.«01_k».proof.Defs
public import Idealize.ShloMosaic.Lib.Claim
public import Idealize.ShloMosaic.Lib.Pipeline.ValueKit
public import Idealize.ShloMosaic.Lib.Pointwise
public import Idealize.ShloMosaic.Lib.IdealHost

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL.Sem
open Idealize.ShloMosaic.Pipeline (Dat)
open Cert.Hand (nrm tokOf)

/-! # The input projection

The normed block is computed once per row of blocks and kept for its seven column blocks: after every point the scratch
holds the normed tokens of the point's row of blocks. -/

variable (m : (ℓ : Loc nD τ sig) → Buf (Elt Ideal) ℓ) (c : Dev nD)

/-- The stream. -/
abbrev aX : FVec Ideal S4x4096x4096 .f32 := m ((c.tc : Thread nD τ).loc main_arg0)
/-- The scales. -/
abbrev aG : FVec Ideal S1x4096 .f32 := m ((c.tc : Thread nD τ).loc main_arg1)
/-- The weights. -/
abbrev aW : FVec Ideal S1x4096x7168 .f32 := m ((c.tc : Thread nD τ).loc main_arg2)

/-- Entry `d` of the normed token `t`. -/
def nx (x : FVec Ideal S4x4096x4096 .f32) (g : FVec Ideal S1x4096 .f32) (t : Fin 16384) (d : Fin 4096) : EReal :=
  nrm 1166016512#32 (fun d => x (ix3 (tokOf t).1 (tokOf t).2 d)) (fun d => g (ix2 0 d)) d

/-- The projection of token `t` at column `e`. -/
def zz (x : FVec Ideal S4x4096x4096 .f32) (g : FVec Ideal S1x4096 .f32) (w : FVec Ideal S1x4096x7168 .f32) (t : Fin 16384) (e : Fin 7168) : EReal :=
  ∑ d, nx x g t d * w (ix3 0 d e)

theorem idx : ∀ t : Fin cfg0.N, win0_0.index t = ![t.val / 7, 0] ∧ win0_1.index t = ![0, 0] ∧ win0_2.index t = ![0, t.val % 7]
    ∧ win0_3.index t = ![t.val / 7, t.val % 7] :=
  (by decide +kernel : ∀ t : Fin grid0.N, _)

/-- Token `a` of the row of blocks of point `t`. -/
def tok (t : Fin cfg0.N) (a : Fin 512) : Fin 16384 := ⟨t.val / 7 * 512 + a.val, by have := t.isLt.trans_eq N_0; omega⟩
/-- Column `e` of the column block of point `t`. -/
def cl (t : Fin cfg0.N) (e : Fin 1024) : Fin 7168 := ⟨t.val % 7 * 1024 + e.val, by omega⟩

theorem iblk0_at (t : Fin cfg0.N) (a : Fin 512) (d : Fin 4096) :
    (iblk m c 0 t : S512x4096.Idx → Elt Ideal .f32) (ix2 a d) = aX m c (ix3 (tokOf (tok t a)).1 (tokOf (tok t a)).2 d) := by
  unfold aX tok tokOf
  blk_simp [iblk, (idx t).1]
  entry_read
  pointwise
  blk_ext [(idx t).1]

theorem iblk1_at (t : Fin cfg0.N) (a : Fin 1) (d : Fin 4096) :
    (iblk m c 1 t : S1x4096.Idx → Elt Ideal .f32) (ix2 a d) = aG m c (ix2 0 d) := by
  unfold aG
  blk_simp [iblk, (idx t).2.1]
  entry_read
  pointwise
  blk_ext [(idx t).2.1]

theorem iblk2_at (t : Fin cfg0.N) (d : Fin 4096) (e : Fin 1024) :
    (iblk m c 2 t : S4096x1024.Idx → Elt Ideal .bf16) (ix2 d e) = aW m c (ix3 0 d (cl t e)) := by
  unfold aW cl
  blk_simp [iblk, (idx t).2.2.1]
  entry_read
  pointwise
  blk_ext [(idx t).2.2.1]

theorem pay1_at (t : Fin cfg0.N) (a : Fin 512) (d : Fin 4096) :
    k0_pay1 (F := Ideal) (iblk m c 0 t) (iblk m c 1 t) (ix2 a d) = (nx (aX m c) (aG m c) (tok t a) d : EReal) := by
  have hx : ∀ e, (iblk m c 0 t : FVec Ideal S512x4096 .f32) (ix2 a e) = aX m c (ix3 (tokOf (tok t a)).1 (tokOf (tok t a)).2 e) := fun e => iblk0_at m c t a e
  have hg : (iblk m c 1 t : FVec Ideal S1x4096 .f32) (ix2 0 d) = aG m c (ix2 0 d) := iblk1_at m c t 0 d
  generalize (iblk m c 0 t : FVec Ideal S512x4096 .f32) = x1 at hx
  generalize (iblk m c 1 t : FVec Ideal S1x4096 .f32) = x2 at hg
  change k0_pay1 (F := Ideal) x1 x2 (ix2 a d) = (_ : EReal)
  pointwise [k0_pay1]
  simp only [hx, hg, nx, nrm]

theorem pay2_at (v : Vec Ideal S512x4096 .bf16) (w : Vec Ideal S4096x1024 .bf16) (a : Fin 512) (e : Fin 1024) :
    k0_pay2 (F := Ideal) v w (ix2 a e) = (∑ d, (v (ix2 a d) : EReal) * (w (ix2 d e) : EReal) : EReal) := by
  pointwise [k0_pay2]

/-- After every point the scratch holds the normed tokens of its row of blocks. -/
theorem scr_at : ∀ (n : ℕ) (h : n < cfg0.N) (a : Fin 512) (d : Fin 4096),
    (outsAt0 m c n h).2 (ix2 a d) = (nx (aX m c) (aG m c) (tok ⟨n, h⟩ a) d : EReal) := by
  intro n
  induction n with
  | zero =>
    intro h a d
    rw [outsAt0_A m c ⟨0, h⟩ rfl]
    frame_out
    exact pay1_at m c ⟨0, h⟩ a d
  | succ n ih =>
    intro h a d
    by_cases h0 : (n + 1) % 7 = 0
    · rw [outsAt0_A m c ⟨n + 1, h⟩ h0]
      frame_out
      exact pay1_at m c ⟨n + 1, h⟩ a d
    · rw [outsAt0_B m c ⟨n + 1, h⟩ h0]
      refine (ih (Nat.lt_of_succ_lt h) a d).trans ?_
      have e : tok ⟨n, Nat.lt_of_succ_lt h⟩ a = tok ⟨n + 1, h⟩ a := Fin.ext (by show n / 7 * 512 + a.val = (n + 1) / 7 * 512 + a.val; omega)
      rw [e]

/-- What a point writes: its block of the projection. -/
theorem out_at (t : Fin cfg0.N) (a : Fin 512) (e : Fin 1024) :
    (outsAt0 m c t.val t.isLt).1 (ix2 a e) = (zz (aX m c) (aG m c) (aW m c) (tok t a) (cl t e) : EReal) := by
  by_cases h0 : t.val % 7 = 0
  · rw [outsAt0_A m c t h0]
    frame_out
    refine (pay2_at _ _ a e).trans (Finset.sum_congr rfl fun d _ => congrArg₂ (fun u v : EReal => u * v) ?_ (iblk2_at m c t d e))
    exact pay1_at m c t a d
  · rw [outsAt0_B m c t h0]
    frame_out
    refine (pay2_at _ _ a e).trans (Finset.sum_congr rfl fun d _ => congrArg₂ (fun u v : EReal => u * v) ?_ (iblk2_at m c t d e))
    refine (congrFun (Memref.IsWhole.read_unread _ _) _).trans ?_
    refine (scr_at m c (t.val - 1) _ a d).trans ?_
    have e : tok ⟨t.val - 1, Nat.lt_of_le_of_lt (Nat.sub_le _ _) t.isLt⟩ a = tok t a := Fin.ext (by show (t.val - 1) / 7 * 512 + a.val = t.val / 7 * 512 + a.val; omega)
    rw [e]

/-- The projection of the whole stream. -/
def G3 : S16384x7168.Idx → Elt Ideal .f32 := fun i => (zz (aX m c) (aG m c) (aW m c) (i 0) (i 1) : EReal)

theorem final : (dats m 0 c).arrAt 3 (cfgs 0).N = G3 m c := by
  refine (dats m 0 c).arrAt_eq_of_covers 3 _ (by decide +kernel) fun t hf y => ?_
  blk_simp
  rw [after0_3]
  obtain ⟨a, e, rfl⟩ : ∃ a e, y = (ix2 a e : S512x1024.Idx) := ⟨y 0, y 1, by funext i; fin_cases i <;> rfl⟩
  refine (out_at m c t a e).trans ?_
  have he : ((cfg0.win 3).blk t).view.emb (ix2 a e) = ix2 (tok t a) (cl t e) := by
    unfold tok cl
    blk_ext [(idx t).2.2.2]
  exact (congrArg (G3 m c) he).symm

end Cert.Kernel2Ideal.Hand

namespace Cert.Reference2Ideal.Hand

open Cert.Reference2Ideal Cert.Reference2Ideal.Gen
open Idealize.ShloMosaic Idealize.ShloMosaic.TcCoe Idealize.ShloMosaic.Tactic
open Idealize.SL.Sem

/-- The reference's normed stream. -/
def rN (x0 : FVec Ideal S4x4096x4096 .f32) (x1 : FVec Ideal S1x4096 .f32) : FVec Ideal S4x4096x4096 .f32 :=
  (mulf (mulf x0 (broadcastInDim S4x4096x4096 ![0, 1, 2] bcast_S4x4096x1_S4x4096x4096_0_1_2 (Host.rsqrt (addf (Host.divf (broadcastInDim S4x4096x1 ![0, 1] bcast_S4x4096_S4x4096x1_0_1 (Host.reduceAdd (mulf x0 x0) (constant S_ .f32 0x00000000#32) reducesTo_S4x4096x4096_S4x4096_d2 h_S_)) (broadcastInDim S4x4096x1 ![] bcast_S_S4x4096x1 (constant S_ .f32 0x45800000#32))) (broadcastInDim S4x4096x1 ![] bcast_S_S4x4096x1 (constant S_ .f32 0x358637BD#32)))))) (broadcastInDim S4x4096x4096 ![0, 1, 2] bcast_S1x1x4096_S4x4096x4096_0_1_2 (broadcastInDim S1x1x4096 ![2] bcast_S4096_S1x1x4096_2 (shapeCast _ x1 shapeCasts_S1x4096_S4096))))

/-- The reference's projection. -/
def rZ (y : FVec Ideal S4x4096x4096 .f32) (x2 : FVec Ideal S1x4096x7168 .f32) : FVec Ideal S16384x7168 .f32 :=
  shapeCast _ (Host.dotGeneral dot_S4x4096x4096_S4096x7168_S4x4096x7168_2_0_01_1_n_n none y (shapeCast _ x2 shapeCasts_S1x4096x7168_S4096x7168)) shapeCasts_S4x4096x7168_S16384x7168

theorem rN_at (x0 : FVec Ideal S4x4096x4096 .f32) (x1 : FVec Ideal S1x4096 .f32) (b : Fin 4) (s d : Fin 4096) :
    rN x0 x1 (ix3 b s d) = (Cert.Hand.nrm 1166016512#32 (fun d => x0 (ix3 b s d)) (fun d => x1 (ix2 0 d)) d : EReal) := by
  pointwise [rN]
  rfl

theorem rZ_at (y : FVec Ideal S4x4096x4096 .f32) (x2 : FVec Ideal S1x4096x7168 .f32) (t : Fin 16384) (e : Fin 7168) :
    rZ y x2 (ix2 t e) = (∑ d, (y (ix3 (Cert.Hand.tokOf t).1 (Cert.Hand.tokOf t).2 d) : EReal) * x2 (ix3 0 d e) : EReal) := by
  pointwise [rZ]
  rfl

end Cert.Reference2Ideal.Hand

namespace Cert.Kernel2Ideal.Hand

open Cert.Kernel2Ideal Cert.Kernel2Ideal.Gen
open Idealize.ShloMosaic Idealize.ShloMosaic.TcCoe Idealize.ShloMosaic.Tactic
open Idealize.SL.Sem
open Cert.Reference2Ideal.Hand (rN rZ rN_at rZ_at)

/-- The reference's result over the kernel's arguments is the projection. -/
theorem ref_eq (m : (ℓ : Loc nD τ sig) → Buf (Elt Ideal) ℓ) (c : Dev nD) : rZ (rN (aX m c) (aG m c)) (aW m c) = G3 m c := by
  funext i
  obtain ⟨t, e, rfl⟩ : ∃ t e, i = (ix2 t e : S16384x7168.Idx) := ⟨i 0, i 1, by funext i; fin_cases i <;> rfl⟩
  refine (rZ_at _ _ t e).trans (Finset.sum_congr rfl fun d _ => congrArg₂ (fun u v : EReal => u * v) ?_ rfl)
  exact rN_at _ _ _ _ d

set_option maxHeartbeats 4000000 in
/-- The input projection is the reference's. -/
theorem algebraic : Cert.algebraic_Kernel2Ideal_Reference2Ideal (hKernel2Ideal := Cert.Kernel2Ideal.Gen.facts)
    (hReference2Ideal := Cert.Reference2Ideal.Gen.facts) := by
  intro m g m' g' _ ha
  refine ⟨fun c => G3 m c, ?_, ?_⟩
  · refine (θ_run _ _ _).mono ?_ (θ_run_and (run_main m g) (frame m g))
    rintro r ⟨hr, hf⟩ c
    exact ⟨(hr.out_eq c 3).trans (final m c), (hf.1 c).1, (hf.1 c).2.1, (hf.1 c).2.2⟩
  · refine (θ_run _ _ _).mono ?_ (Cert.Reference2Ideal.Value.run (F := Ideal) m' g')
    intro r hr c
    obtain ⟨a0, a1, a2⟩ := ha c
    obtain ⟨r0, rest⟩ := hr c
    refine ⟨r0.trans ?_, rest⟩
    refine Eq.trans ?_ (ref_eq m c)
    rw [a0, a1, a2]
    rfl

end Cert.Kernel2Ideal.Hand

end

end
-- ==== Proof.OutProj.lean ====
module

public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Norm
public import proofs.«01_k».proof.Defs
public import Idealize.ShloMosaic.Lib.Claim
public import Idealize.ShloMosaic.Lib.Pipeline.ValueKit
public import Idealize.ShloMosaic.Lib.Pointwise
public import Idealize.ShloMosaic.Lib.IdealHost

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL.Sem
open Idealize.ShloMosaic.Pipeline (Dat)
open Cert.Hand (nrm tokOf)

/-! # The output projection

The two normed head groups are put side by side once per row of blocks and kept for its four column blocks: after every
point the scratch holds the merged tokens of the point's row of blocks. -/

variable (m : (ℓ : Loc nD τ sig) → Buf (Elt Ideal) ℓ) (c : Dev nD)

/-- The attention's output. -/
abbrev aA : FVec Ideal S16384x2048 .f32 := m ((c.tc : Thread nD τ).loc main_arg0)
/-- The recurrence's output. -/
abbrev aL : FVec Ideal S16384x2048 .f32 := m ((c.tc : Thread nD τ).loc main_arg1)
/-- The scales of the first. -/
abbrev aGA : FVec Ideal S1x2048 .f32 := m ((c.tc : Thread nD τ).loc main_arg2)
/-- The scales of the second. -/
abbrev aGL : FVec Ideal S1x2048 .f32 := m ((c.tc : Thread nD τ).loc main_arg3)
/-- The weights. -/
abbrev aW : FVec Ideal S1x4096x4096 .f32 := m ((c.tc : Thread nD τ).loc main_arg4)
/-- The stream. -/
abbrev aX : FVec Ideal S4x4096x4096 .f32 := m ((c.tc : Thread nD τ).loc main_arg5)

/-- Entry `d` of the normed row `t` of one head group. -/
def nx (x : FVec Ideal S16384x2048 .f32) (g : FVec Ideal S1x2048 .f32) (t : Fin 16384) (d : Fin 2048) : EReal :=
  nrm 1157627904#32 (fun d => x (ix2 t d)) (fun d => g (ix2 0 d)) d

/-- Entry `d` of the merged row `t`. -/
def mg (x y : FVec Ideal S16384x2048 .f32) (g h : FVec Ideal S1x2048 .f32) (t : Fin 16384) (d : Fin 4096) : EReal :=
  if hd : d.val < 2048 then nx x g t ⟨d.val, hd⟩ else nx y h t ⟨d.val - 2048, by omega⟩

/-- The stream after the mixers, token `t` at column `e`. -/
def zz (x y : FVec Ideal S16384x2048 .f32) (g h : FVec Ideal S1x2048 .f32) (w : FVec Ideal S1x4096x4096 .f32) (s : FVec Ideal S4x4096x4096 .f32)
    (t : Fin 16384) (e : Fin 4096) : EReal :=
  s (ix3 (tokOf t).1 (tokOf t).2 e) + ∑ d, mg x y g h t d * w (ix3 0 d e)

theorem idx : ∀ t : Fin cfg0.N, win0_0.index t = ![t.val / 4, 0] ∧ win0_1.index t = ![t.val / 4, 0] ∧ win0_2.index t = ![0, 0] ∧ win0_3.index t = ![0, 0]
    ∧ win0_4.index t = ![0, t.val % 4] ∧ win0_5.index t = ![t.val / 4, t.val % 4] ∧ win0_6.index t = ![t.val / 4, t.val % 4] :=
  (by decide +kernel : ∀ t : Fin grid0.N, _)

/-- Token `a` of the row of blocks of point `t`. -/
def tok (t : Fin cfg0.N) (a : Fin 512) : Fin 16384 := ⟨t.val / 4 * 512 + a.val, by have := t.isLt.trans_eq N_0; omega⟩
/-- Column `e` of the column block of point `t`. -/
def cl (t : Fin cfg0.N) (e : Fin 1024) : Fin 4096 := ⟨t.val % 4 * 1024 + e.val, by omega⟩

theorem iblk0_at (t : Fin cfg0.N) (a : Fin 512) (d : Fin 2048) :
    (iblk m c 0 t : S512x2048.Idx → Elt Ideal .f32) (ix2 a d) = aA m c (ix2 (tok t a) d) := by
  unfold aA tok
  blk_simp [iblk, (idx t).1]
  rw [V_main_arg0]
  blk_ext [(idx t).1]

theorem iblk1_at (t : Fin cfg0.N) (a : Fin 512) (d : Fin 2048) :
    (iblk m c 1 t : S512x2048.Idx → Elt Ideal .f32) (ix2 a d) = aL m c (ix2 (tok t a) d) := by
  unfold aL tok
  blk_simp [iblk, (idx t).2.1]
  rw [V_main_arg1]
  blk_ext [(idx t).2.1]

theorem iblk2_at (t : Fin cfg0.N) (a : Fin 1) (d : Fin 2048) :
    (iblk m c 2 t : S1x2048.Idx → Elt Ideal .f32) (ix2 a d) = aGA m c (ix2 0 d) := by
  unfold aGA
  blk_simp [iblk, (idx t).2.2.1]
  entry_read
  pointwise
  blk_ext [(idx t).2.2.1]

theorem iblk3_at (t : Fin cfg0.N) (a : Fin 1) (d : Fin 2048) :
    (iblk m c 3 t : S1x2048.Idx → Elt Ideal .f32) (ix2 a d) = aGL m c (ix2 0 d) := by
  unfold aGL
  blk_simp [iblk, (idx t).2.2.2.1]
  entry_read
  pointwise
  blk_ext [(idx t).2.2.2.1]

theorem iblk4_at (t : Fin cfg0.N) (d : Fin 4096) (e : Fin 1024) :
    (iblk m c 4 t : S4096x1024.Idx → Elt Ideal .bf16) (ix2 d e) = aW m c (ix3 0 d (cl t e)) := by
  unfold aW cl
  blk_simp [iblk, (idx t).2.2.2.2.1]
  entry_read
  pointwise
  blk_ext [(idx t).2.2.2.2.1]

theorem iblk5_at (t : Fin cfg0.N) (a : Fin 512) (e : Fin 1024) :
    (iblk m c 5 t : S512x1024.Idx → Elt Ideal .f32) (ix2 a e) = aX m c (ix3 (tokOf (tok t a)).1 (tokOf (tok t a)).2 (cl t e)) := by
  unfold aX tok cl tokOf
  blk_simp [iblk, (idx t).2.2.2.2.2.1]
  entry_read
  pointwise
  blk_ext [(idx t).2.2.2.2.2.1]

theorem pay1_at (t : Fin cfg0.N) (a : Fin 512) (d : Fin 2048) :
    k0_pay1 (F := Ideal) (iblk m c 0 t) (iblk m c 2 t) (ix2 a d) = (nx (aA m c) (aGA m c) (tok t a) d : EReal) := by
  have hx : ∀ e, (iblk m c 0 t : FVec Ideal S512x2048 .f32) (ix2 a e) = aA m c (ix2 (tok t a) e) := fun e => iblk0_at m c t a e
  have hg : (iblk m c 2 t : FVec Ideal S1x2048 .f32) (ix2 0 d) = aGA m c (ix2 0 d) := iblk2_at m c t 0 d
  generalize (iblk m c 0 t : FVec Ideal S512x2048 .f32) = x1 at hx
  generalize (iblk m c 2 t : FVec Ideal S1x2048 .f32) = x2 at hg
  change k0_pay1 (F := Ideal) x1 x2 (ix2 a d) = (_ : EReal)
  pointwise [k0_pay1]
  simp only [hx, hg, nx, nrm]

theorem pay2_at (t : Fin cfg0.N) (a : Fin 512) (d : Fin 2048) :
    k0_pay2 (F := Ideal) (iblk m c 1 t) (iblk m c 3 t) (ix2 a d) = (nx (aL m c) (aGL m c) (tok t a) d : EReal) := by
  have hx : ∀ e, (iblk m c 1 t : FVec Ideal S512x2048 .f32) (ix2 a e) = aL m c (ix2 (tok t a) e) := fun e => iblk1_at m c t a e
  have hg : (iblk m c 3 t : FVec Ideal S1x2048 .f32) (ix2 0 d) = aGL m c (ix2 0 d) := iblk3_at m c t 0 d
  generalize (iblk m c 1 t : FVec Ideal S512x2048 .f32) = x1 at hx
  generalize (iblk m c 3 t : FVec Ideal S1x2048 .f32) = x2 at hg
  change k0_pay2 (F := Ideal) x1 x2 (ix2 a d) = (_ : EReal)
  pointwise [k0_pay2]
  simp only [hx, hg, nx, nrm]

theorem pay3_at (s : Vec Ideal S512x1024 .f32) (v : Vec Ideal S512x4096 .bf16) (w : Vec Ideal S4096x1024 .bf16) (a : Fin 512) (e : Fin 1024) :
    k0_pay3 (F := Ideal) s v w (ix2 a e) = ((s (ix2 a e) : EReal) + ∑ d, (v (ix2 a d) : EReal) * (w (ix2 d e) : EReal) : EReal) := by
  pointwise [k0_pay3]

/-- The merged row of point `t`'s block. -/
abbrev mt (t : Fin cfg0.N) (a : Fin 512) (d : Fin 4096) : EReal := mg (aA m c) (aL m c) (aGA m c) (aGL m c) (tok t a) d

/-- The scratch after its two stores. -/
theorem halves (p q : Vec Ideal S512x2048 .bf16) (a : Fin 512) (d : Fin 4096) :
    View.canon (Val := Elt Ideal) (e := .bf16) [⟨Rect.unit ![0, 2048] ![512, 2048] inb_S512x4096_S512x2048_0_2048, q⟩,
      ⟨Rect.unit ![0, 0] ![512, 2048] inb_S512x4096_S512x2048_0_0, p⟩] (ix2 a d : S512x4096.Idx)
      = (if hd : d.val < 2048 then (p (ix2 a ⟨d.val, hd⟩) : EReal) else q (ix2 a ⟨d.val - 2048, by omega⟩)) := by
  canon_tiles x h
  case piece0 =>
    change d.val = 2048 + (x 1).val at h1
    rw [dif_neg (by omega)]
    refine congrArg q ?_
    blk_ext
    exact h0.symm
  case piece1 =>
    change d.val = (x 1).val at h1
    rw [dif_pos (by omega)]
    refine congrArg p ?_
    blk_ext
    exact h0.symm

/-- The merged tokens, as the two stores leave them. -/
theorem halves_at (t : Fin cfg0.N) (a : Fin 512) (d : Fin 4096) :
    View.canon (Val := Elt Ideal) (e := .bf16) [⟨Rect.unit ![0, 2048] ![512, 2048] inb_S512x4096_S512x2048_0_2048, k0_pay2 (F := Ideal) (iblk m c 1 t) (iblk m c 3 t)⟩,
      ⟨Rect.unit ![0, 0] ![512, 2048] inb_S512x4096_S512x2048_0_0, k0_pay1 (F := Ideal) (iblk m c 0 t) (iblk m c 2 t)⟩] (ix2 a d : S512x4096.Idx)
      = (mt m c t a d : EReal) := by
  refine (halves _ _ a d).trans ?_
  unfold mt mg
  by_cases hd : d.val < 2048
  · rw [dif_pos hd, dif_pos hd]
    exact pay1_at m c t a _
  · rw [dif_neg hd, dif_neg hd]
    exact pay2_at m c t a _

/-- Where the row of blocks begins the scratch is stored whole. -/
theorem scrA_at (t : Fin cfg0.N) (h0 : t.val % 4 = 0) (a : Fin 512) (d : Fin 4096) : (outsAt0 m c t.val t.isLt).2 (ix2 a d) = (mt m c t a d : EReal) := by
  rw [outsAt0_A m c t h0]
  frame_out
  exact halves_at m c t a d

/-- After every point the scratch holds the merged tokens of its row of blocks. -/
theorem scr_at : ∀ (n : ℕ) (h : n < cfg0.N) (a : Fin 512) (d : Fin 4096), (outsAt0 m c n h).2 (ix2 a d) = (mt m c ⟨n, h⟩ a d : EReal) := by
  intro n
  induction n with
  | zero => exact fun h a d => scrA_at m c ⟨0, h⟩ rfl a d
  | succ n ih =>
    intro h a d
    by_cases h0 : (n + 1) % 4 = 0
    · exact scrA_at m c ⟨n + 1, h⟩ h0 a d
    · rw [outsAt0_B m c ⟨n + 1, h⟩ h0]
      refine (ih (Nat.lt_of_succ_lt h) a d).trans ?_
      have e : tok ⟨n, Nat.lt_of_succ_lt h⟩ a = tok ⟨n + 1, h⟩ a := Fin.ext (by show n / 4 * 512 + a.val = (n + 1) / 4 * 512 + a.val; omega)
      unfold mt
      rw [e]

theorem pay3_of (t : Fin cfg0.N) (v : Vec Ideal S512x4096 .bf16) (a : Fin 512) (e : Fin 1024) (hv : ∀ d, v (ix2 a d) = (mt m c t a d : EReal)) :
    k0_pay3 (F := Ideal) (iblk m c 5 t) v (iblk m c 4 t) (ix2 a e) = (zz (aA m c) (aL m c) (aGA m c) (aGL m c) (aW m c) (aX m c) (tok t a) (cl t e) : EReal) :=
  (pay3_at _ _ _ a e).trans (congrArg₂ (fun u v : EReal => u + v) (iblk5_at m c t a e)
    (Finset.sum_congr rfl fun d _ => congrArg₂ (fun u v : EReal => u * v) (hv d) (iblk4_at m c t d e)))

/-- What a point writes: its block of the result. -/
theorem out_at (t : Fin cfg0.N) (a : Fin 512) (e : Fin 1024) :
    (outsAt0 m c t.val t.isLt).1 (ix2 a e) = (zz (aA m c) (aL m c) (aGA m c) (aGL m c) (aW m c) (aX m c) (tok t a) (cl t e) : EReal) := by
  by_cases h0 : t.val % 4 = 0
  · rw [outsAt0_A m c t h0]
    frame_out
    refine pay3_of m c t _ a e fun d => ?_
    refine (congrFun (View.readCov_eq_canon' _ _ _) _).trans ?_
    refine Eq.trans (congrArg _ ?_) (halves_at m c t a d)
    funext k
    refine Fin.ext ?_
    fin_cases k
    · exact (Nat.zero_add _).trans (Nat.one_mul _)
    · exact (Nat.zero_add _).trans (Nat.one_mul _)
  · rw [outsAt0_B m c t h0]
    frame_out
    refine pay3_of m c t _ a e fun d => ?_
    refine (congrFun (Memref.IsWhole.read_unread _ _) _).trans ?_
    refine (scr_at m c (t.val - 1) _ a d).trans ?_
    have e : tok ⟨t.val - 1, Nat.lt_of_le_of_lt (Nat.sub_le _ _) t.isLt⟩ a = tok t a := Fin.ext (by show (t.val - 1) / 4 * 512 + a.val = t.val / 4 * 512 + a.val; omega)
    unfold mt
    rw [e]

/-- The stream after the mixers. -/
def G6 : S16384x4096.Idx → Elt Ideal .f32 := fun i => (zz (aA m c) (aL m c) (aGA m c) (aGL m c) (aW m c) (aX m c) (i 0) (i 1) : EReal)

theorem final : (dats m 0 c).arrAt 6 (cfgs 0).N = G6 m c := by
  refine (dats m 0 c).arrAt_eq_of_covers 6 _ (by decide +kernel) fun t hf y => ?_
  blk_simp
  rw [after0_6]
  obtain ⟨a, e, rfl⟩ : ∃ a e, y = (ix2 a e : S512x1024.Idx) := ⟨y 0, y 1, by funext i; fin_cases i <;> rfl⟩
  refine (out_at m c t a e).trans ?_
  have he : ((cfg0.win 6).blk t).view.emb (ix2 a e) = ix2 (tok t a) (cl t e) := by
    unfold tok cl
    blk_ext [(idx t).2.2.2.2.2.2]
  exact (congrArg (G6 m c) he).symm

end Cert.Kernel3Ideal.Hand

namespace Cert.Reference3Ideal.Hand

open Cert.Reference3Ideal Cert.Reference3Ideal.Gen
open Idealize.ShloMosaic Idealize.ShloMosaic.TcCoe Idealize.ShloMosaic.Tactic
open Idealize.SL.Sem

/-- One normed head group of the reference. -/
def rN (x0 : FVec Ideal S16384x2048 .f32) (x1 : FVec Ideal S1x2048 .f32) : FVec Ideal S16384x2048 .f32 :=
  (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ x1 shapeCasts_S1x2048_S2048))))

/-- The reference's result, from its normed head groups. -/
def rZ (y z : FVec Ideal S16384x2048 .f32) (x4 : FVec Ideal S1x4096x4096 .f32) (x5 : FVec Ideal S4x4096x4096 .f32) : FVec Ideal S16384x4096 .f32 :=
  addf (shapeCast _ x5 shapeCasts_S4x4096x4096_S16384x4096) (Host.dotGeneral dot_S16384x4096_S4096x4096_S16384x4096_1_0_0_1_n_n none (concatenate S16384x4096 1 [⟨S16384x2048, y⟩, ⟨S16384x2048, z⟩] concatenates_S16384x2048_S16384x2048_S16384x4096_d1) (shapeCast _ x4 shapeCasts_S1x4096x4096_S4096x4096))

theorem rN_at (x0 : FVec Ideal S16384x2048 .f32) (x1 : FVec Ideal S1x2048 .f32) (t : Fin 16384) (d : Fin 2048) :
    rN x0 x1 (ix2 t d) = (Cert.Kernel3Ideal.Hand.nx x0 x1 t d : EReal) := by
  pointwise [rN]
  rfl

theorem rZ_at (y z : FVec Ideal S16384x2048 .f32) (x4 : FVec Ideal S1x4096x4096 .f32) (x5 : FVec Ideal S4x4096x4096 .f32) (t : Fin 16384) (e : Fin 4096) :
    rZ y z x4 x5 (ix2 t e) = ((x5 (ix3 (Cert.Hand.tokOf t).1 (Cert.Hand.tokOf t).2 e) : EReal) +
      ∑ d : Fin 4096, (if hd : d.val < 2048 then (y (ix2 t ⟨d.val, hd⟩) : EReal) else z (ix2 t ⟨d.val - 2048, by omega⟩)) * x4 (ix3 0 d e) : EReal) := by
  pointwise [rZ]
  rfl

end Cert.Reference3Ideal.Hand

namespace Cert.Kernel3Ideal.Hand

open Cert.Kernel3Ideal Cert.Kernel3Ideal.Gen
open Idealize.ShloMosaic Idealize.ShloMosaic.TcCoe Idealize.ShloMosaic.Tactic
open Idealize.SL.Sem
open Cert.Reference3Ideal.Hand (rN rZ rN_at rZ_at)

/-- The reference's result over the kernel's arguments is the same stream. -/
theorem ref_eq (m : (ℓ : Loc nD τ sig) → Buf (Elt Ideal) ℓ) (c : Dev nD) :
    rZ (rN (aA m c) (aGA m c)) (rN (aL m c) (aGL m c)) (aW m c) (aX m c) = G6 m c := by
  funext i
  obtain ⟨t, e, rfl⟩ : ∃ t e, i = (ix2 t e : S16384x4096.Idx) := ⟨i 0, i 1, by funext i; fin_cases i <;> rfl⟩
  refine (rZ_at _ _ _ _ t e).trans (congrArg₂ (fun u v : EReal => u + v) rfl (Finset.sum_congr rfl fun d _ => congrArg₂ (fun u v : EReal => u * v) ?_ rfl))
  change _ = mg _ _ _ _ t d
  unfold mg
  by_cases hd : d.val < 2048
  · rw [dif_pos hd, dif_pos hd]
    exact rN_at _ _ t _
  · rw [dif_neg hd, dif_neg hd]
    exact rN_at _ _ t _

set_option maxHeartbeats 4000000 in
/-- The output projection is the reference's. -/
theorem algebraic : Cert.algebraic_Kernel3Ideal_Reference3Ideal (hKernel3Ideal := Cert.Kernel3Ideal.Gen.facts)
    (hReference3Ideal := Cert.Reference3Ideal.Gen.facts) := by
  intro m g m' g' _ ha
  refine ⟨fun c => G6 m c, ?_, ?_⟩
  · refine (θ_run _ _ _).mono ?_ (θ_run_and (run_main m g) (frame m g))
    rintro r ⟨hr, hf⟩ c
    exact ⟨(hr.out_eq c 6).trans (final m c), hf.1 c⟩
  · refine (θ_run _ _ _).mono ?_ (Cert.Reference3Ideal.Value.run (F := Ideal) m' g')
    intro r hr c
    obtain ⟨a0, a1, a2, a3, a4, a5⟩ := ha c
    obtain ⟨r0, rest⟩ := hr c
    refine ⟨r0.trans ?_, rest⟩
    refine Eq.trans ?_ (ref_eq m c)
    rw [a0, a1, a2, a3, a4, a5]
    rfl

end Cert.Kernel3Ideal.Hand

end

end
-- ==== Proof.QkPrep.lean ====
/- The norms and the rotation of queries and keys. -/
module

public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Defs
public import proofs.«01_k».proof.Proof.Norm
public import Idealize.ShloMosaic.Lib.Claim
public import Idealize.ShloMosaic.Lib.Pipeline.ValueKit
public import Idealize.ShloMosaic.Lib.Pointwise
public import Idealize.ShloMosaic.Lib.IdealHost

@[expose] public section

noncomputable section

namespace Cert.Kernel4Ideal.Hand

open Cert.Kernel4Ideal Cert.Kernel4Ideal.Gen
open Idealize.ShloMosaic Idealize.ShloMosaic.TcCoe Idealize.ShloMosaic.Tactic
open Idealize.SL.Sem
open Idealize.ShloMosaic.Pipeline (Dat)
open Cert.Hand (nrm tokOf)

/-! # The norms and the rotation of queries and keys

Each head of 128 columns is normed, and its two halves are rotated by the token's two angles. -/

variable (m : (ℓ : Loc nD τ sig) → Buf (Elt Ideal) ℓ) (c : Dev nD)

/-- The projected tokens. -/
abbrev aZ : FVec Ideal S16384x7168 .f32 := m ((c.tc : Thread nD τ).loc main_arg0)
/-- The cosines of the tokens' angles. -/
abbrev aC : FVec Ideal S4096x128 .f32 := m ((c.tc : Thread nD τ).loc main_arg1)
/-- The sines. -/
abbrev aS : FVec Ideal S4096x128 .f32 := m ((c.tc : Thread nD τ).loc main_arg2)
/-- The scales of the queries. -/
abbrev aQ : FVec Ideal S1x128 .f32 := m ((c.tc : Thread nD τ).loc main_arg3)
/-- The scales of the keys. -/
abbrev aK : FVec Ideal S1x128 .f32 := m ((c.tc : Thread nD τ).loc main_arg4)

/-- One head normed. -/
abbrev nh (x g : Fin 128 → EReal) (d : Fin 128) : EReal := nrm 1124073472#32 x g d

/-- The signed table the call takes. -/
def sg (d : Fin 128) : EReal := if d.val % 64 < 32 then Ideal.ofBits FTy.f32 3212836864#32 else Ideal.ofBits FTy.f32 1065353216#32

/-- One head normed and rotated, with a signed table of sines. -/
def rk (x g co si : Fin 128 → EReal) (d : Fin 128) : EReal :=
  nh x g d * co d + (if d.val % 64 < 32 then nh x g ⟨(d.val + 32) % 128, by omega⟩ else nh x g ⟨(d.val + 96) % 128, by omega⟩) * si d

/-- The lanes of the lower half of each pair. -/
theorem lo_at (a : Fin 256) (d : Fin 128) : k0_pay4 (ix2 a d) = (if d.val % 64 < 32 then 1#1 else 0#1) := by
  pointwise [k0_pay4]
  revert d
  decide +kernel

theorem pay9_at (v0 v2 x : FVec Ideal S256x128 .f32) (g : FVec Ideal S1x128 .f32) (a : Fin 256) (d : Fin 128) :
    k0_pay9 (F := Ideal) v0 v2 k0_pay4 x g (ix2 a d) =
      (rk (fun e => x (ix2 a e)) (fun e => g (ix2 0 e)) (fun e => v0 (ix2 a e)) (fun e => v2 (ix2 a e)) d : EReal) := by
  pointwise [k0_pay9]
  rw [lo_at]
  unfold rk
  by_cases hd : d.val % 64 < 32
  · rw [if_pos hd, if_pos hd, show (⟨(d.val + 32) % 128, Nat.mod_lt _ (by omega)⟩ : Fin 128) = ⟨(d.val + 128 - 96) % 128, Nat.mod_lt _ (by omega)⟩ from
      Fin.ext (by show (d.val + 32) % 128 = (d.val + 128 - 96) % 128; omega)]
    rfl
  · rw [if_neg hd, if_neg hd, show (⟨(d.val + 96) % 128, Nat.mod_lt _ (by omega)⟩ : Fin 128) = ⟨(d.val + 128 - 32) % 128, Nat.mod_lt _ (by omega)⟩ from
      Fin.ext (by show (d.val + 96) % 128 = (d.val + 128 - 32) % 128; omega)]
    rfl

theorem rk_congr {x x' g g' co co' si si' : Fin 128 → EReal} {d d' : Fin 128} (hx : ∀ e, x e = x' e) (hg : ∀ e, g e = g' e)
    (hc : ∀ e, co e = co' e) (hs : ∀ e, si e = si' e) (hd : d = d') : rk x g co si d = rk x' g' co' si' d' := by
  rw [funext hx, funext hg, funext hc, funext hs, hd]

/-- The first scales as the launch finds them. -/
theorem V10_at (d : Fin 128) : (V m c main_v10 : S1x128.Idx → Elt Ideal .f32) (ix2 0 d) = aQ m c (ix2 0 d) := by
  unfold V
  simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise
  try blk_ext

/-- The second. -/
theorem V12_at (d : Fin 128) : (V m c main_v12 : S1x128.Idx → Elt Ideal .f32) (ix2 0 d) = aK m c (ix2 0 d) := by
  unfold V
  simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise
  try blk_ext

set_option maxHeartbeats 1000000 in
/-- The signed sines. -/
theorem V8_at (s : Fin 4096) (d : Fin 128) : (V m c main_v8 : S4096x128.Idx → Elt Ideal .f32) (ix2 s d) = (aS m c (ix2 s d) * sg d : EReal) := by
  unfold V
  simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise
  refine congrArg (fun u : EReal => aS m c (ix2 s d) * u) ?_
  unfold sg
  refine if_congr ?_ rfl rfl
  clear * - d
  revert d
  decide +kernel

theorem idx : ∀ t : Fin cfg0.N, win0_0.index t = ![t.val, 0] ∧ win0_1.index t = ![t.val, 5] ∧ win0_2.index t = ![t.val % 16, 0] ∧ win0_3.index t = ![t.val % 16, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

/-- Token `a` of the block of point `t`. -/
def tok (t : Fin cfg0.N) (a : Fin 256) : Fin 16384 := ⟨t.val * 256 + a.val, by have := t.isLt.trans_eq N_0; omega⟩

theorem X0_at (t : Fin cfg0.N) (a : Fin 256) (d : Fin 2560) :
    (X0_0 m c t : S256x2560.Idx → Elt Ideal .f32) (ix2 a d) = aZ m c (ix2 (tok t a) ⟨d.val, by omega⟩) := by
  unfold aZ tok
  unfold X0_0 Pipeline.Window.fill
  rw [dif_pos (moved0_0 t _)]
  blk_simp [iblk, (idx t).1]
  rw [V_main_arg0]
  blk_ext [(idx t).1]

theorem iblk1_at (t : Fin cfg0.N) (a : Fin 256) (d : Fin 512) :
    (iblk m c 1 t : S256x512.Idx → Elt Ideal .f32) (ix2 a d) = aZ m c (ix2 (tok t a) ⟨2560 + d.val, by omega⟩) := by
  unfold aZ tok
  blk_simp [iblk, (idx t).2.1]
  rw [V_main_arg0]
  blk_ext [(idx t).2.1]

theorem iblk2_at (t : Fin cfg0.N) (a : Fin 256) (d : Fin 128) :
    (iblk m c 2 t : S256x128.Idx → Elt Ideal .f32) (ix2 a d) = aC m c (ix2 (tokOf (tok t a)).2 d) := by
  unfold aC tok tokOf
  blk_simp [iblk, (idx t).2.2.1]
  rw [V_main_arg1]
  blk_ext [(idx t).2.2.1]

theorem iblk3_at (t : Fin cfg0.N) (a : Fin 256) (d : Fin 128) :
    (iblk m c 3 t : S256x128.Idx → Elt Ideal .f32) (ix2 a d) = (aS m c (ix2 (tokOf (tok t a)).2 d) * sg d : EReal) := by
  blk_simp [iblk, (idx t).2.2.2.1]
  refine Eq.trans (congrArg _ ?_) (V8_at m c _ d)
  unfold tok tokOf
  blk_ext [(idx t).2.2.2.1]

theorem iblk4_at (t : Fin cfg0.N) (a : Fin 1) (d : Fin 128) :
    (iblk m c 4 t : S1x128.Idx → Elt Ideal .f32) (ix2 a d) = aQ m c (ix2 0 d) := by
  blk_simp [iblk, (idx t).2.2.2.2.1]
  refine Eq.trans (congrArg _ ?_) (V10_at m c d)
  blk_ext [(idx t).2.2.2.2.1]

theorem iblk5_at (t : Fin cfg0.N) (a : Fin 1) (d : Fin 128) :
    (iblk m c 5 t : S1x128.Idx → Elt Ideal .f32) (ix2 a d) = aK m c (ix2 0 d) := by
  blk_simp [iblk, (idx t).2.2.2.2.2.1]
  refine Eq.trans (congrArg _ ?_) (V12_at m c d)
  blk_ext [(idx t).2.2.2.2.2.1]

/-- One head of the point's block. -/
theorem ld_at (X : Vec Ideal S256x2560 .f32) (o : ℕ) (inb : ∀ a, (![0, o] : Fin 2 → ℕ) a + (![256, 128] : Fin 2 → ℕ) a ≤ S256x2560.size a) (a : Fin 256) (k : Fin 128) (j : Fin 2560)
    (h : j.val = o + k.val) : View.ld X (Rect.unit (![0, o] : Fin 2 → ℕ) (![256, 128] : Fin 2 → ℕ) inb) (ix2 a k) = X (ix2 a j) := by
  refine congrArg X ?_
  funext i
  refine Fin.ext ?_
  fin_cases i
  · exact (Nat.zero_add _).trans (Nat.one_mul _)
  · exact (congrArg (o + ·) (Nat.one_mul _)).trans h.symm

theorem q_at (t : Fin cfg0.N) (a : Fin 256) (e : Fin 2048) : (outsAt0 m c t).1 (ix2 a e) =
    (rk (fun d => (X0_0 m c t : S256x2560.Idx → Elt Ideal .f32) (ix2 a ⟨e.val / 128 * 128 + d.val, by omega⟩))
      (fun d => (iblk m c 4 t : S1x128.Idx → Elt Ideal .f32) (ix2 0 d)) (fun d => (iblk m c 2 t : S256x128.Idx → Elt Ideal .f32) (ix2 a d))
      (fun d => (iblk m c 3 t : S256x128.Idx → Elt Ideal .f32) (ix2 a d)) ⟨e.val % 128, by omega⟩ : EReal) := by
  unfold outsAt0
  frame_out
  canon_tiles x h
  all_goals
    obtain ⟨b, d, rfl⟩ : ∃ b d, x = (ix2 b d : S256x128.Idx) := ⟨x 0, x 1, by funext i; fin_cases i <;> rfl⟩
    change a.val = b.val at h0
    obtain rfl : a = b := Fin.ext h0
    have hd : d.val < 128 := d.isLt
    refine (pay9_at (iblk m c 2 t) (k0_pay3 (iblk m c 3 t)) _ (iblk m c 4 t) a d).trans (rk_congr (fun k => ?_) (fun _ => rfl) (fun _ => rfl) (fun k => ?_) ?_)
    · refine ld_at _ _ _ a k _ ?_
      simp only [ix2_1] at h1
      show e.val / 128 * 128 + k.val = _ + k.val
      omega
    · pointwise [k0_pay3]
    · exact Fin.ext (by show d.val = e.val % 128; simp only [ix2_1] at h1; omega)

theorem k_at (t : Fin cfg0.N) (a : Fin 256) (e : Fin 512) : (outsAt0 m c t).2.1 (ix2 a e) =
    (rk (fun d => (X0_0 m c t : S256x2560.Idx → Elt Ideal .f32) (ix2 a ⟨2048 + e.val / 128 * 128 + d.val, by omega⟩))
      (fun d => (iblk m c 5 t : S1x128.Idx → Elt Ideal .f32) (ix2 0 d)) (fun d => (iblk m c 2 t : S256x128.Idx → Elt Ideal .f32) (ix2 a d))
      (fun d => (iblk m c 3 t : S256x128.Idx → Elt Ideal .f32) (ix2 a d)) ⟨e.val % 128, by omega⟩ : EReal) := by
  unfold outsAt0
  frame_out
  canon_tiles x h
  all_goals
    obtain ⟨b, d, rfl⟩ : ∃ b d, x = (ix2 b d : S256x128.Idx) := ⟨x 0, x 1, by funext i; fin_cases i <;> rfl⟩
    change a.val = b.val at h0
    obtain rfl : a = b := Fin.ext h0
    have hd : d.val < 128 := d.isLt
    refine (pay9_at (iblk m c 2 t) (k0_pay3 (iblk m c 3 t)) _ (iblk m c 5 t) a d).trans (rk_congr (fun k => ?_) (fun _ => rfl) (fun _ => rfl) (fun k => ?_) ?_)
    · refine ld_at _ _ _ a k _ ?_
      simp only [ix2_1] at h1
      show 2048 + e.val / 128 * 128 + k.val = _ + k.val
      omega
    · pointwise [k0_pay3]
    · exact Fin.ext (by show d.val = e.val % 128; simp only [ix2_1] at h1; omega)

theorem v_at (t : Fin cfg0.N) (a : Fin 256) (e : Fin 512) : (outsAt0 m c t).2.2 (ix2 a e) = aZ m c (ix2 (tok t a) ⟨2560 + e.val, by omega⟩) := by
  unfold outsAt0
  frame_out
  refine Eq.trans ?_ (iblk1_at m c t a e)
  rfl

/-- Query entry `e` of token `t`. -/
def gq (t : Fin 16384) (e : Fin 2048) : EReal :=
  rk (fun d => aZ m c (ix2 t ⟨e.val / 128 * 128 + d.val, by omega⟩)) (fun d => aQ m c (ix2 0 d)) (fun d => aC m c (ix2 (tokOf t).2 d))
    (fun d => (aS m c (ix2 (tokOf t).2 d) * sg d : EReal)) ⟨e.val % 128, by omega⟩

/-- Key entry `e` of token `t`. -/
def gk (t : Fin 16384) (e : Fin 512) : EReal :=
  rk (fun d => aZ m c (ix2 t ⟨2048 + e.val / 128 * 128 + d.val, by omega⟩)) (fun d => aK m c (ix2 0 d)) (fun d => aC m c (ix2 (tokOf t).2 d))
    (fun d => (aS m c (ix2 (tokOf t).2 d) * sg d : EReal)) ⟨e.val % 128, by omega⟩

/-- The queries. -/
def G6 : S16384x2048.Idx → Elt Ideal .bf16 := fun i => (gq m c (i 0) (i 1) : EReal)
/-- The keys. -/
def G7 : S16384x512.Idx → Elt Ideal .bf16 := fun i => (gk m c (i 0) (i 1) : EReal)
/-- The values. -/
def G8 : S16384x512.Idx → Elt Ideal .bf16 := fun i => (aZ m c (ix2 (i 0) ⟨2560 + (i 1).val, by have : (i 1).val < 512 := (i 1).isLt; omega⟩) : EReal)

theorem final6 : (dats m 0 c).arrAt 6 (cfgs 0).N = G6 m c := by
  refine (dats m 0 c).arrAt_eq_of_covers 6 _ (by decide +kernel) fun t hf y => ?_
  blk_simp
  rw [after0_6]
  obtain ⟨a, e, rfl⟩ : ∃ a e, y = (ix2 a e : S256x2048.Idx) := ⟨y 0, y 1, by funext i; fin_cases i <;> rfl⟩
  refine (q_at m c t a e).trans ((rk_congr (fun d => X0_at m c t a _) (fun d => iblk4_at m c t 0 d) (fun d => iblk2_at m c t a d) (fun d => iblk3_at m c t a d) rfl).trans ?_)
  have he : ((cfg0.win 6).blk t).view.emb (ix2 a e) = ix2 (tok t a) e := by
    unfold tok
    blk_ext [(idx t).2.2.2.2.2.2.1]
  exact (congrArg (G6 m c) he).symm

theorem final7 : (dats m 0 c).arrAt 7 (cfgs 0).N = G7 m c := by
  refine (dats m 0 c).arrAt_eq_of_covers 7 _ (by decide +kernel) fun t hf y => ?_
  blk_simp
  rw [after0_7]
  obtain ⟨a, e, rfl⟩ : ∃ a e, y = (ix2 a e : S256x512.Idx) := ⟨y 0, y 1, by funext i; fin_cases i <;> rfl⟩
  refine (k_at m c t a e).trans ((rk_congr (fun d => X0_at m c t a _) (fun d => iblk5_at m c t 0 d) (fun d => iblk2_at m c t a d) (fun d => iblk3_at m c t a d) rfl).trans ?_)
  have he : ((cfg0.win 7).blk t).view.emb (ix2 a e) = ix2 (tok t a) e := by
    unfold tok
    blk_ext [(idx t).2.2.2.2.2.2.2.1]
  exact (congrArg (G7 m c) he).symm

theorem final8 : (dats m 0 c).arrAt 8 (cfgs 0).N = G8 m c := by
  refine (dats m 0 c).arrAt_eq_of_covers 8 _ (by decide +kernel) fun t hf y => ?_
  blk_simp
  rw [after0_8]
  obtain ⟨a, e, rfl⟩ : ∃ a e, y = (ix2 a e : S256x512.Idx) := ⟨y 0, y 1, by funext i; fin_cases i <;> rfl⟩
  refine (v_at m c t a e).trans ?_
  have he : ((cfg0.win 8).blk t).view.emb (ix2 a e) = ix2 (tok t a) e := by
    unfold tok
    blk_ext [(idx t).2.2.2.2.2.2.2.2]
  exact (congrArg (G8 m c) he).symm

end Cert.Kernel4Ideal.Hand

namespace Cert.Reference4Ideal.Hand

open Cert.Reference4Ideal Cert.Reference4Ideal.Gen
open Idealize.ShloMosaic Idealize.ShloMosaic.TcCoe Idealize.ShloMosaic.Tactic
open Idealize.SL.Sem
open Cert.Hand (tokOf)
open Cert.Kernel4Ideal.Hand (nh sg rk)

theorem one_word : Ideal.ofBits FTy.f32 1065353216#32 = (1 : EReal) := by
  simp [Ideal.ofBits, Ideal.ieee, -EReal.coe_mul]; norm_num

theorem neg_word : Ideal.ofBits FTy.f32 3212836864#32 = (-1 : EReal) := by
  simp [Ideal.ofBits, Ideal.ieee, -EReal.coe_mul]; norm_num

/-- The reference's halves, one negated, are the call's with the signed sines. -/
theorem rot (u co si : Fin 128 → EReal) (d : Fin 128) :
    u d * co d + (if h : d.val < 32 then -u ⟨32 + d.val, by omega⟩ else if h : d.val - 32 < 32 then u ⟨d.val - 32, by omega⟩
      else if h : d.val - 32 - 32 < 32 then -u ⟨96 + (d.val - 32 - 32), by omega⟩ else u ⟨64 + (d.val - 32 - 32 - 32), by omega⟩) * si d =
    u d * co d + (if d.val % 64 < 32 then u ⟨(d.val + 32) % 128, by omega⟩ else u ⟨(d.val + 96) % 128, by omega⟩) * (si d * sg d) := by
  refine congrArg (fun v : EReal => u d * co d + v) ?_
  unfold sg
  by_cases hd : d.val % 64 < 32
  · rw [if_pos hd, if_pos hd, neg_word, mul_neg, mul_one, mul_neg, ← neg_mul]
    refine congrArg (fun v : EReal => v * si d) ?_
    by_cases h1 : d.val < 32
    · rw [dif_pos h1]
      exact congrArg (fun i => -u i) (Fin.ext (by show 32 + d.val = (d.val + 32) % 128; omega))
    · rw [dif_neg h1, dif_neg (by omega), dif_pos (by omega)]
      exact congrArg (fun i => -u i) (Fin.ext (by show 96 + (d.val - 32 - 32) = (d.val + 32) % 128; omega))
  · rw [if_neg hd, if_neg hd, one_word, mul_one]
    refine congrArg (fun v : EReal => v * si d) ?_
    by_cases h1 : d.val - 32 < 32
    · rw [dif_neg (by omega), dif_pos h1]
      exact congrArg u (Fin.ext (by show d.val - 32 = (d.val + 96) % 128; omega))
    · rw [dif_neg (by omega), dif_neg h1, dif_neg (by omega)]
      exact congrArg u (Fin.ext (by show 64 + (d.val - 32 - 32 - 32) = (d.val + 96) % 128; omega))

/-- The normed heads of the reference. -/
def rNQ (z : FVec Ideal S16384x7168 .f32) (g : FVec Ideal S1x128 .f32) : FVec Ideal S4x4096x16x128 .f32 :=
  mulf (mulf (shapeCast _ (extractStridedSlice S16384x2048 ![0, 0] z slices_S16384x7168_S16384x2048_0_0) shapeCasts_S16384x2048_S4x4096x16x128) (broadcastInDim S4x4096x16x128 ![0, 1, 2, 3] bcast_S4x4096x16x1_S4x4096x16x128_0_1_2_3 (Host.rsqrt (addf (Host.divf (broadcastInDim S4x4096x16x1 ![0, 1, 2] bcast_S4x4096x16_S4x4096x16x1_0_1_2 (Host.reduceAdd (mulf (shapeCast _ (extractStridedSlice S16384x2048 ![0, 0] z slices_S16384x7168_S16384x2048_0_0) shapeCasts_S16384x2048_S4x4096x16x128) (shapeCast _ (extractStridedSlice S16384x2048 ![0, 0] z slices_S16384x7168_S16384x2048_0_0) shapeCasts_S16384x2048_S4x4096x16x128)) (constant S_ .f32 0x00000000#32) reducesTo_S4x4096x16x128_S4x4096x16_d3 h_S_)) (broadcastInDim S4x4096x16x1 ![] bcast_S_S4x4096x16x1 (constant S_ .f32 0x43000000#32))) (broadcastInDim S4x4096x16x1 ![] bcast_S_S4x4096x16x1 (constant S_ .f32 0x358637BD#32)))))) (broadcastInDim S4x4096x16x128 ![0, 1, 2, 3] bcast_S1x1x1x128_S4x4096x16x128_0_1_2_3 (broadcastInDim S1x1x1x128 ![3] bcast_S128_S1x1x1x128_3 (shapeCast _ g shapeCasts_S1x128_S128)))

set_option maxRecDepth 8192 in
/-- The reference's heads normed and rotated, from the normed ones. -/
def rRQ (y : FVec Ideal S4x4096x16x128 .f32) (co si : FVec Ideal S4096x128 .f32) : FVec Ideal S16384x2048 .bf16 :=
  truncf .bf16 (shapeCast _ (addf (mulf y (broadcastInDim S4x4096x16x128 ![0, 1, 2, 3] bcast_S1x4096x1x128_S4x4096x16x128_0_1_2_3 (broadcastInDim S1x4096x1x128 ![1, 3] bcast_S4096x128_S1x4096x1x128_1_3 co))) (mulf ((concatenate S4x4096x16x128 3 [⟨S4x4096x16x32, ((Host.negf (extractStridedSlice S4x4096x16x32 ![0, 0, 0, 32] y slices_S4x4096x16x128_S4x4096x16x32_0_0_0_32)) : (⟨S4x4096x16x32, .f32⟩ : BufTy).Contents (Elt Ideal))⟩, ⟨S4x4096x16x32, ((extractStridedSlice S4x4096x16x32 ![0, 0, 0, 0] y slices_S4x4096x16x128_S4x4096x16x32_0_0_0_0) : (⟨S4x4096x16x32, .f32⟩ : BufTy).Contents (Elt Ideal))⟩, ⟨S4x4096x16x32, ((Host.negf (extractStridedSlice S4x4096x16x32 ![0, 0, 0, 96] y slices_S4x4096x16x128_S4x4096x16x32_0_0_0_96)) : (⟨S4x4096x16x32, .f32⟩ : BufTy).Contents (Elt Ideal))⟩, ⟨S4x4096x16x32, ((extractStridedSlice S4x4096x16x32 ![0, 0, 0, 64] y slices_S4x4096x16x128_S4x4096x16x32_0_0_0_64) : (⟨S4x4096x16x32, .f32⟩ : BufTy).Contents (Elt Ideal))⟩] concatenates_S4x4096x16x32_S4x4096x16x32_S4x4096x16x32_S4x4096x16x32_S4x4096x16x128_d3 : (⟨S4x4096x16x128, .f32⟩ : BufTy).Contents (Elt Ideal))) (broadcastInDim S4x4096x16x128 ![0, 1, 2, 3] bcast_S1x4096x1x128_S4x4096x16x128_0_1_2_3 (broadcastInDim S1x4096x1x128 ![1, 3] bcast_S4096x128_S1x4096x1x128_1_3 si)))) shapeCasts_S4x4096x16x128_S16384x2048) bitsLt_bf16_f32

theorem rNQ_at (z : FVec Ideal S16384x7168 .f32) (g : FVec Ideal S1x128 .f32) (b : Fin 4) (s : Fin 4096) (h : Fin 16) (d : Fin 128) :
    rNQ z g (ix4 b s h d) = (Cert.Kernel4Ideal.Hand.nh (fun k => z (ix2 ⟨b.val * 4096 + s.val, by omega⟩ ⟨h.val * 128 + k.val, by omega⟩)) (fun k => g (ix2 0 k)) d : EReal) := by
  pointwise [rNQ]
  rfl

theorem rRQ_at (y : FVec Ideal S4x4096x16x128 .f32) (x g : Fin 128 → EReal) (co si : FVec Ideal S4096x128 .f32) (t : Fin 16384) (e : Fin 2048)
    (hy : ∀ d, (y (ix4 (tokOf t).1 (tokOf t).2 ⟨e.val / 128, by omega⟩ d) : EReal) = nh x g d) :
    rRQ y co si (ix2 t e) = (rk x g (fun d => co (ix2 (tokOf t).2 d)) (fun d => (si (ix2 (tokOf t).2 d) * sg d : EReal)) ⟨e.val % 128, by omega⟩ : EReal) := by
  pointwise [rRQ]
  refine (rot (fun d => y (ix4 (tokOf t).1 (tokOf t).2 ⟨e.val / 128, by omega⟩ d)) (fun d => co (ix2 (tokOf t).2 d)) (fun d => si (ix2 (tokOf t).2 d)) ⟨e.val % 128, by omega⟩).trans ?_
  unfold rk
  rw [hy, hy, hy]

/-- The normed heads of the reference. -/
def rNK (z : FVec Ideal S16384x7168 .f32) (g : FVec Ideal S1x128 .f32) : FVec Ideal S4x4096x4x128 .f32 :=
  mulf (mulf (shapeCast _ (extractStridedSlice S16384x512 ![0, 2048] z slices_S16384x7168_S16384x512_0_2048) shapeCasts_S16384x512_S4x4096x4x128) (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf (shapeCast _ (extractStridedSlice S16384x512 ![0, 2048] z slices_S16384x7168_S16384x512_0_2048) shapeCasts_S16384x512_S4x4096x4x128) (shapeCast _ (extractStridedSlice S16384x512 ![0, 2048] z slices_S16384x7168_S16384x512_0_2048) shapeCasts_S16384x512_S4x4096x4x128)) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 (shapeCast _ g shapeCasts_S1x128_S128)))

set_option maxRecDepth 8192 in
/-- The reference's heads normed and rotated, from the normed ones. -/
def rRK (y : FVec Ideal S4x4096x4x128 .f32) (co si : FVec Ideal S4096x128 .f32) : FVec Ideal S16384x512 .bf16 :=
  truncf .bf16 (shapeCast _ (addf (mulf y (broadcastInDim S4x4096x4x128 ![0, 1, 2, 3] bcast_S1x4096x1x128_S4x4096x4x128_0_1_2_3 (broadcastInDim S1x4096x1x128 ![1, 3] bcast_S4096x128_S1x4096x1x128_1_3 co))) (mulf ((concatenate S4x4096x4x128 3 [⟨S4x4096x4x32, ((Host.negf (extractStridedSlice S4x4096x4x32 ![0, 0, 0, 32] y slices_S4x4096x4x128_S4x4096x4x32_0_0_0_32)) : (⟨S4x4096x4x32, .f32⟩ : BufTy).Contents (Elt Ideal))⟩, ⟨S4x4096x4x32, ((extractStridedSlice S4x4096x4x32 ![0, 0, 0, 0] y slices_S4x4096x4x128_S4x4096x4x32_0_0_0_0) : (⟨S4x4096x4x32, .f32⟩ : BufTy).Contents (Elt Ideal))⟩, ⟨S4x4096x4x32, ((Host.negf (extractStridedSlice S4x4096x4x32 ![0, 0, 0, 96] y slices_S4x4096x4x128_S4x4096x4x32_0_0_0_96)) : (⟨S4x4096x4x32, .f32⟩ : BufTy).Contents (Elt Ideal))⟩, ⟨S4x4096x4x32, ((extractStridedSlice S4x4096x4x32 ![0, 0, 0, 64] y slices_S4x4096x4x128_S4x4096x4x32_0_0_0_64) : (⟨S4x4096x4x32, .f32⟩ : BufTy).Contents (Elt Ideal))⟩] concatenates_S4x4096x4x32_S4x4096x4x32_S4x4096x4x32_S4x4096x4x32_S4x4096x4x128_d3 : (⟨S4x4096x4x128, .f32⟩ : BufTy).Contents (Elt Ideal))) (broadcastInDim S4x4096x4x128 ![0, 1, 2, 3] bcast_S1x4096x1x128_S4x4096x4x128_0_1_2_3 (broadcastInDim S1x4096x1x128 ![1, 3] bcast_S4096x128_S1x4096x1x128_1_3 si)))) shapeCasts_S4x4096x4x128_S16384x512) bitsLt_bf16_f32

theorem rNK_at (z : FVec Ideal S16384x7168 .f32) (g : FVec Ideal S1x128 .f32) (b : Fin 4) (s : Fin 4096) (h : Fin 4) (d : Fin 128) :
    rNK z g (ix4 b s h d) = (Cert.Kernel4Ideal.Hand.nh (fun k => z (ix2 ⟨b.val * 4096 + s.val, by omega⟩ ⟨2048 + (h.val * 128 + k.val), by omega⟩)) (fun k => g (ix2 0 k)) d : EReal) := by
  pointwise [rNK]
  rfl

theorem rRK_at (y : FVec Ideal S4x4096x4x128 .f32) (x g : Fin 128 → EReal) (co si : FVec Ideal S4096x128 .f32) (t : Fin 16384) (e : Fin 512)
    (hy : ∀ d, (y (ix4 (tokOf t).1 (tokOf t).2 ⟨e.val / 128, by omega⟩ d) : EReal) = nh x g d) :
    rRK y co si (ix2 t e) = (rk x g (fun d => co (ix2 (tokOf t).2 d)) (fun d => (si (ix2 (tokOf t).2 d) * sg d : EReal)) ⟨e.val % 128, by omega⟩ : EReal) := by
  pointwise [rRK]
  refine (rot (fun d => y (ix4 (tokOf t).1 (tokOf t).2 ⟨e.val / 128, by omega⟩ d)) (fun d => co (ix2 (tokOf t).2 d)) (fun d => si (ix2 (tokOf t).2 d)) ⟨e.val % 128, by omega⟩).trans ?_
  unfold rk
  rw [hy, hy, hy]

end Cert.Reference4Ideal.Hand

namespace Cert.Kernel4Ideal.Hand

open Cert.Kernel4Ideal Cert.Kernel4Ideal.Gen
open Idealize.ShloMosaic Idealize.ShloMosaic.TcCoe Idealize.ShloMosaic.Tactic
open Idealize.SL.Sem
open Cert.Hand (tokOf)
open Cert.Reference4Ideal.Hand (rNQ rNK rRQ rRK rNQ_at rNK_at rRQ_at rRK_at)

variable (m : (ℓ : Loc nD τ sig) → Buf (Elt Ideal) ℓ) (c : Dev nD)

theorem refQ : rRQ (rNQ (aZ m c) (aQ m c)) (aC m c) (aS m c) = G6 m c := by
  funext i
  obtain ⟨t, e, rfl⟩ : ∃ t e, i = (ix2 t e : S16384x2048.Idx) := ⟨i 0, i 1, by funext i; fin_cases i <;> rfl⟩
  refine (rRQ_at _ (fun d => aZ m c (ix2 t ⟨e.val / 128 * 128 + d.val, by omega⟩)) (fun d => aQ m c (ix2 0 d)) _ _ t e fun d => ?_).trans rfl
  refine (rNQ_at _ _ _ _ _ _).trans ?_
  have ht : (⟨(tokOf t).1.val * 4096 + (tokOf t).2.val, by omega⟩ : Fin 16384) = t := Fin.ext (by show t.val / 4096 * 4096 + t.val % 4096 = t.val; omega)
  rw [ht]

theorem refK : rRK (rNK (aZ m c) (aK m c)) (aC m c) (aS m c) = G7 m c := by
  funext i
  obtain ⟨t, e, rfl⟩ : ∃ t e, i = (ix2 t e : S16384x512.Idx) := ⟨i 0, i 1, by funext i; fin_cases i <;> rfl⟩
  refine (rRK_at _ (fun d => aZ m c (ix2 t ⟨2048 + e.val / 128 * 128 + d.val, by omega⟩)) (fun d => aK m c (ix2 0 d)) _ _ t e fun d => ?_).trans rfl
  refine (rNK_at _ _ _ _ _ _).trans ?_
  have ht : (⟨(tokOf t).1.val * 4096 + (tokOf t).2.val, by omega⟩ : Fin 16384) = t := Fin.ext (by show t.val / 4096 * 4096 + t.val % 4096 = t.val; omega)
  rw [ht]
  refine congrArg (fun x => nh x _ d) (funext fun k => congrArg (fun j => aZ m c (ix2 t j)) (Fin.ext ?_))
  exact (Nat.add_assoc _ _ _).symm

theorem refV : truncf .bf16 (extractStridedSlice Cert.Reference4Ideal.S16384x512 ![0, 2560] (aZ m c) Cert.Reference4Ideal.Gen.slices_S16384x7168_S16384x512_0_2560) Cert.Reference4Ideal.Gen.bitsLt_bf16_f32 = G8 m c := by
  funext i
  obtain ⟨t, e, rfl⟩ : ∃ t e, i = (ix2 t e : S16384x512.Idx) := ⟨i 0, i 1, by funext i; fin_cases i <;> rfl⟩
  pointwise [G8]

set_option maxHeartbeats 4000000 in
/-- The queries, keys and values are the reference's. -/
theorem algebraic : Cert.algebraic_Kernel4Ideal_Reference4Ideal (hKernel4Ideal := Cert.Kernel4Ideal.Gen.facts)
    (hReference4Ideal := Cert.Reference4Ideal.Gen.facts) := by
  intro m g m' g' _ ha
  refine ⟨fun c => G6 m c, fun c => G7 m c, fun c => G8 m c, ?_, ?_⟩
  · refine (θ_run _ _ _).mono ?_ (θ_run_and (run_main m g) (frame m g))
    rintro r ⟨hr, hf⟩ c
    exact ⟨(hr.out_eq c 6).trans (final6 m c), (hr.out_eq c 7).trans (final7 m c), (hr.out_eq c 8).trans (final8 m c), hf.1 c⟩
  · refine (θ_run _ _ _).mono ?_ (Cert.Reference4Ideal.Value.run (F := Ideal) m' g')
    intro r hr c
    obtain ⟨a0, a1, a2, a3, a4⟩ := ha c
    obtain ⟨r0, r1, r2, rest⟩ := hr c
    refine ⟨r0.trans ?_, r1.trans ?_, r2.trans ?_, rest⟩
    · refine Eq.trans ?_ (refQ m c)
      unfold Cert.Reference4Ideal.Value.res_main_v62
      rw [a0, a1, a2, a3]
      rfl
    · refine Eq.trans ?_ (refK m c)
      unfold Cert.Reference4Ideal.Value.res_main_v64
      rw [a0, a1, a2, a4]
      rfl
    · refine Eq.trans ?_ (refV m c)
      rw [a0]

end Cert.Kernel4Ideal.Hand

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Algebraic
public import proofs.«01_k».proof.Proof.Run
public import proofs.«01_k».proof.Proof.InProj
public import proofs.«01_k».proof.Proof.OutProj
public import proofs.«01_k».proof.Proof.QkPrep
public import Idealize.ShloMosaic.Lib.Quiescent

@[expose] public section

noncomputable section

namespace Cert.Proof

open Idealize.ShloMosaic Idealize.SL.Sem

/-- The idealized program, at the ideal instance. -/
theorem frame_KernelIdeal : Cert.quiescent_KernelIdeal := fun m ρ _ => Cert.KernelIdeal.Hand.frame_run (F := Ideal) m ρ

/-- The two body tables are one: the kernel's text is the same. -/
theorem defs₀_eq : (Cert.Kernel.defs₀ (F:=Bits)) = (Cert.KernelIdeal.defs₀ (F:=Bits)) := by
  unfold Cert.Kernel.defs₀ Cert.KernelIdeal.defs₀
  refine congrArg Defs.onTc ?_
  funext l ts
  match l, ts with
  | 0, (t, s) =>
    dsimp only
    rfl
  | ⟨_ + 1, h⟩, _ => exact absurd h (Nat.not_lt.2 (Nat.le_add_left _ _))

/-- And so the two programs' tables. -/
theorem defs_eq : (Cert.Kernel.defs (F:=Bits)) = (Cert.KernelIdeal.defs (F:=Bits)) :=
  congrArg (Pipeline.defs (Cert.KernelIdeal.pcfgs (F := Bits))) defs₀_eq

/-- The program as printed: the same text, read at the bits. -/
theorem frame_Kernel : Cert.quiescent_Kernel := fun m ρ _ => by
  rw [defs_eq]
  exact Cert.KernelIdeal.Hand.frame_run (F := Bits) m ρ

/-- The reference has no launch: its generated run already says it. -/
theorem frame_ReferenceIdeal : Cert.quiescent_ReferenceIdeal := fun m ρ _ => (θ_run Cert.ReferenceIdeal.defs _ _).mono
  (fun _ h => ⟨fun c => (h c).2.2.2.2.2, sem_eq_zero_of_no_sems rfl _⟩)
  (Cert.ReferenceIdeal.Value.run (F := Ideal) m ρ)

/-- The input projection as printed. -/
theorem frame_Kernel2 : Cert.quiescent_Kernel2 := fun m ρ _ => Cert.Kernel2.Gen.frame (F := Bits) m ρ

/-- The input projection at the ideal instance. -/
theorem frame_Kernel2Ideal : Cert.quiescent_Kernel2Ideal := fun m ρ _ => Cert.Kernel2Ideal.Gen.frame (F := Ideal) m ρ

/-- Its reference. -/
theorem frame_Reference2Ideal : Cert.quiescent_Reference2Ideal := fun m ρ _ => (θ_run Cert.Reference2Ideal.defs _ _).mono
  (fun _ h => ⟨fun c => (h c).2, sem_eq_zero_of_no_sems rfl _⟩)
  (Cert.Reference2Ideal.Value.run (F := Ideal) m ρ)

/-- The output projection as printed. -/
theorem frame_Kernel3 : Cert.quiescent_Kernel3 := fun m ρ _ => Cert.Kernel3.Gen.frame (F := Bits) m ρ

/-- The output projection at the ideal instance. -/
theorem frame_Kernel3Ideal : Cert.quiescent_Kernel3Ideal := fun m ρ _ => Cert.Kernel3Ideal.Gen.frame (F := Ideal) m ρ

/-- Its reference. -/
theorem frame_Reference3Ideal : Cert.quiescent_Reference3Ideal := fun m ρ _ => (θ_run Cert.Reference3Ideal.defs _ _).mono
  (fun _ h => ⟨fun c => (h c).2, sem_eq_zero_of_no_sems rfl _⟩)
  (Cert.Reference3Ideal.Value.run (F := Ideal) m ρ)

/-- The norms and the rotation as printed. -/
theorem frame_Kernel4 : Cert.quiescent_Kernel4 := fun m ρ _ => Cert.Kernel4.Gen.frame (F := Bits) m ρ

/-- The norms and the rotation at the ideal instance. -/
theorem frame_Kernel4Ideal : Cert.quiescent_Kernel4Ideal := fun m ρ _ => Cert.Kernel4Ideal.Gen.frame (F := Ideal) m ρ

/-- Their reference. -/
theorem frame_Reference4Ideal : Cert.quiescent_Reference4Ideal := fun m ρ _ => (θ_run Cert.Reference4Ideal.defs _ _).mono
  (fun _ h => ⟨fun c => (h c).2.2.2, sem_eq_zero_of_no_sems rfl _⟩)
  (Cert.Reference4Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.KernelIdeal.Hand.preFacts,
  frame_Kernel, frame_KernelIdeal, fun m ρ _ => frame_KernelIdeal m ρ trivial, frame_ReferenceIdeal,
  fun m ρ _ => frame_ReferenceIdeal m ρ trivial,
  frame_Kernel2, frame_Kernel2Ideal, frame_Reference2Ideal, frame_Kernel3, frame_Kernel3Ideal, frame_Reference3Ideal,
  frame_Kernel4, frame_Kernel4Ideal, frame_Reference4Ideal,
  trivial, Cert.KernelIdeal.Hand.algebraic, trivial, Cert.Kernel2Ideal.Hand.algebraic, trivial, Cert.Kernel3Ideal.Hand.algebraic,
  trivial, Cert.Kernel4Ideal.Hand.algebraic⟩

end Cert.Proof

end
